-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.2.2.2 = (fun _ => 1#1)

def Pre_Gff (m : (ℓ : Loc Cert.Gff.nD Cert.Gff.τ Cert.Gff.sig) → Buf (Elt Bits) ℓ) : Prop :=
  True

def Pre_GffIdeal (m : (ℓ : Loc Cert.GffIdeal.nD Cert.GffIdeal.τ Cert.GffIdeal.sig) → Buf (Elt Ideal) ℓ) : Prop :=
  True

def Pre_GffRefIdeal (m : (ℓ : Loc Cert.GffRefIdeal.nD Cert.GffRefIdeal.τ Cert.GffRefIdeal.sig) → Buf (Elt Ideal) ℓ) : Prop :=
  True

def Pre_Gout (m : (ℓ : Loc Cert.Gout.nD Cert.Gout.τ Cert.Gout.sig) → Buf (Elt Bits) ℓ) : Prop :=
  True

def Pre_GoutIdeal (m : (ℓ : Loc Cert.GoutIdeal.nD Cert.GoutIdeal.τ Cert.GoutIdeal.sig) → Buf (Elt Ideal) ℓ) : Prop :=
  True

def Pre_GoutRefIdeal (m : (ℓ : Loc Cert.GoutRefIdeal.nD Cert.GoutRefIdeal.τ Cert.GoutRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Gin (m : (ℓ : Loc Cert.Gin.nD Cert.Gin.τ Cert.Gin.sig) → Buf (Elt Bits) ℓ) : Prop :=
  True

def Pre_GinIdeal (m : (ℓ : Loc Cert.GinIdeal.nD Cert.GinIdeal.τ Cert.GinIdeal.sig) → Buf (Elt Ideal) ℓ) : Prop :=
  True

def Pre_GinRefIdeal (m : (ℓ : Loc Cert.GinRefIdeal.nD Cert.GinRefIdeal.τ Cert.GinRefIdeal.sig) → Buf (Elt Ideal) ℓ) : Prop :=
  True

def Pre_Adf (m : (ℓ : Loc Cert.Adf.nD Cert.Adf.τ Cert.Adf.sig) → Buf (Elt Bits) ℓ) : Prop :=
  True

def Pre_AdfIdeal (m : (ℓ : Loc Cert.AdfIdeal.nD Cert.AdfIdeal.τ Cert.AdfIdeal.sig) → Buf (Elt Ideal) ℓ) : Prop :=
  True

def Pre_AdfRefIdeal (m : (ℓ : Loc Cert.AdfRefIdeal.nD Cert.AdfRefIdeal.τ Cert.AdfRefIdeal.sig) → Buf (Elt Ideal) ℓ) : Prop :=
  True

def Pre_Adc (m : (ℓ : Loc Cert.Adc.nD Cert.Adc.τ Cert.Adc.sig) → Buf (Elt Bits) ℓ) : Prop :=
  True

def Pre_AdcIdeal (m : (ℓ : Loc Cert.AdcIdeal.nD Cert.AdcIdeal.τ Cert.AdcIdeal.sig) → Buf (Elt Ideal) ℓ) : Prop :=
  True

def Pre_AdcRefIdeal (m : (ℓ : Loc Cert.AdcRefIdeal.nD Cert.AdcRefIdeal.τ Cert.AdcRefIdeal.sig) → Buf (Elt Ideal) ℓ) : Prop :=
  True

def Pre_Adi (m : (ℓ : Loc Cert.Adi.nD Cert.Adi.τ Cert.Adi.sig) → Buf (Elt Bits) ℓ) : Prop :=
  True

def Pre_AdiIdeal (m : (ℓ : Loc Cert.AdiIdeal.nD Cert.AdiIdeal.τ Cert.AdiIdeal.sig) → Buf (Elt Ideal) ℓ) : Prop :=
  True

def Pre_AdiRefIdeal (m : (ℓ : Loc Cert.AdiRefIdeal.nD Cert.AdiRefIdeal.τ Cert.AdiRefIdeal.sig) → Buf (Elt Ideal) ℓ) : Prop :=
  True

def Pre_Ado (m : (ℓ : Loc Cert.Ado.nD Cert.Ado.τ Cert.Ado.sig) → Buf (Elt Bits) ℓ) : Prop :=
  True

def Pre_AdoIdeal (m : (ℓ : Loc Cert.AdoIdeal.nD Cert.AdoIdeal.τ Cert.AdoIdeal.sig) → Buf (Elt Ideal) ℓ) : Prop :=
  True

def Pre_AdoRefIdeal (m : (ℓ : Loc Cert.AdoRefIdeal.nD Cert.AdoRefIdeal.τ Cert.AdoRefIdeal.sig) → Buf (Elt Ideal) ℓ) : Prop :=
  True

def Pre_Cond (m : (ℓ : Loc Cert.Cond.nD Cert.Cond.τ Cert.Cond.sig) → Buf (Elt Bits) ℓ) : Prop :=
  True

def Pre_CondIdeal (m : (ℓ : Loc Cert.CondIdeal.nD Cert.CondIdeal.τ Cert.CondIdeal.sig) → Buf (Elt Ideal) ℓ) : Prop :=
  True

def Pre_CondIdeal_cond_finite [hPre_cond_finite : Cert.Pre_cond_finite.Facts] (m : (ℓ : Loc Cert.CondIdeal.nD Cert.CondIdeal.τ Cert.CondIdeal.sig) → Buf (Elt Ideal) ℓ) : Prop :=
  ∀ c : Dev Cert.CondIdeal.nD,
    (Cert.Pre_cond_finite.fn (F := Ideal) (m ((c.tc : Thread Cert.CondIdeal.nD Cert.CondIdeal.τ).loc Cert.CondIdeal.main_arg0)) (m ((c.tc : Thread Cert.CondIdeal.nD Cert.CondIdeal.τ).loc Cert.CondIdeal.main_arg1))).1 = (fun _ => 1#1)
    ∧ (Cert.Pre_cond_finite.fn (F := Ideal) (m ((c.tc : Thread Cert.CondIdeal.nD Cert.CondIdeal.τ).loc Cert.CondIdeal.main_arg0)) (m ((c.tc : Thread Cert.CondIdeal.nD Cert.CondIdeal.τ).loc Cert.CondIdeal.main_arg1))).2 = (fun _ => 1#1)

def Pre_CondRefIdeal (m : (ℓ : Loc Cert.CondRefIdeal.nD Cert.CondRefIdeal.τ Cert.CondRefIdeal.sig) → Buf (Elt Ideal) ℓ) : Prop :=
  True

def Pre_CondRefIdeal_cond_finite [hPre_cond_finite : Cert.Pre_cond_finite.Facts] (m : (ℓ : Loc Cert.CondRefIdeal.nD Cert.CondRefIdeal.τ Cert.CondRefIdeal.sig) → Buf (Elt Ideal) ℓ) : Prop :=
  ∀ c : Dev Cert.CondRefIdeal.nD,
    (Cert.Pre_cond_finite.fn (F := Ideal) (m ((c.tc : Thread Cert.CondRefIdeal.nD Cert.CondRefIdeal.τ).loc Cert.CondRefIdeal.main_arg0)) (m ((c.tc : Thread Cert.CondRefIdeal.nD Cert.CondRefIdeal.τ).loc Cert.CondRefIdeal.main_arg1))).1 = (fun _ => 1#1)
    ∧ (Cert.Pre_cond_finite.fn (F := Ideal) (m ((c.tc : Thread Cert.CondRefIdeal.nD Cert.CondRefIdeal.τ).loc Cert.CondRefIdeal.main_arg0)) (m ((c.tc : Thread Cert.CondRefIdeal.nD Cert.CondRefIdeal.τ).loc Cert.CondRefIdeal.main_arg1))).2 = (fun _ => 1#1)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6)
      ∧ r.2.mem ((c.tc : Thread Cert.Inp.nD Cert.Inp.τ).loc Cert.Inp.main_arg7) = m ((c.tc : Thread Cert.Inp.nD Cert.Inp.τ).loc Cert.Inp.main_arg7)
      ∧ r.2.mem ((c.tc : Thread Cert.Inp.nD Cert.Inp.τ).loc Cert.Inp.main_arg8) = m ((c.tc : Thread Cert.Inp.nD Cert.Inp.τ).loc Cert.Inp.main_arg8))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
      ∧ r.2.mem ((c.tc : Thread Cert.InpIdeal.nD Cert.InpIdeal.τ).loc Cert.InpIdeal.main_arg7) = m ((c.tc : Thread Cert.InpIdeal.nD Cert.InpIdeal.τ).loc Cert.InpIdeal.main_arg7)
      ∧ r.2.mem ((c.tc : Thread Cert.InpIdeal.nD Cert.InpIdeal.τ).loc Cert.InpIdeal.main_arg8) = m ((c.tc : Thread Cert.InpIdeal.nD Cert.InpIdeal.τ).loc Cert.InpIdeal.main_arg8))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6)
      ∧ r.2.mem ((c.tc : Thread Cert.InpRefIdeal.nD Cert.InpRefIdeal.τ).loc Cert.InpRefIdeal.main_arg7) = m ((c.tc : Thread Cert.InpRefIdeal.nD Cert.InpRefIdeal.τ).loc Cert.InpRefIdeal.main_arg7)
      ∧ r.2.mem ((c.tc : Thread Cert.InpRefIdeal.nD Cert.InpRefIdeal.τ).loc Cert.InpRefIdeal.main_arg8) = m ((c.tc : Thread Cert.InpRefIdeal.nD Cert.InpRefIdeal.τ).loc Cert.InpRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_Gff [hGff : Cert.Gff.Facts] : Prop :=
  ∀ (m : (ℓ : Loc Cert.Gff.nD Cert.Gff.τ Cert.Gff.sig) → Buf (Elt Bits) ℓ) (g : Dev Cert.Gff.nD → PrngReg), Pre_Gff m →
    θ_run (Cert.Gff.defs (F := Bits)) (onTc (τ := Cert.Gff.τ) (Cert.Gff.main (F := Bits))) ⟨m, fun _ => 0, g⟩ (fun r => (∀ c : Dev Cert.Gff.nD,
      r.2.mem ((c.tc : Thread Cert.Gff.nD Cert.Gff.τ).loc Cert.Gff.main_arg0) = m ((c.tc : Thread Cert.Gff.nD Cert.Gff.τ).loc Cert.Gff.main_arg0)
      ∧ r.2.mem ((c.tc : Thread Cert.Gff.nD Cert.Gff.τ).loc Cert.Gff.main_arg1) = m ((c.tc : Thread Cert.Gff.nD Cert.Gff.τ).loc Cert.Gff.main_arg1))
      ∧ r.2.sem = fun _ => 0)

def quiescent_GffIdeal [hGffIdeal : Cert.GffIdeal.Facts] : Prop :=
  ∀ (m : (ℓ : Loc Cert.GffIdeal.nD Cert.GffIdeal.τ Cert.GffIdeal.sig) → Buf (Elt Ideal) ℓ) (g : Dev Cert.GffIdeal.nD → PrngReg), Pre_GffIdeal m →
    θ_run (Cert.GffIdeal.defs (F := Ideal)) (onTc (τ := Cert.GffIdeal.τ) (Cert.GffIdeal.main (F := Ideal))) ⟨m, fun _ => 0, g⟩ (fun r => (∀ c : Dev Cert.GffIdeal.nD,
      r.2.mem ((c.tc : Thread Cert.GffIdeal.nD Cert.GffIdeal.τ).loc Cert.GffIdeal.main_arg0) = m ((c.tc : Thread Cert.GffIdeal.nD Cert.GffIdeal.τ).loc Cert.GffIdeal.main_arg0)
      ∧ r.2.mem ((c.tc : Thread Cert.GffIdeal.nD Cert.GffIdeal.τ).loc Cert.GffIdeal.main_arg1) = m ((c.tc : Thread Cert.GffIdeal.nD Cert.GffIdeal.τ).loc Cert.GffIdeal.main_arg1))
      ∧ r.2.sem = fun _ => 0)

def quiescent_GffRefIdeal [hGffRefIdeal : Cert.GffRefIdeal.Facts] : Prop :=
  ∀ (m : (ℓ : Loc Cert.GffRefIdeal.nD Cert.GffRefIdeal.τ Cert.GffRefIdeal.sig) → Buf (Elt Ideal) ℓ) (g : Dev Cert.GffRefIdeal.nD → PrngReg), Pre_GffRefIdeal m →
    θ_run (Cert.GffRefIdeal.defs (F := Ideal)) (onTc (τ := Cert.GffRefIdeal.τ) (Cert.GffRefIdeal.main (F := Ideal))) ⟨m, fun _ => 0, g⟩ (fun r => (∀ c : Dev Cert.GffRefIdeal.nD,
      r.2.mem ((c.tc : Thread Cert.GffRefIdeal.nD Cert.GffRefIdeal.τ).loc Cert.GffRefIdeal.main_arg0) = m ((c.tc : Thread Cert.GffRefIdeal.nD Cert.GffRefIdeal.τ).loc Cert.GffRefIdeal.main_arg0)
      ∧ r.2.mem ((c.tc : Thread Cert.GffRefIdeal.nD Cert.GffRefIdeal.τ).loc Cert.GffRefIdeal.main_arg1) = m ((c.tc : Thread Cert.GffRefIdeal.nD Cert.GffRefIdeal.τ).loc Cert.GffRefIdeal.main_arg1))
      ∧ r.2.sem = fun _ => 0)

def quiescent_Gout [hGout : Cert.Gout.Facts] : Prop :=
  ∀ (m : (ℓ : Loc Cert.Gout.nD Cert.Gout.τ Cert.Gout.sig) → Buf (Elt Bits) ℓ) (g : Dev Cert.Gout.nD → PrngReg), Pre_Gout m →
    θ_run (Cert.Gout.defs (F := Bits)) (onTc (τ := Cert.Gout.τ) (Cert.Gout.main (F := Bits))) ⟨m, fun _ => 0, g⟩ (fun r => (∀ c : Dev Cert.Gout.nD,
      r.2.mem ((c.tc : Thread Cert.Gout.nD Cert.Gout.τ).loc Cert.Gout.main_arg0) = m ((c.tc : Thread Cert.Gout.nD Cert.Gout.τ).loc Cert.Gout.main_arg0)
      ∧ r.2.mem ((c.tc : Thread Cert.Gout.nD Cert.Gout.τ).loc Cert.Gout.main_arg1) = m ((c.tc : Thread Cert.Gout.nD Cert.Gout.τ).loc Cert.Gout.main_arg1))
      ∧ r.2.sem = fun _ => 0)

def quiescent_GoutIdeal [hGoutIdeal : Cert.GoutIdeal.Facts] : Prop :=
  ∀ (m : (ℓ : Loc Cert.GoutIdeal.nD Cert.GoutIdeal.τ Cert.GoutIdeal.sig) → Buf (Elt Ideal) ℓ) (g : Dev Cert.GoutIdeal.nD → PrngReg), Pre_GoutIdeal m →
    θ_run (Cert.GoutIdeal.defs (F := Ideal)) (onTc (τ := Cert.GoutIdeal.τ) (Cert.GoutIdeal.main (F := Ideal))) ⟨m, fun _ => 0, g⟩ (fun r => (∀ c : Dev Cert.GoutIdeal.nD,
      r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
      ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ r.2.sem = fun _ => 0)

def quiescent_GoutRefIdeal [hGoutRefIdeal : Cert.GoutRefIdeal.Facts] : Prop :=
  ∀ (m : (ℓ : Loc Cert.GoutRefIdeal.nD Cert.GoutRefIdeal.τ Cert.GoutRefIdeal.sig) → Buf (Elt Ideal) ℓ) (g : Dev Cert.GoutRefIdeal.nD → PrngReg), Pre_GoutRefIdeal m →
    θ_run (Cert.GoutRefIdeal.defs (F := Ideal)) (onTc (τ := Cert.GoutRefIdeal.τ) (Cert.GoutRefIdeal.main (F := Ideal))) ⟨m, fun _ => 0, g⟩ (fun r => (∀ c : Dev Cert.GoutRefIdeal.nD,
      r.2.mem ((c.tc : Thread Cert.GoutRefIdeal.nD Cert.GoutRefIdeal.τ).loc Cert.GoutRefIdeal.main_arg0) = m ((c.tc : Thread Cert.GoutRefIdeal.nD Cert.GoutRefIdeal.τ).loc Cert.GoutRefIdeal.main_arg0)
      ∧ r.2.mem ((c.tc : Thread Cert.GoutRefIdeal.nD Cert.GoutRefIdeal.τ).loc Cert.GoutRefIdeal.main_arg1) = m ((c.tc : Thread Cert.GoutRefIdeal.nD Cert.GoutRefIdeal.τ).loc Cert.GoutRefIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7))
      ∧ r.2.sem = fun _ => 0)

def quiescent_Gin [hGin : Cert.Gin.Facts] : Prop :=
  ∀ (m : (ℓ : Loc Cert.Gin.nD Cert.Gin.τ Cert.Gin.sig) → Buf (Elt Bits) ℓ) (g : Dev Cert.Gin.nD → PrngReg), Pre_Gin m →
    θ_run (Cert.Gin.defs (F := Bits)) (onTc (τ := Cert.Gin.τ) (Cert.Gin.main (F := Bits))) ⟨m, fun _ => 0, g⟩ (fun r => (∀ c : Dev Cert.Gin.nD,
      r.2.mem ((c.tc : Thread Cert.Gin.nD Cert.Gin.τ).loc Cert.Gin.main_arg0) = m ((c.tc : Thread Cert.Gin.nD Cert.Gin.τ).loc Cert.Gin.main_arg0)
      ∧ r.2.mem ((c.tc : Thread Cert.Gin.nD Cert.Gin.τ).loc Cert.Gin.main_arg1) = m ((c.tc : Thread Cert.Gin.nD Cert.Gin.τ).loc Cert.Gin.main_arg1)
      ∧ r.2.mem ((c.tc : Thread Cert.Gin.nD Cert.Gin.τ).loc Cert.Gin.main_arg2) = m ((c.tc : Thread Cert.Gin.nD Cert.Gin.τ).loc Cert.Gin.main_arg2)
      ∧ r.2.mem ((c.tc : Thread Cert.Gin.nD Cert.Gin.τ).loc Cert.Gin.main_arg3) = m ((c.tc : Thread Cert.Gin.nD Cert.Gin.τ).loc Cert.Gin.main_arg3)
      ∧ r.2.mem ((c.tc : Thread Cert.Gin.nD Cert.Gin.τ).loc Cert.Gin.main_arg4) = m ((c.tc : Thread Cert.Gin.nD Cert.Gin.τ).loc Cert.Gin.main_arg4))
      ∧ r.2.sem = fun _ => 0)

def quiescent_GinIdeal [hGinIdeal : Cert.GinIdeal.Facts] : Prop :=
  ∀ (m : (ℓ : Loc Cert.GinIdeal.nD Cert.GinIdeal.τ Cert.GinIdeal.sig) → Buf (Elt Ideal) ℓ) (g : Dev Cert.GinIdeal.nD → PrngReg), Pre_GinIdeal m →
    θ_run (Cert.GinIdeal.defs (F := Ideal)) (onTc (τ := Cert.GinIdeal.τ) (Cert.GinIdeal.main (F := Ideal))) ⟨m, fun _ => 0, g⟩ (fun r => (∀ c : Dev Cert.GinIdeal.nD,
      r.2.mem ((c.tc : Thread Cert.GinIdeal.nD Cert.GinIdeal.τ).loc Cert.GinIdeal.main_arg0) = m ((c.tc : Thread Cert.GinIdeal.nD Cert.GinIdeal.τ).loc Cert.GinIdeal.main_arg0)
      ∧ r.2.mem ((c.tc : Thread Cert.GinIdeal.nD Cert.GinIdeal.τ).loc Cert.GinIdeal.main_arg1) = m ((c.tc : Thread Cert.GinIdeal.nD Cert.GinIdeal.τ).loc Cert.GinIdeal.main_arg1)
      ∧ r.2.mem ((c.tc : Thread Cert.GinIdeal.nD Cert.GinIdeal.τ).loc Cert.GinIdeal.main_arg2) = m ((c.tc : Thread Cert.GinIdeal.nD Cert.GinIdeal.τ).loc Cert.GinIdeal.main_arg2)
      ∧ r.2.mem ((c.tc : Thread Cert.GinIdeal.nD Cert.GinIdeal.τ).loc Cert.GinIdeal.main_arg3) = m ((c.tc : Thread Cert.GinIdeal.nD Cert.GinIdeal.τ).loc Cert.GinIdeal.main_arg3)
      ∧ r.2.mem ((c.tc : Thread Cert.GinIdeal.nD Cert.GinIdeal.τ).loc Cert.GinIdeal.main_arg4) = m ((c.tc : Thread Cert.GinIdeal.nD Cert.GinIdeal.τ).loc Cert.GinIdeal.main_arg4))
      ∧ r.2.sem = fun _ => 0)

def quiescent_GinRefIdeal [hGinRefIdeal : Cert.GinRefIdeal.Facts] : Prop :=
  ∀ (m : (ℓ : Loc Cert.GinRefIdeal.nD Cert.GinRefIdeal.τ Cert.GinRefIdeal.sig) → Buf (Elt Ideal) ℓ) (g : Dev Cert.GinRefIdeal.nD → PrngReg), Pre_GinRefIdeal m →
    θ_run (Cert.GinRefIdeal.defs (F := Ideal)) (onTc (τ := Cert.GinRefIdeal.τ) (Cert.GinRefIdeal.main (F := Ideal))) ⟨m, fun _ => 0, g⟩ (fun r => (∀ c : Dev Cert.GinRefIdeal.nD,
      r.2.mem ((c.tc : Thread Cert.GinRefIdeal.nD Cert.GinRefIdeal.τ).loc Cert.GinRefIdeal.main_arg0) = m ((c.tc : Thread Cert.GinRefIdeal.nD Cert.GinRefIdeal.τ).loc Cert.GinRefIdeal.main_arg0)
      ∧ r.2.mem ((c.tc : Thread Cert.GinRefIdeal.nD Cert.GinRefIdeal.τ).loc Cert.GinRefIdeal.main_arg1) = m ((c.tc : Thread Cert.GinRefIdeal.nD Cert.GinRefIdeal.τ).loc Cert.GinRefIdeal.main_arg1)
      ∧ r.2.mem ((c.tc : Thread Cert.GinRefIdeal.nD Cert.GinRefIdeal.τ).loc Cert.GinRefIdeal.main_arg2) = m ((c.tc : Thread Cert.GinRefIdeal.nD Cert.GinRefIdeal.τ).loc Cert.GinRefIdeal.main_arg2)
      ∧ r.2.mem ((c.tc : Thread Cert.GinRefIdeal.nD Cert.GinRefIdeal.τ).loc Cert.GinRefIdeal.main_arg3) = m ((c.tc : Thread Cert.GinRefIdeal.nD Cert.GinRefIdeal.τ).loc Cert.GinRefIdeal.main_arg3)
      ∧ r.2.mem ((c.tc : Thread Cert.GinRefIdeal.nD Cert.GinRefIdeal.τ).loc Cert.GinRefIdeal.main_arg4) = m ((c.tc : Thread Cert.GinRefIdeal.nD Cert.GinRefIdeal.τ).loc Cert.GinRefIdeal.main_arg4))
      ∧ r.2.sem = fun _ => 0)

def quiescent_Adf [hAdf : Cert.Adf.Facts] : Prop :=
  ∀ (m : (ℓ : Loc Cert.Adf.nD Cert.Adf.τ Cert.Adf.sig) → Buf (Elt Bits) ℓ) (g : Dev Cert.Adf.nD → PrngReg), Pre_Adf m →
    θ_run (Cert.Adf.defs (F := Bits)) (onTc (τ := Cert.Adf.τ) (Cert.Adf.main (F := Bits))) ⟨m, fun _ => 0, g⟩ (fun r => (∀ c : Dev Cert.Adf.nD,
      r.2.mem ((c.tc : Thread Cert.Adf.nD Cert.Adf.τ).loc Cert.Adf.main_arg0) = m ((c.tc : Thread Cert.Adf.nD Cert.Adf.τ).loc Cert.Adf.main_arg0)
      ∧ r.2.mem ((c.tc : Thread Cert.Adf.nD Cert.Adf.τ).loc Cert.Adf.main_arg1) = m ((c.tc : Thread Cert.Adf.nD Cert.Adf.τ).loc Cert.Adf.main_arg1)
      ∧ r.2.mem ((c.tc : Thread Cert.Adf.nD Cert.Adf.τ).loc Cert.Adf.main_arg2) = m ((c.tc : Thread Cert.Adf.nD Cert.Adf.τ).loc Cert.Adf.main_arg2)
      ∧ r.2.mem ((c.tc : Thread Cert.Adf.nD Cert.Adf.τ).loc Cert.Adf.main_arg3) = m ((c.tc : Thread Cert.Adf.nD Cert.Adf.τ).loc Cert.Adf.main_arg3))
      ∧ r.2.sem = fun _ => 0)

def quiescent_AdfIdeal [hAdfIdeal : Cert.AdfIdeal.Facts] : Prop :=
  ∀ (m : (ℓ : Loc Cert.AdfIdeal.nD Cert.AdfIdeal.τ Cert.AdfIdeal.sig) → Buf (Elt Ideal) ℓ) (g : Dev Cert.AdfIdeal.nD → PrngReg), Pre_AdfIdeal m →
    θ_run (Cert.AdfIdeal.defs (F := Ideal)) (onTc (τ := Cert.AdfIdeal.τ) (Cert.AdfIdeal.main (F := Ideal))) ⟨m, fun _ => 0, g⟩ (fun r => (∀ c : Dev Cert.AdfIdeal.nD,
      r.2.mem ((c.tc : Thread Cert.AdfIdeal.nD Cert.AdfIdeal.τ).loc Cert.AdfIdeal.main_arg0) = m ((c.tc : Thread Cert.AdfIdeal.nD Cert.AdfIdeal.τ).loc Cert.AdfIdeal.main_arg0)
      ∧ r.2.mem ((c.tc : Thread Cert.AdfIdeal.nD Cert.AdfIdeal.τ).loc Cert.AdfIdeal.main_arg1) = m ((c.tc : Thread Cert.AdfIdeal.nD Cert.AdfIdeal.τ).loc Cert.AdfIdeal.main_arg1)
      ∧ r.2.mem ((c.tc : Thread Cert.AdfIdeal.nD Cert.AdfIdeal.τ).loc Cert.AdfIdeal.main_arg2) = m ((c.tc : Thread Cert.AdfIdeal.nD Cert.AdfIdeal.τ).loc Cert.AdfIdeal.main_arg2)
      ∧ r.2.mem ((c.tc : Thread Cert.AdfIdeal.nD Cert.AdfIdeal.τ).loc Cert.AdfIdeal.main_arg3) = m ((c.tc : Thread Cert.AdfIdeal.nD Cert.AdfIdeal.τ).loc Cert.AdfIdeal.main_arg3))
      ∧ r.2.sem = fun _ => 0)

def quiescent_AdfRefIdeal [hAdfRefIdeal : Cert.AdfRefIdeal.Facts] : Prop :=
  ∀ (m : (ℓ : Loc Cert.AdfRefIdeal.nD Cert.AdfRefIdeal.τ Cert.AdfRefIdeal.sig) → Buf (Elt Ideal) ℓ) (g : Dev Cert.AdfRefIdeal.nD → PrngReg), Pre_AdfRefIdeal m →
    θ_run (Cert.AdfRefIdeal.defs (F := Ideal)) (onTc (τ := Cert.AdfRefIdeal.τ) (Cert.AdfRefIdeal.main (F := Ideal))) ⟨m, fun _ => 0, g⟩ (fun r => (∀ c : Dev Cert.AdfRefIdeal.nD,
      r.2.mem ((c.tc : Thread Cert.AdfRefIdeal.nD Cert.AdfRefIdeal.τ).loc Cert.AdfRefIdeal.main_arg0) = m ((c.tc : Thread Cert.AdfRefIdeal.nD Cert.AdfRefIdeal.τ).loc Cert.AdfRefIdeal.main_arg0)
      ∧ r.2.mem ((c.tc : Thread Cert.AdfRefIdeal.nD Cert.AdfRefIdeal.τ).loc Cert.AdfRefIdeal.main_arg1) = m ((c.tc : Thread Cert.AdfRefIdeal.nD Cert.AdfRefIdeal.τ).loc Cert.AdfRefIdeal.main_arg1)
      ∧ r.2.mem ((c.tc : Thread Cert.AdfRefIdeal.nD Cert.AdfRefIdeal.τ).loc Cert.AdfRefIdeal.main_arg2) = m ((c.tc : Thread Cert.AdfRefIdeal.nD Cert.AdfRefIdeal.τ).loc Cert.AdfRefIdeal.main_arg2)
      ∧ r.2.mem ((c.tc : Thread Cert.AdfRefIdeal.nD Cert.AdfRefIdeal.τ).loc Cert.AdfRefIdeal.main_arg3) = m ((c.tc : Thread Cert.AdfRefIdeal.nD Cert.AdfRefIdeal.τ).loc Cert.AdfRefIdeal.main_arg3))
      ∧ r.2.sem = fun _ => 0)

def quiescent_Adc [hAdc : Cert.Adc.Facts] : Prop :=
  ∀ (m : (ℓ : Loc Cert.Adc.nD Cert.Adc.τ Cert.Adc.sig) → Buf (Elt Bits) ℓ) (g : Dev Cert.Adc.nD → PrngReg), Pre_Adc m →
    θ_run (Cert.Adc.defs (F := Bits)) (onTc (τ := Cert.Adc.τ) (Cert.Adc.main (F := Bits))) ⟨m, fun _ => 0, g⟩ (fun r => (∀ c : Dev Cert.Adc.nD,
      r.2.mem ((c.tc : Thread Cert.Adc.nD Cert.Adc.τ).loc Cert.Adc.main_arg0) = m ((c.tc : Thread Cert.Adc.nD Cert.Adc.τ).loc Cert.Adc.main_arg0)
      ∧ r.2.mem ((c.tc : Thread Cert.Adc.nD Cert.Adc.τ).loc Cert.Adc.main_arg1) = m ((c.tc : Thread Cert.Adc.nD Cert.Adc.τ).loc Cert.Adc.main_arg1)
      ∧ r.2.mem ((c.tc : Thread Cert.Adc.nD Cert.Adc.τ).loc Cert.Adc.main_arg2) = m ((c.tc : Thread Cert.Adc.nD Cert.Adc.τ).loc Cert.Adc.main_arg2)
      ∧ r.2.mem ((c.tc : Thread Cert.Adc.nD Cert.Adc.τ).loc Cert.Adc.main_arg3) = m ((c.tc : Thread Cert.Adc.nD Cert.Adc.τ).loc Cert.Adc.main_arg3))
      ∧ r.2.sem = fun _ => 0)

def quiescent_AdcIdeal [hAdcIdeal : Cert.AdcIdeal.Facts] : Prop :=
  ∀ (m : (ℓ : Loc Cert.AdcIdeal.nD Cert.AdcIdeal.τ Cert.AdcIdeal.sig) → Buf (Elt Ideal) ℓ) (g : Dev Cert.AdcIdeal.nD → PrngReg), Pre_AdcIdeal m →
    θ_run (Cert.AdcIdeal.defs (F := Ideal)) (onTc (τ := Cert.AdcIdeal.τ) (Cert.AdcIdeal.main (F := Ideal))) ⟨m, fun _ => 0, g⟩ (fun r => (∀ c : Dev Cert.AdcIdeal.nD,
      r.2.mem ((c.tc : Thread Cert.AdcIdeal.nD Cert.AdcIdeal.τ).loc Cert.AdcIdeal.main_arg0) = m ((c.tc : Thread Cert.AdcIdeal.nD Cert.AdcIdeal.τ).loc Cert.AdcIdeal.main_arg0)
      ∧ r.2.mem ((c.tc : Thread Cert.AdcIdeal.nD Cert.AdcIdeal.τ).loc Cert.AdcIdeal.main_arg1) = m ((c.tc : Thread Cert.AdcIdeal.nD Cert.AdcIdeal.τ).loc Cert.AdcIdeal.main_arg1)
      ∧ r.2.mem ((c.tc : Thread Cert.AdcIdeal.nD Cert.AdcIdeal.τ).loc Cert.AdcIdeal.main_arg2) = m ((c.tc : Thread Cert.AdcIdeal.nD Cert.AdcIdeal.τ).loc Cert.AdcIdeal.main_arg2)
      ∧ r.2.mem ((c.tc : Thread Cert.AdcIdeal.nD Cert.AdcIdeal.τ).loc Cert.AdcIdeal.main_arg3) = m ((c.tc : Thread Cert.AdcIdeal.nD Cert.AdcIdeal.τ).loc Cert.AdcIdeal.main_arg3))
      ∧ r.2.sem = fun _ => 0)

def quiescent_AdcRefIdeal [hAdcRefIdeal : Cert.AdcRefIdeal.Facts] : Prop :=
  ∀ (m : (ℓ : Loc Cert.AdcRefIdeal.nD Cert.AdcRefIdeal.τ Cert.AdcRefIdeal.sig) → Buf (Elt Ideal) ℓ) (g : Dev Cert.AdcRefIdeal.nD → PrngReg), Pre_AdcRefIdeal m →
    θ_run (Cert.AdcRefIdeal.defs (F := Ideal)) (onTc (τ := Cert.AdcRefIdeal.τ) (Cert.AdcRefIdeal.main (F := Ideal))) ⟨m, fun _ => 0, g⟩ (fun r => (∀ c : Dev Cert.AdcRefIdeal.nD,
      r.2.mem ((c.tc : Thread Cert.AdcRefIdeal.nD Cert.AdcRefIdeal.τ).loc Cert.AdcRefIdeal.main_arg0) = m ((c.tc : Thread Cert.AdcRefIdeal.nD Cert.AdcRefIdeal.τ).loc Cert.AdcRefIdeal.main_arg0)
      ∧ r.2.mem ((c.tc : Thread Cert.AdcRefIdeal.nD Cert.AdcRefIdeal.τ).loc Cert.AdcRefIdeal.main_arg1) = m ((c.tc : Thread Cert.AdcRefIdeal.nD Cert.AdcRefIdeal.τ).loc Cert.AdcRefIdeal.main_arg1)
      ∧ r.2.mem ((c.tc : Thread Cert.AdcRefIdeal.nD Cert.AdcRefIdeal.τ).loc Cert.AdcRefIdeal.main_arg2) = m ((c.tc : Thread Cert.AdcRefIdeal.nD Cert.AdcRefIdeal.τ).loc Cert.AdcRefIdeal.main_arg2)
      ∧ r.2.mem ((c.tc : Thread Cert.AdcRefIdeal.nD Cert.AdcRefIdeal.τ).loc Cert.AdcRefIdeal.main_arg3) = m ((c.tc : Thread Cert.AdcRefIdeal.nD Cert.AdcRefIdeal.τ).loc Cert.AdcRefIdeal.main_arg3))
      ∧ r.2.sem = fun _ => 0)

def quiescent_Adi [hAdi : Cert.Adi.Facts] : Prop :=
  ∀ (m : (ℓ : Loc Cert.Adi.nD Cert.Adi.τ Cert.Adi.sig) → Buf (Elt Bits) ℓ) (g : Dev Cert.Adi.nD → PrngReg), Pre_Adi m →
    θ_run (Cert.Adi.defs (F := Bits)) (onTc (τ := Cert.Adi.τ) (Cert.Adi.main (F := Bits))) ⟨m, fun _ => 0, g⟩ (fun r => (∀ c : Dev Cert.Adi.nD,
      r.2.mem ((c.tc : Thread Cert.Adi.nD Cert.Adi.τ).loc Cert.Adi.main_arg0) = m ((c.tc : Thread Cert.Adi.nD Cert.Adi.τ).loc Cert.Adi.main_arg0)
      ∧ r.2.mem ((c.tc : Thread Cert.Adi.nD Cert.Adi.τ).loc Cert.Adi.main_arg1) = m ((c.tc : Thread Cert.Adi.nD Cert.Adi.τ).loc Cert.Adi.main_arg1)
      ∧ r.2.mem ((c.tc : Thread Cert.Adi.nD Cert.Adi.τ).loc Cert.Adi.main_arg2) = m ((c.tc : Thread Cert.Adi.nD Cert.Adi.τ).loc Cert.Adi.main_arg2)
      ∧ r.2.mem ((c.tc : Thread Cert.Adi.nD Cert.Adi.τ).loc Cert.Adi.main_arg3) = m ((c.tc : Thread Cert.Adi.nD Cert.Adi.τ).loc Cert.Adi.main_arg3))
      ∧ r.2.sem = fun _ => 0)

def quiescent_AdiIdeal [hAdiIdeal : Cert.AdiIdeal.Facts] : Prop :=
  ∀ (m : (ℓ : Loc Cert.AdiIdeal.nD Cert.AdiIdeal.τ Cert.AdiIdeal.sig) → Buf (Elt Ideal) ℓ) (g : Dev Cert.AdiIdeal.nD → PrngReg), Pre_AdiIdeal m →
    θ_run (Cert.AdiIdeal.defs (F := Ideal)) (onTc (τ := Cert.AdiIdeal.τ) (Cert.AdiIdeal.main (F := Ideal))) ⟨m, fun _ => 0, g⟩ (fun r => (∀ c : Dev Cert.AdiIdeal.nD,
      r.2.mem ((c.tc : Thread Cert.AdiIdeal.nD Cert.AdiIdeal.τ).loc Cert.AdiIdeal.main_arg0) = m ((c.tc : Thread Cert.AdiIdeal.nD Cert.AdiIdeal.τ).loc Cert.AdiIdeal.main_arg0)
      ∧ r.2.mem ((c.tc : Thread Cert.AdiIdeal.nD Cert.AdiIdeal.τ).loc Cert.AdiIdeal.main_arg1) = m ((c.tc : Thread Cert.AdiIdeal.nD Cert.AdiIdeal.τ).loc Cert.AdiIdeal.main_arg1)
      ∧ r.2.mem ((c.tc : Thread Cert.AdiIdeal.nD Cert.AdiIdeal.τ).loc Cert.AdiIdeal.main_arg2) = m ((c.tc : Thread Cert.AdiIdeal.nD Cert.AdiIdeal.τ).loc Cert.AdiIdeal.main_arg2)
      ∧ r.2.mem ((c.tc : Thread Cert.AdiIdeal.nD Cert.AdiIdeal.τ).loc Cert.AdiIdeal.main_arg3) = m ((c.tc : Thread Cert.AdiIdeal.nD Cert.AdiIdeal.τ).loc Cert.AdiIdeal.main_arg3))
      ∧ r.2.sem = fun _ => 0)

def quiescent_AdiRefIdeal [hAdiRefIdeal : Cert.AdiRefIdeal.Facts] : Prop :=
  ∀ (m : (ℓ : Loc Cert.AdiRefIdeal.nD Cert.AdiRefIdeal.τ Cert.AdiRefIdeal.sig) → Buf (Elt Ideal) ℓ) (g : Dev Cert.AdiRefIdeal.nD → PrngReg), Pre_AdiRefIdeal m →
    θ_run (Cert.AdiRefIdeal.defs (F := Ideal)) (onTc (τ := Cert.AdiRefIdeal.τ) (Cert.AdiRefIdeal.main (F := Ideal))) ⟨m, fun _ => 0, g⟩ (fun r => (∀ c : Dev Cert.AdiRefIdeal.nD,
      r.2.mem ((c.tc : Thread Cert.AdiRefIdeal.nD Cert.AdiRefIdeal.τ).loc Cert.AdiRefIdeal.main_arg0) = m ((c.tc : Thread Cert.AdiRefIdeal.nD Cert.AdiRefIdeal.τ).loc Cert.AdiRefIdeal.main_arg0)
      ∧ r.2.mem ((c.tc : Thread Cert.AdiRefIdeal.nD Cert.AdiRefIdeal.τ).loc Cert.AdiRefIdeal.main_arg1) = m ((c.tc : Thread Cert.AdiRefIdeal.nD Cert.AdiRefIdeal.τ).loc Cert.AdiRefIdeal.main_arg1)
      ∧ r.2.mem ((c.tc : Thread Cert.AdiRefIdeal.nD Cert.AdiRefIdeal.τ).loc Cert.AdiRefIdeal.main_arg2) = m ((c.tc : Thread Cert.AdiRefIdeal.nD Cert.AdiRefIdeal.τ).loc Cert.AdiRefIdeal.main_arg2)
      ∧ r.2.mem ((c.tc : Thread Cert.AdiRefIdeal.nD Cert.AdiRefIdeal.τ).loc Cert.AdiRefIdeal.main_arg3) = m ((c.tc : Thread Cert.AdiRefIdeal.nD Cert.AdiRefIdeal.τ).loc Cert.AdiRefIdeal.main_arg3))
      ∧ r.2.sem = fun _ => 0)

def quiescent_Ado [hAdo : Cert.Ado.Facts] : Prop :=
  ∀ (m : (ℓ : Loc Cert.Ado.nD Cert.Ado.τ Cert.Ado.sig) → Buf (Elt Bits) ℓ) (g : Dev Cert.Ado.nD → PrngReg), Pre_Ado m →
    θ_run (Cert.Ado.defs (F := Bits)) (onTc (τ := Cert.Ado.τ) (Cert.Ado.main (F := Bits))) ⟨m, fun _ => 0, g⟩ (fun r => (∀ c : Dev Cert.Ado.nD,
      r.2.mem ((c.tc : Thread Cert.Ado.nD Cert.Ado.τ).loc Cert.Ado.main_arg0) = m ((c.tc : Thread Cert.Ado.nD Cert.Ado.τ).loc Cert.Ado.main_arg0)
      ∧ r.2.mem ((c.tc : Thread Cert.Ado.nD Cert.Ado.τ).loc Cert.Ado.main_arg1) = m ((c.tc : Thread Cert.Ado.nD Cert.Ado.τ).loc Cert.Ado.main_arg1)
      ∧ r.2.mem ((c.tc : Thread Cert.Ado.nD Cert.Ado.τ).loc Cert.Ado.main_arg2) = m ((c.tc : Thread Cert.Ado.nD Cert.Ado.τ).loc Cert.Ado.main_arg2)
      ∧ r.2.mem ((c.tc : Thread Cert.Ado.nD Cert.Ado.τ).loc Cert.Ado.main_arg3) = m ((c.tc : Thread Cert.Ado.nD Cert.Ado.τ).loc Cert.Ado.main_arg3))
      ∧ r.2.sem = fun _ => 0)

def quiescent_AdoIdeal [hAdoIdeal : Cert.AdoIdeal.Facts] : Prop :=
  ∀ (m : (ℓ : Loc Cert.AdoIdeal.nD Cert.AdoIdeal.τ Cert.AdoIdeal.sig) → Buf (Elt Ideal) ℓ) (g : Dev Cert.AdoIdeal.nD → PrngReg), Pre_AdoIdeal m →
    θ_run (Cert.AdoIdeal.defs (F := Ideal)) (onTc (τ := Cert.AdoIdeal.τ) (Cert.AdoIdeal.main (F := Ideal))) ⟨m, fun _ => 0, g⟩ (fun r => (∀ c : Dev Cert.AdoIdeal.nD,
      r.2.mem ((c.tc : Thread Cert.AdoIdeal.nD Cert.AdoIdeal.τ).loc Cert.AdoIdeal.main_arg0) = m ((c.tc : Thread Cert.AdoIdeal.nD Cert.AdoIdeal.τ).loc Cert.AdoIdeal.main_arg0)
      ∧ r.2.mem ((c.tc : Thread Cert.AdoIdeal.nD Cert.AdoIdeal.τ).loc Cert.AdoIdeal.main_arg1) = m ((c.tc : Thread Cert.AdoIdeal.nD Cert.AdoIdeal.τ).loc Cert.AdoIdeal.main_arg1)
      ∧ r.2.mem ((c.tc : Thread Cert.AdoIdeal.nD Cert.AdoIdeal.τ).loc Cert.AdoIdeal.main_arg2) = m ((c.tc : Thread Cert.AdoIdeal.nD Cert.AdoIdeal.τ).loc Cert.AdoIdeal.main_arg2)
      ∧ r.2.mem ((c.tc : Thread Cert.AdoIdeal.nD Cert.AdoIdeal.τ).loc Cert.AdoIdeal.main_arg3) = m ((c.tc : Thread Cert.AdoIdeal.nD Cert.AdoIdeal.τ).loc Cert.AdoIdeal.main_arg3))
      ∧ r.2.sem = fun _ => 0)

def quiescent_AdoRefIdeal [hAdoRefIdeal : Cert.AdoRefIdeal.Facts] : Prop :=
  ∀ (m : (ℓ : Loc Cert.AdoRefIdeal.nD Cert.AdoRefIdeal.τ Cert.AdoRefIdeal.sig) → Buf (Elt Ideal) ℓ) (g : Dev Cert.AdoRefIdeal.nD → PrngReg), Pre_AdoRefIdeal m →
    θ_run (Cert.AdoRefIdeal.defs (F := Ideal)) (onTc (τ := Cert.AdoRefIdeal.τ) (Cert.AdoRefIdeal.main (F := Ideal))) ⟨m, fun _ => 0, g⟩ (fun r => (∀ c : Dev Cert.AdoRefIdeal.nD,
      r.2.mem ((c.tc : Thread Cert.AdoRefIdeal.nD Cert.AdoRefIdeal.τ).loc Cert.AdoRefIdeal.main_arg0) = m ((c.tc : Thread Cert.AdoRefIdeal.nD Cert.AdoRefIdeal.τ).loc Cert.AdoRefIdeal.main_arg0)
      ∧ r.2.mem ((c.tc : Thread Cert.AdoRefIdeal.nD Cert.AdoRefIdeal.τ).loc Cert.AdoRefIdeal.main_arg1) = m ((c.tc : Thread Cert.AdoRefIdeal.nD Cert.AdoRefIdeal.τ).loc Cert.AdoRefIdeal.main_arg1)
      ∧ r.2.mem ((c.tc : Thread Cert.AdoRefIdeal.nD Cert.AdoRefIdeal.τ).loc Cert.AdoRefIdeal.main_arg2) = m ((c.tc : Thread Cert.AdoRefIdeal.nD Cert.AdoRefIdeal.τ).loc Cert.AdoRefIdeal.main_arg2)
      ∧ r.2.mem ((c.tc : Thread Cert.AdoRefIdeal.nD Cert.AdoRefIdeal.τ).loc Cert.AdoRefIdeal.main_arg3) = m ((c.tc : Thread Cert.AdoRefIdeal.nD Cert.AdoRefIdeal.τ).loc Cert.AdoRefIdeal.main_arg3))
      ∧ r.2.sem = fun _ => 0)

def quiescent_Cond [hCond : Cert.Cond.Facts] : Prop :=
  ∀ (m : (ℓ : Loc Cert.Cond.nD Cert.Cond.τ Cert.Cond.sig) → Buf (Elt Bits) ℓ) (g : Dev Cert.Cond.nD → PrngReg), Pre_Cond m →
    θ_run (Cert.Cond.defs (F := Bits)) (onTc (τ := Cert.Cond.τ) (Cert.Cond.main (F := Bits))) ⟨m, fun _ => 0, g⟩ (fun r => (∀ c : Dev Cert.Cond.nD,
      r.2.mem ((c.tc : Thread Cert.Cond.nD Cert.Cond.τ).loc Cert.Cond.main_arg0) = m ((c.tc : Thread Cert.Cond.nD Cert.Cond.τ).loc Cert.Cond.main_arg0)
      ∧ r.2.mem ((c.tc : Thread Cert.Cond.nD Cert.Cond.τ).loc Cert.Cond.main_arg1) = m ((c.tc : Thread Cert.Cond.nD Cert.Cond.τ).loc Cert.Cond.main_arg1))
      ∧ r.2.sem = fun _ => 0)

def quiescent_CondIdeal [hCondIdeal : Cert.CondIdeal.Facts] : Prop :=
  ∀ (m : (ℓ : Loc Cert.CondIdeal.nD Cert.CondIdeal.τ Cert.CondIdeal.sig) → Buf (Elt Ideal) ℓ) (g : Dev Cert.CondIdeal.nD → PrngReg), Pre_CondIdeal m →
    θ_run (Cert.CondIdeal.defs (F := Ideal)) (onTc (τ := Cert.CondIdeal.τ) (Cert.CondIdeal.main (F := Ideal))) ⟨m, fun _ => 0, g⟩ (fun r => (∀ c : Dev Cert.CondIdeal.nD,
      r.2.mem ((c.tc : Thread Cert.CondIdeal.nD Cert.CondIdeal.τ).loc Cert.CondIdeal.main_arg0) = m ((c.tc : Thread Cert.CondIdeal.nD Cert.CondIdeal.τ).loc Cert.CondIdeal.main_arg0)
      ∧ r.2.mem ((c.tc : Thread Cert.CondIdeal.nD Cert.CondIdeal.τ).loc Cert.CondIdeal.main_arg1) = m ((c.tc : Thread Cert.CondIdeal.nD Cert.CondIdeal.τ).loc Cert.CondIdeal.main_arg1))
      ∧ r.2.sem = fun _ => 0)

def quiescent_CondIdeal_pre_cond_finite [hCondIdeal : Cert.CondIdeal.Facts] [hPre_cond_finite : Cert.Pre_cond_finite.Facts] : Prop :=
  ∀ (m : (ℓ : Loc Cert.CondIdeal.nD Cert.CondIdeal.τ Cert.CondIdeal.sig) → Buf (Elt Ideal) ℓ) (g : Dev Cert.CondIdeal.nD → PrngReg), Pre_CondIdeal_cond_finite m →
    θ_run (Cert.CondIdeal.defs (F := Ideal)) (onTc (τ := Cert.CondIdeal.τ) (Cert.CondIdeal.main (F := Ideal))) ⟨m, fun _ => 0, g⟩ (fun r => (∀ c : Dev Cert.CondIdeal.nD,
      r.2.mem ((c.tc : Thread Cert.CondIdeal.nD Cert.CondIdeal.τ).loc Cert.CondIdeal.main_arg0) = m ((c.tc : Thread Cert.CondIdeal.nD Cert.CondIdeal.τ).loc Cert.CondIdeal.main_arg0)
      ∧ r.2.mem ((c.tc : Thread Cert.CondIdeal.nD Cert.CondIdeal.τ).loc Cert.CondIdeal.main_arg1) = m ((c.tc : Thread Cert.CondIdeal.nD Cert.CondIdeal.τ).loc Cert.CondIdeal.main_arg1))
      ∧ r.2.sem = fun _ => 0)

def quiescent_CondRefIdeal [hCondRefIdeal : Cert.CondRefIdeal.Facts] : Prop :=
  ∀ (m : (ℓ : Loc Cert.CondRefIdeal.nD Cert.CondRefIdeal.τ Cert.CondRefIdeal.sig) → Buf (Elt Ideal) ℓ) (g : Dev Cert.CondRefIdeal.nD → PrngReg), Pre_CondRefIdeal m →
    θ_run (Cert.CondRefIdeal.defs (F := Ideal)) (onTc (τ := Cert.CondRefIdeal.τ) (Cert.CondRefIdeal.main (F := Ideal))) ⟨m, fun _ => 0, g⟩ (fun r => (∀ c : Dev Cert.CondRefIdeal.nD,
      r.2.mem ((c.tc : Thread Cert.CondRefIdeal.nD Cert.CondRefIdeal.τ).loc Cert.CondRefIdeal.main_arg0) = m ((c.tc : Thread Cert.CondRefIdeal.nD Cert.CondRefIdeal.τ).loc Cert.CondRefIdeal.main_arg0)
      ∧ r.2.mem ((c.tc : Thread Cert.CondRefIdeal.nD Cert.CondRefIdeal.τ).loc Cert.CondRefIdeal.main_arg1) = m ((c.tc : Thread Cert.CondRefIdeal.nD Cert.CondRefIdeal.τ).loc Cert.CondRefIdeal.main_arg1))
      ∧ r.2.sem = fun _ => 0)

def quiescent_CondRefIdeal_pre_cond_finite [hCondRefIdeal : Cert.CondRefIdeal.Facts] [hPre_cond_finite : Cert.Pre_cond_finite.Facts] : Prop :=
  ∀ (m : (ℓ : Loc Cert.CondRefIdeal.nD Cert.CondRefIdeal.τ Cert.CondRefIdeal.sig) → Buf (Elt Ideal) ℓ) (g : Dev Cert.CondRefIdeal.nD → PrngReg), Pre_CondRefIdeal_cond_finite m →
    θ_run (Cert.CondRefIdeal.defs (F := Ideal)) (onTc (τ := Cert.CondRefIdeal.τ) (Cert.CondRefIdeal.main (F := Ideal))) ⟨m, fun _ => 0, g⟩ (fun r => (∀ c : Dev Cert.CondRefIdeal.nD,
      r.2.mem ((c.tc : Thread Cert.CondRefIdeal.nD Cert.CondRefIdeal.τ).loc Cert.CondRefIdeal.main_arg0) = m ((c.tc : Thread Cert.CondRefIdeal.nD Cert.CondRefIdeal.τ).loc Cert.CondRefIdeal.main_arg0)
      ∧ r.2.mem ((c.tc : Thread Cert.CondRefIdeal.nD Cert.CondRefIdeal.τ).loc Cert.CondRefIdeal.main_arg1) = m ((c.tc : Thread Cert.CondRefIdeal.nD Cert.CondRefIdeal.τ).loc Cert.CondRefIdeal.main_arg1))
      ∧ r.2.sem = fun _ => 0)

def preserves_Mix_MixIdeal : Prop :=
  True

def preserves_Inp_InpIdeal : Prop :=
  True

def preserves_Ffn_FfnIdeal : Prop :=
  True

def preserves_Gff_GffIdeal : Prop :=
  True

def preserves_Gout_GoutIdeal : Prop :=
  True

def preserves_Fwd_FwdIdeal : Prop :=
  True

def preserves_Gin_GinIdeal : Prop :=
  True

def preserves_Adf_AdfIdeal : Prop :=
  True

def preserves_Adc_AdcIdeal : Prop :=
  True

def preserves_Adi_AdiIdeal : Prop :=
  True

def preserves_Ado_AdoIdeal : Prop :=
  True

def preserves_Cond_CondIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v1_0)) (v1 : (c : Dev Cert.MixIdeal.nD) → Buf (Elt Ideal) ((c.tc : Thread Cert.MixIdeal.nD Cert.MixIdeal.τ).loc Cert.MixIdeal.main_v1_1)) (v2 : (c : Dev Cert.MixIdeal.nD) → Buf (Elt Ideal) ((c.tc : Thread Cert.MixIdeal.nD Cert.MixIdeal.τ).loc Cert.MixIdeal.main_v1_2)) (v3 : (c : Dev Cert.MixIdeal.nD) → Buf (Elt Ideal) ((c.tc : Thread Cert.MixIdeal.nD Cert.MixIdeal.τ).loc Cert.MixIdeal.main_v1_3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1_0) = v0 c
          ∧ r.2.mem ((c.tc : Thread Cert.MixIdeal.nD Cert.MixIdeal.τ).loc Cert.MixIdeal.main_v1_1) = v1 c
          ∧ r.2.mem ((c.tc : Thread Cert.MixIdeal.nD Cert.MixIdeal.τ).loc Cert.MixIdeal.main_v1_2) = v2 c
          ∧ r.2.mem ((c.tc : Thread Cert.MixIdeal.nD Cert.MixIdeal.τ).loc Cert.MixIdeal.main_v1_3) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v26) = v0 c
          ∧ r.2.mem ((c.tc : Thread Cert.MixRefIdeal.nD Cert.MixRefIdeal.τ).loc Cert.MixRefIdeal.main_v25) = v1 c
          ∧ r.2.mem ((c.tc : Thread Cert.MixRefIdeal.nD Cert.MixRefIdeal.τ).loc Cert.MixRefIdeal.main_v28) = v2 c
          ∧ r.2.mem ((c.tc : Thread Cert.MixRefIdeal.nD Cert.MixRefIdeal.τ).loc Cert.MixRefIdeal.main_v24) = v3 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def algebraic_GffIdeal_GffRefIdeal [hGffIdeal : Cert.GffIdeal.Facts] [hGffRefIdeal : Cert.GffRefIdeal.Facts] : Prop :=
  ∀ (m : (ℓ : Loc Cert.GffIdeal.nD Cert.GffIdeal.τ Cert.GffIdeal.sig) → Buf (Elt Ideal) ℓ) (g : Dev Cert.GffIdeal.nD → PrngReg)
    (m' : (ℓ : Loc Cert.GffRefIdeal.nD Cert.GffRefIdeal.τ Cert.GffRefIdeal.sig) → Buf (Elt Ideal) ℓ) (g' : Dev Cert.GffRefIdeal.nD → PrngReg), Pre_GffIdeal m →
    (∀ c : Dev Cert.GffIdeal.nD,
      m' ((c.tc : Thread Cert.GffRefIdeal.nD Cert.GffRefIdeal.τ).loc Cert.GffRefIdeal.main_arg0) = m ((c.tc : Thread Cert.GffIdeal.nD Cert.GffIdeal.τ).loc Cert.GffIdeal.main_arg0)
      ∧ m' ((c.tc : Thread Cert.GffRefIdeal.nD Cert.GffRefIdeal.τ).loc Cert.GffRefIdeal.main_arg1) = m ((c.tc : Thread Cert.GffIdeal.nD Cert.GffIdeal.τ).loc Cert.GffIdeal.main_arg1)) →
    ∃ (v0 : (c : Dev Cert.GffIdeal.nD) → Buf (Elt Ideal) ((c.tc : Thread Cert.GffIdeal.nD Cert.GffIdeal.τ).loc Cert.GffIdeal.main_v2_0)) (v1 : (c : Dev Cert.GffIdeal.nD) → Buf (Elt Ideal) ((c.tc : Thread Cert.GffIdeal.nD Cert.GffIdeal.τ).loc Cert.GffIdeal.main_v2_1)),
      θ_run (Cert.GffIdeal.defs (F := Ideal)) (onTc (τ := Cert.GffIdeal.τ) (Cert.GffIdeal.main (F := Ideal))) ⟨m, fun _ => 0, g⟩ (fun r => ∀ c : Dev Cert.GffIdeal.nD,
          r.2.mem ((c.tc : Thread Cert.GffIdeal.nD Cert.GffIdeal.τ).loc Cert.GffIdeal.main_v2_0) = v0 c
          ∧ r.2.mem ((c.tc : Thread Cert.GffIdeal.nD Cert.GffIdeal.τ).loc Cert.GffIdeal.main_v2_1) = v1 c
          ∧ r.2.mem ((c.tc : Thread Cert.GffIdeal.nD Cert.GffIdeal.τ).loc Cert.GffIdeal.main_arg0) = m ((c.tc : Thread Cert.GffIdeal.nD Cert.GffIdeal.τ).loc Cert.GffIdeal.main_arg0)
          ∧ r.2.mem ((c.tc : Thread Cert.GffIdeal.nD Cert.GffIdeal.τ).loc Cert.GffIdeal.main_arg1) = m ((c.tc : Thread Cert.GffIdeal.nD Cert.GffIdeal.τ).loc Cert.GffIdeal.main_arg1))
      ∧ θ_run (Cert.GffRefIdeal.defs (F := Ideal)) (onTc (τ := Cert.GffRefIdeal.τ) (Cert.GffRefIdeal.main (F := Ideal))) ⟨m', fun _ => 0, g'⟩ (fun r => ∀ c : Dev Cert.GffRefIdeal.nD,
          r.2.mem ((c.tc : Thread Cert.GffRefIdeal.nD Cert.GffRefIdeal.τ).loc Cert.GffRefIdeal.main_v7) = v0 c
          ∧ r.2.mem ((c.tc : Thread Cert.GffRefIdeal.nD Cert.GffRefIdeal.τ).loc Cert.GffRefIdeal.main_v8) = v1 c
          ∧ r.2.mem ((c.tc : Thread Cert.GffRefIdeal.nD Cert.GffRefIdeal.τ).loc Cert.GffRefIdeal.main_arg0) = m' ((c.tc : Thread Cert.GffRefIdeal.nD Cert.GffRefIdeal.τ).loc Cert.GffRefIdeal.main_arg0)
          ∧ r.2.mem ((c.tc : Thread Cert.GffRefIdeal.nD Cert.GffRefIdeal.τ).loc Cert.GffRefIdeal.main_arg1) = m' ((c.tc : Thread Cert.GffRefIdeal.nD Cert.GffRefIdeal.τ).loc Cert.GffRefIdeal.main_arg1))

def algebraic_GoutIdeal_GoutRefIdeal [hGoutIdeal : Cert.GoutIdeal.Facts] [hGoutRefIdeal : Cert.GoutRefIdeal.Facts] : Prop :=
  ∀ (m : (ℓ : Loc Cert.GoutIdeal.nD Cert.GoutIdeal.τ Cert.GoutIdeal.sig) → Buf (Elt Ideal) ℓ) (g : Dev Cert.GoutIdeal.nD → PrngReg)
    (m' : (ℓ : Loc Cert.GoutRefIdeal.nD Cert.GoutRefIdeal.τ Cert.GoutRefIdeal.sig) → Buf (Elt Ideal) ℓ) (g' : Dev Cert.GoutRefIdeal.nD → PrngReg), Pre_GoutIdeal m →
    (∀ c : Dev Cert.GoutIdeal.nD,
      m' ((c.tc : Thread Cert.GoutRefIdeal.nD Cert.GoutRefIdeal.τ).loc Cert.GoutRefIdeal.main_arg0) = m ((c.tc : Thread Cert.GoutIdeal.nD Cert.GoutIdeal.τ).loc Cert.GoutIdeal.main_arg0)
      ∧ m' ((c.tc : Thread Cert.GoutRefIdeal.nD Cert.GoutRefIdeal.τ).loc Cert.GoutRefIdeal.main_arg1) = m ((c.tc : Thread Cert.GoutIdeal.nD Cert.GoutIdeal.τ).loc Cert.GoutIdeal.main_arg1)) →
    ∃ (v0 : (c : Dev Cert.GoutIdeal.nD) → Buf (Elt Ideal) ((c.tc : Thread Cert.GoutIdeal.nD Cert.GoutIdeal.τ).loc Cert.GoutIdeal.main_v0_0)) (v1 : (c : Dev Cert.GoutIdeal.nD) → Buf (Elt Ideal) ((c.tc : Thread Cert.GoutIdeal.nD Cert.GoutIdeal.τ).loc Cert.GoutIdeal.main_v0_1)),
      θ_run (Cert.GoutIdeal.defs (F := Ideal)) (onTc (τ := Cert.GoutIdeal.τ) (Cert.GoutIdeal.main (F := Ideal))) ⟨m, fun _ => 0, g⟩ (fun r => ∀ c : Dev Cert.GoutIdeal.nD,
          r.2.mem ((c.tc : Thread Cert.GoutIdeal.nD Cert.GoutIdeal.τ).loc Cert.GoutIdeal.main_v0_0) = v0 c
          ∧ r.2.mem ((c.tc : Thread Cert.GoutIdeal.nD Cert.GoutIdeal.τ).loc Cert.GoutIdeal.main_v0_1) = v1 c
          ∧ r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
          ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ θ_run (Cert.GoutRefIdeal.defs (F := Ideal)) (onTc (τ := Cert.GoutRefIdeal.τ) (Cert.GoutRefIdeal.main (F := Ideal))) ⟨m', fun _ => 0, g'⟩ (fun r => ∀ c : Dev Cert.GoutRefIdeal.nD,
          r.2.mem ((c.tc : Thread Cert.GoutRefIdeal.nD Cert.GoutRefIdeal.τ).loc Cert.GoutRefIdeal.main_v6) = v0 c
          ∧ r.2.mem ((c.tc : Thread Cert.GoutRefIdeal.nD Cert.GoutRefIdeal.τ).loc Cert.GoutRefIdeal.main_v7) = v1 c
          ∧ r.2.mem ((c.tc : Thread Cert.GoutRefIdeal.nD Cert.GoutRefIdeal.τ).loc Cert.GoutRefIdeal.main_arg0) = m' ((c.tc : Thread Cert.GoutRefIdeal.nD Cert.GoutRefIdeal.τ).loc Cert.GoutRefIdeal.main_arg0)
          ∧ r.2.mem ((c.tc : Thread Cert.GoutRefIdeal.nD Cert.GoutRefIdeal.τ).loc Cert.GoutRefIdeal.main_arg1) = m' ((c.tc : Thread Cert.GoutRefIdeal.nD Cert.GoutRefIdeal.τ).loc Cert.GoutRefIdeal.main_arg1))

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)
      ∧ m' ((c.tc : Thread Cert.FwdRefIdeal.nD Cert.FwdRefIdeal.τ).loc Cert.FwdRefIdeal.main_arg7) = m ((c.tc : Thread Cert.FwdIdeal.nD Cert.FwdIdeal.τ).loc Cert.FwdIdeal.main_arg7)) →
    ∃ (v0 : (c : Dev Cert.FwdIdeal.nD) → Buf (Elt Ideal) ((c.tc : Thread Cert.FwdIdeal.nD Cert.FwdIdeal.τ).loc Cert.FwdIdeal.main_v10_0)) (v1 : (c : Dev Cert.FwdIdeal.nD) → Buf (Elt Ideal) ((c.tc : Thread Cert.FwdIdeal.nD Cert.FwdIdeal.τ).loc Cert.FwdIdeal.main_v10_1)) (v2 : (c : Dev Cert.FwdIdeal.nD) → Buf (Elt Ideal) ((c.tc : Thread Cert.FwdIdeal.nD Cert.FwdIdeal.τ).loc Cert.FwdIdeal.main_v10_2)) (v3 : (c : Dev Cert.FwdIdeal.nD) → Buf (Elt Ideal) ((c.tc : Thread Cert.FwdIdeal.nD Cert.FwdIdeal.τ).loc Cert.FwdIdeal.main_v10_3)) (v4 : (c : Dev Cert.FwdIdeal.nD) → Buf (Elt Ideal) ((c.tc : Thread Cert.FwdIdeal.nD Cert.FwdIdeal.τ).loc Cert.FwdIdeal.main_v10_4)) (v5 : (c : Dev Cert.FwdIdeal.nD) → Buf (Elt Ideal) ((c.tc : Thread Cert.FwdIdeal.nD Cert.FwdIdeal.τ).loc Cert.FwdIdeal.main_v10_5)) (v6 : (c : Dev Cert.FwdIdeal.nD) → Buf (Elt Ideal) ((c.tc : Thread Cert.FwdIdeal.nD Cert.FwdIdeal.τ).loc Cert.FwdIdeal.main_v10_6)) (v7 : (c : Dev Cert.FwdIdeal.nD) → Buf (Elt Ideal) ((c.tc : Thread Cert.FwdIdeal.nD Cert.FwdIdeal.τ).loc Cert.FwdIdeal.main_v10_7)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v10_0) = v0 c
          ∧ r.2.mem ((c.tc : Thread Cert.FwdIdeal.nD Cert.FwdIdeal.τ).loc Cert.FwdIdeal.main_v10_1) = v1 c
          ∧ r.2.mem ((c.tc : Thread Cert.FwdIdeal.nD Cert.FwdIdeal.τ).loc Cert.FwdIdeal.main_v10_2) = v2 c
          ∧ r.2.mem ((c.tc : Thread Cert.FwdIdeal.nD Cert.FwdIdeal.τ).loc Cert.FwdIdeal.main_v10_3) = v3 c
          ∧ r.2.mem ((c.tc : Thread Cert.FwdIdeal.nD Cert.FwdIdeal.τ).loc Cert.FwdIdeal.main_v10_4) = v4 c
          ∧ r.2.mem ((c.tc : Thread Cert.FwdIdeal.nD Cert.FwdIdeal.τ).loc Cert.FwdIdeal.main_v10_5) = v5 c
          ∧ r.2.mem ((c.tc : Thread Cert.FwdIdeal.nD Cert.FwdIdeal.τ).loc Cert.FwdIdeal.main_v10_6) = v6 c
          ∧ r.2.mem ((c.tc : Thread Cert.FwdIdeal.nD Cert.FwdIdeal.τ).loc Cert.FwdIdeal.main_v10_7) = v7 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v77) = v0 c
          ∧ r.2.mem ((c.tc : Thread Cert.FwdRefIdeal.nD Cert.FwdRefIdeal.τ).loc Cert.FwdRefIdeal.main_v80) = v1 c
          ∧ r.2.mem ((c.tc : Thread Cert.FwdRefIdeal.nD Cert.FwdRefIdeal.τ).loc Cert.FwdRefIdeal.main_v83) = v2 c
          ∧ r.2.mem ((c.tc : Thread Cert.FwdRefIdeal.nD Cert.FwdRefIdeal.τ).loc Cert.FwdRefIdeal.main_v84) = v3 c
          ∧ r.2.mem ((c.tc : Thread Cert.FwdRefIdeal.nD Cert.FwdRefIdeal.τ).loc Cert.FwdRefIdeal.main_v86) = v4 c
          ∧ r.2.mem ((c.tc : Thread Cert.FwdRefIdeal.nD Cert.FwdRefIdeal.τ).loc Cert.FwdRefIdeal.main_v87) = v5 c
          ∧ r.2.mem ((c.tc : Thread Cert.FwdRefIdeal.nD Cert.FwdRefIdeal.τ).loc Cert.FwdRefIdeal.main_v71) = v6 c
          ∧ r.2.mem ((c.tc : Thread Cert.FwdRefIdeal.nD Cert.FwdRefIdeal.τ).loc Cert.FwdRefIdeal.main_v74) = v7 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6)
          ∧ r.2.mem ((c.tc : Thread Cert.FwdRefIdeal.nD Cert.FwdRefIdeal.τ).loc Cert.FwdRefIdeal.main_arg7) = m' ((c.tc : Thread Cert.FwdRefIdeal.nD Cert.FwdRefIdeal.τ).loc Cert.FwdRefIdeal.main_arg7))

def algebraic_GinIdeal_GinRefIdeal [hGinIdeal : Cert.GinIdeal.Facts] [hGinRefIdeal : Cert.GinRefIdeal.Facts] : Prop :=
  ∀ (m : (ℓ : Loc Cert.GinIdeal.nD Cert.GinIdeal.τ Cert.GinIdeal.sig) → Buf (Elt Ideal) ℓ) (g : Dev Cert.GinIdeal.nD → PrngReg)
    (m' : (ℓ : Loc Cert.GinRefIdeal.nD Cert.GinRefIdeal.τ Cert.GinRefIdeal.sig) → Buf (Elt Ideal) ℓ) (g' : Dev Cert.GinRefIdeal.nD → PrngReg), Pre_GinIdeal m →
    (∀ c : Dev Cert.GinIdeal.nD,
      m' ((c.tc : Thread Cert.GinRefIdeal.nD Cert.GinRefIdeal.τ).loc Cert.GinRefIdeal.main_arg0) = m ((c.tc : Thread Cert.GinIdeal.nD Cert.GinIdeal.τ).loc Cert.GinIdeal.main_arg0)
      ∧ m' ((c.tc : Thread Cert.GinRefIdeal.nD Cert.GinRefIdeal.τ).loc Cert.GinRefIdeal.main_arg1) = m ((c.tc : Thread Cert.GinIdeal.nD Cert.GinIdeal.τ).loc Cert.GinIdeal.main_arg1)
      ∧ m' ((c.tc : Thread Cert.GinRefIdeal.nD Cert.GinRefIdeal.τ).loc Cert.GinRefIdeal.main_arg2) = m ((c.tc : Thread Cert.GinIdeal.nD Cert.GinIdeal.τ).loc Cert.GinIdeal.main_arg2)
      ∧ m' ((c.tc : Thread Cert.GinRefIdeal.nD Cert.GinRefIdeal.τ).loc Cert.GinRefIdeal.main_arg3) = m ((c.tc : Thread Cert.GinIdeal.nD Cert.GinIdeal.τ).loc Cert.GinIdeal.main_arg3)
      ∧ m' ((c.tc : Thread Cert.GinRefIdeal.nD Cert.GinRefIdeal.τ).loc Cert.GinRefIdeal.main_arg4) = m ((c.tc : Thread Cert.GinIdeal.nD Cert.GinIdeal.τ).loc Cert.GinIdeal.main_arg4)) →
    ∃ (v0 : (c : Dev Cert.GinIdeal.nD) → Buf (Elt Ideal) ((c.tc : Thread Cert.GinIdeal.nD Cert.GinIdeal.τ).loc Cert.GinIdeal.main_v0_0)) (v1 : (c : Dev Cert.GinIdeal.nD) → Buf (Elt Ideal) ((c.tc : Thread Cert.GinIdeal.nD Cert.GinIdeal.τ).loc Cert.GinIdeal.main_v0_1)),
      θ_run (Cert.GinIdeal.defs (F := Ideal)) (onTc (τ := Cert.GinIdeal.τ) (Cert.GinIdeal.main (F := Ideal))) ⟨m, fun _ => 0, g⟩ (fun r => ∀ c : Dev Cert.GinIdeal.nD,
          r.2.mem ((c.tc : Thread Cert.GinIdeal.nD Cert.GinIdeal.τ).loc Cert.GinIdeal.main_v0_0) = v0 c
          ∧ r.2.mem ((c.tc : Thread Cert.GinIdeal.nD Cert.GinIdeal.τ).loc Cert.GinIdeal.main_v0_1) = v1 c
          ∧ r.2.mem ((c.tc : Thread Cert.GinIdeal.nD Cert.GinIdeal.τ).loc Cert.GinIdeal.main_arg0) = m ((c.tc : Thread Cert.GinIdeal.nD Cert.GinIdeal.τ).loc Cert.GinIdeal.main_arg0)
          ∧ r.2.mem ((c.tc : Thread Cert.GinIdeal.nD Cert.GinIdeal.τ).loc Cert.GinIdeal.main_arg1) = m ((c.tc : Thread Cert.GinIdeal.nD Cert.GinIdeal.τ).loc Cert.GinIdeal.main_arg1)
          ∧ r.2.mem ((c.tc : Thread Cert.GinIdeal.nD Cert.GinIdeal.τ).loc Cert.GinIdeal.main_arg2) = m ((c.tc : Thread Cert.GinIdeal.nD Cert.GinIdeal.τ).loc Cert.GinIdeal.main_arg2)
          ∧ r.2.mem ((c.tc : Thread Cert.GinIdeal.nD Cert.GinIdeal.τ).loc Cert.GinIdeal.main_arg3) = m ((c.tc : Thread Cert.GinIdeal.nD Cert.GinIdeal.τ).loc Cert.GinIdeal.main_arg3)
          ∧ r.2.mem ((c.tc : Thread Cert.GinIdeal.nD Cert.GinIdeal.τ).loc Cert.GinIdeal.main_arg4) = m ((c.tc : Thread Cert.GinIdeal.nD Cert.GinIdeal.τ).loc Cert.GinIdeal.main_arg4))
      ∧ θ_run (Cert.GinRefIdeal.defs (F := Ideal)) (onTc (τ := Cert.GinRefIdeal.τ) (Cert.GinRefIdeal.main (F := Ideal))) ⟨m', fun _ => 0, g'⟩ (fun r => ∀ c : Dev Cert.GinRefIdeal.nD,
          r.2.mem ((c.tc : Thread Cert.GinRefIdeal.nD Cert.GinRefIdeal.τ).loc Cert.GinRefIdeal.main_v8) = v0 c
          ∧ r.2.mem ((c.tc : Thread Cert.GinRefIdeal.nD Cert.GinRefIdeal.τ).loc Cert.GinRefIdeal.main_v9) = v1 c
          ∧ r.2.mem ((c.tc : Thread Cert.GinRefIdeal.nD Cert.GinRefIdeal.τ).loc Cert.GinRefIdeal.main_arg0) = m' ((c.tc : Thread Cert.GinRefIdeal.nD Cert.GinRefIdeal.τ).loc Cert.GinRefIdeal.main_arg0)
          ∧ r.2.mem ((c.tc : Thread Cert.GinRefIdeal.nD Cert.GinRefIdeal.τ).loc Cert.GinRefIdeal.main_arg1) = m' ((c.tc : Thread Cert.GinRefIdeal.nD Cert.GinRefIdeal.τ).loc Cert.GinRefIdeal.main_arg1)
          ∧ r.2.mem ((c.tc : Thread Cert.GinRefIdeal.nD Cert.GinRefIdeal.τ).loc Cert.GinRefIdeal.main_arg2) = m' ((c.tc : Thread Cert.GinRefIdeal.nD Cert.GinRefIdeal.τ).loc Cert.GinRefIdeal.main_arg2)
          ∧ r.2.mem ((c.tc : Thread Cert.GinRefIdeal.nD Cert.GinRefIdeal.τ).loc Cert.GinRefIdeal.main_arg3) = m' ((c.tc : Thread Cert.GinRefIdeal.nD Cert.GinRefIdeal.τ).loc Cert.GinRefIdeal.main_arg3)
          ∧ r.2.mem ((c.tc : Thread Cert.GinRefIdeal.nD Cert.GinRefIdeal.τ).loc Cert.GinRefIdeal.main_arg4) = m' ((c.tc : Thread Cert.GinRefIdeal.nD Cert.GinRefIdeal.τ).loc Cert.GinRefIdeal.main_arg4))

def algebraic_AdfIdeal_AdfRefIdeal [hAdfIdeal : Cert.AdfIdeal.Facts] [hAdfRefIdeal : Cert.AdfRefIdeal.Facts] : Prop :=
  ∀ (m : (ℓ : Loc Cert.AdfIdeal.nD Cert.AdfIdeal.τ Cert.AdfIdeal.sig) → Buf (Elt Ideal) ℓ) (g : Dev Cert.AdfIdeal.nD → PrngReg)
    (m' : (ℓ : Loc Cert.AdfRefIdeal.nD Cert.AdfRefIdeal.τ Cert.AdfRefIdeal.sig) → Buf (Elt Ideal) ℓ) (g' : Dev Cert.AdfRefIdeal.nD → PrngReg), Pre_AdfIdeal m →
    (∀ c : Dev Cert.AdfIdeal.nD,
      m' ((c.tc : Thread Cert.AdfRefIdeal.nD Cert.AdfRefIdeal.τ).loc Cert.AdfRefIdeal.main_arg0) = m ((c.tc : Thread Cert.AdfIdeal.nD Cert.AdfIdeal.τ).loc Cert.AdfIdeal.main_arg0)
      ∧ m' ((c.tc : Thread Cert.AdfRefIdeal.nD Cert.AdfRefIdeal.τ).loc Cert.AdfRefIdeal.main_arg1) = m ((c.tc : Thread Cert.AdfIdeal.nD Cert.AdfIdeal.τ).loc Cert.AdfIdeal.main_arg1)
      ∧ m' ((c.tc : Thread Cert.AdfRefIdeal.nD Cert.AdfRefIdeal.τ).loc Cert.AdfRefIdeal.main_arg2) = m ((c.tc : Thread Cert.AdfIdeal.nD Cert.AdfIdeal.τ).loc Cert.AdfIdeal.main_arg2)
      ∧ m' ((c.tc : Thread Cert.AdfRefIdeal.nD Cert.AdfRefIdeal.τ).loc Cert.AdfRefIdeal.main_arg3) = m ((c.tc : Thread Cert.AdfIdeal.nD Cert.AdfIdeal.τ).loc Cert.AdfIdeal.main_arg3)) →
    ∃ (v0 : (c : Dev Cert.AdfIdeal.nD) → Buf (Elt Ideal) ((c.tc : Thread Cert.AdfIdeal.nD Cert.AdfIdeal.τ).loc Cert.AdfIdeal.main_v0_0)) (v1 : (c : Dev Cert.AdfIdeal.nD) → Buf (Elt Ideal) ((c.tc : Thread Cert.AdfIdeal.nD Cert.AdfIdeal.τ).loc Cert.AdfIdeal.main_v0_1)) (v2 : (c : Dev Cert.AdfIdeal.nD) → Buf (Elt Ideal) ((c.tc : Thread Cert.AdfIdeal.nD Cert.AdfIdeal.τ).loc Cert.AdfIdeal.main_v0_2)),
      θ_run (Cert.AdfIdeal.defs (F := Ideal)) (onTc (τ := Cert.AdfIdeal.τ) (Cert.AdfIdeal.main (F := Ideal))) ⟨m, fun _ => 0, g⟩ (fun r => ∀ c : Dev Cert.AdfIdeal.nD,
          r.2.mem ((c.tc : Thread Cert.AdfIdeal.nD Cert.AdfIdeal.τ).loc Cert.AdfIdeal.main_v0_0) = v0 c
          ∧ r.2.mem ((c.tc : Thread Cert.AdfIdeal.nD Cert.AdfIdeal.τ).loc Cert.AdfIdeal.main_v0_1) = v1 c
          ∧ r.2.mem ((c.tc : Thread Cert.AdfIdeal.nD Cert.AdfIdeal.τ).loc Cert.AdfIdeal.main_v0_2) = v2 c
          ∧ r.2.mem ((c.tc : Thread Cert.AdfIdeal.nD Cert.AdfIdeal.τ).loc Cert.AdfIdeal.main_arg0) = m ((c.tc : Thread Cert.AdfIdeal.nD Cert.AdfIdeal.τ).loc Cert.AdfIdeal.main_arg0)
          ∧ r.2.mem ((c.tc : Thread Cert.AdfIdeal.nD Cert.AdfIdeal.τ).loc Cert.AdfIdeal.main_arg1) = m ((c.tc : Thread Cert.AdfIdeal.nD Cert.AdfIdeal.τ).loc Cert.AdfIdeal.main_arg1)
          ∧ r.2.mem ((c.tc : Thread Cert.AdfIdeal.nD Cert.AdfIdeal.τ).loc Cert.AdfIdeal.main_arg2) = m ((c.tc : Thread Cert.AdfIdeal.nD Cert.AdfIdeal.τ).loc Cert.AdfIdeal.main_arg2)
          ∧ r.2.mem ((c.tc : Thread Cert.AdfIdeal.nD Cert.AdfIdeal.τ).loc Cert.AdfIdeal.main_arg3) = m ((c.tc : Thread Cert.AdfIdeal.nD Cert.AdfIdeal.τ).loc Cert.AdfIdeal.main_arg3))
      ∧ θ_run (Cert.AdfRefIdeal.defs (F := Ideal)) (onTc (τ := Cert.AdfRefIdeal.τ) (Cert.AdfRefIdeal.main (F := Ideal))) ⟨m', fun _ => 0, g'⟩ (fun r => ∀ c : Dev Cert.AdfRefIdeal.nD,
          r.2.mem ((c.tc : Thread Cert.AdfRefIdeal.nD Cert.AdfRefIdeal.τ).loc Cert.AdfRefIdeal.main_v23) = v0 c
          ∧ r.2.mem ((c.tc : Thread Cert.AdfRefIdeal.nD Cert.AdfRefIdeal.τ).loc Cert.AdfRefIdeal.main_v4) = v1 c
          ∧ r.2.mem ((c.tc : Thread Cert.AdfRefIdeal.nD Cert.AdfRefIdeal.τ).loc Cert.AdfRefIdeal.main_v10) = v2 c
          ∧ r.2.mem ((c.tc : Thread Cert.AdfRefIdeal.nD Cert.AdfRefIdeal.τ).loc Cert.AdfRefIdeal.main_arg0) = m' ((c.tc : Thread Cert.AdfRefIdeal.nD Cert.AdfRefIdeal.τ).loc Cert.AdfRefIdeal.main_arg0)
          ∧ r.2.mem ((c.tc : Thread Cert.AdfRefIdeal.nD Cert.AdfRefIdeal.τ).loc Cert.AdfRefIdeal.main_arg1) = m' ((c.tc : Thread Cert.AdfRefIdeal.nD Cert.AdfRefIdeal.τ).loc Cert.AdfRefIdeal.main_arg1)
          ∧ r.2.mem ((c.tc : Thread Cert.AdfRefIdeal.nD Cert.AdfRefIdeal.τ).loc Cert.AdfRefIdeal.main_arg2) = m' ((c.tc : Thread Cert.AdfRefIdeal.nD Cert.AdfRefIdeal.τ).loc Cert.AdfRefIdeal.main_arg2)
          ∧ r.2.mem ((c.tc : Thread Cert.AdfRefIdeal.nD Cert.AdfRefIdeal.τ).loc Cert.AdfRefIdeal.main_arg3) = m' ((c.tc : Thread Cert.AdfRefIdeal.nD Cert.AdfRefIdeal.τ).loc Cert.AdfRefIdeal.main_arg3))

def algebraic_AdcIdeal_AdcRefIdeal [hAdcIdeal : Cert.AdcIdeal.Facts] [hAdcRefIdeal : Cert.AdcRefIdeal.Facts] : Prop :=
  ∀ (m : (ℓ : Loc Cert.AdcIdeal.nD Cert.AdcIdeal.τ Cert.AdcIdeal.sig) → Buf (Elt Ideal) ℓ) (g : Dev Cert.AdcIdeal.nD → PrngReg)
    (m' : (ℓ : Loc Cert.AdcRefIdeal.nD Cert.AdcRefIdeal.τ Cert.AdcRefIdeal.sig) → Buf (Elt Ideal) ℓ) (g' : Dev Cert.AdcRefIdeal.nD → PrngReg), Pre_AdcIdeal m →
    (∀ c : Dev Cert.AdcIdeal.nD,
      m' ((c.tc : Thread Cert.AdcRefIdeal.nD Cert.AdcRefIdeal.τ).loc Cert.AdcRefIdeal.main_arg0) = m ((c.tc : Thread Cert.AdcIdeal.nD Cert.AdcIdeal.τ).loc Cert.AdcIdeal.main_arg0)
      ∧ m' ((c.tc : Thread Cert.AdcRefIdeal.nD Cert.AdcRefIdeal.τ).loc Cert.AdcRefIdeal.main_arg1) = m ((c.tc : Thread Cert.AdcIdeal.nD Cert.AdcIdeal.τ).loc Cert.AdcIdeal.main_arg1)
      ∧ m' ((c.tc : Thread Cert.AdcRefIdeal.nD Cert.AdcRefIdeal.τ).loc Cert.AdcRefIdeal.main_arg2) = m ((c.tc : Thread Cert.AdcIdeal.nD Cert.AdcIdeal.τ).loc Cert.AdcIdeal.main_arg2)
      ∧ m' ((c.tc : Thread Cert.AdcRefIdeal.nD Cert.AdcRefIdeal.τ).loc Cert.AdcRefIdeal.main_arg3) = m ((c.tc : Thread Cert.AdcIdeal.nD Cert.AdcIdeal.τ).loc Cert.AdcIdeal.main_arg3)) →
    ∃ (v0 : (c : Dev Cert.AdcIdeal.nD) → Buf (Elt Ideal) ((c.tc : Thread Cert.AdcIdeal.nD Cert.AdcIdeal.τ).loc Cert.AdcIdeal.main_v0_0)) (v1 : (c : Dev Cert.AdcIdeal.nD) → Buf (Elt Ideal) ((c.tc : Thread Cert.AdcIdeal.nD Cert.AdcIdeal.τ).loc Cert.AdcIdeal.main_v0_1)) (v2 : (c : Dev Cert.AdcIdeal.nD) → Buf (Elt Ideal) ((c.tc : Thread Cert.AdcIdeal.nD Cert.AdcIdeal.τ).loc Cert.AdcIdeal.main_v0_2)),
      θ_run (Cert.AdcIdeal.defs (F := Ideal)) (onTc (τ := Cert.AdcIdeal.τ) (Cert.AdcIdeal.main (F := Ideal))) ⟨m, fun _ => 0, g⟩ (fun r => ∀ c : Dev Cert.AdcIdeal.nD,
          r.2.mem ((c.tc : Thread Cert.AdcIdeal.nD Cert.AdcIdeal.τ).loc Cert.AdcIdeal.main_v0_0) = v0 c
          ∧ r.2.mem ((c.tc : Thread Cert.AdcIdeal.nD Cert.AdcIdeal.τ).loc Cert.AdcIdeal.main_v0_1) = v1 c
          ∧ r.2.mem ((c.tc : Thread Cert.AdcIdeal.nD Cert.AdcIdeal.τ).loc Cert.AdcIdeal.main_v0_2) = v2 c
          ∧ r.2.mem ((c.tc : Thread Cert.AdcIdeal.nD Cert.AdcIdeal.τ).loc Cert.AdcIdeal.main_arg0) = m ((c.tc : Thread Cert.AdcIdeal.nD Cert.AdcIdeal.τ).loc Cert.AdcIdeal.main_arg0)
          ∧ r.2.mem ((c.tc : Thread Cert.AdcIdeal.nD Cert.AdcIdeal.τ).loc Cert.AdcIdeal.main_arg1) = m ((c.tc : Thread Cert.AdcIdeal.nD Cert.AdcIdeal.τ).loc Cert.AdcIdeal.main_arg1)
          ∧ r.2.mem ((c.tc : Thread Cert.AdcIdeal.nD Cert.AdcIdeal.τ).loc Cert.AdcIdeal.main_arg2) = m ((c.tc : Thread Cert.AdcIdeal.nD Cert.AdcIdeal.τ).loc Cert.AdcIdeal.main_arg2)
          ∧ r.2.mem ((c.tc : Thread Cert.AdcIdeal.nD Cert.AdcIdeal.τ).loc Cert.AdcIdeal.main_arg3) = m ((c.tc : Thread Cert.AdcIdeal.nD Cert.AdcIdeal.τ).loc Cert.AdcIdeal.main_arg3))
      ∧ θ_run (Cert.AdcRefIdeal.defs (F := Ideal)) (onTc (τ := Cert.AdcRefIdeal.τ) (Cert.AdcRefIdeal.main (F := Ideal))) ⟨m', fun _ => 0, g'⟩ (fun r => ∀ c : Dev Cert.AdcRefIdeal.nD,
          r.2.mem ((c.tc : Thread Cert.AdcRefIdeal.nD Cert.AdcRefIdeal.τ).loc Cert.AdcRefIdeal.main_v23) = v0 c
          ∧ r.2.mem ((c.tc : Thread Cert.AdcRefIdeal.nD Cert.AdcRefIdeal.τ).loc Cert.AdcRefIdeal.main_v4) = v1 c
          ∧ r.2.mem ((c.tc : Thread Cert.AdcRefIdeal.nD Cert.AdcRefIdeal.τ).loc Cert.AdcRefIdeal.main_v10) = v2 c
          ∧ r.2.mem ((c.tc : Thread Cert.AdcRefIdeal.nD Cert.AdcRefIdeal.τ).loc Cert.AdcRefIdeal.main_arg0) = m' ((c.tc : Thread Cert.AdcRefIdeal.nD Cert.AdcRefIdeal.τ).loc Cert.AdcRefIdeal.main_arg0)
          ∧ r.2.mem ((c.tc : Thread Cert.AdcRefIdeal.nD Cert.AdcRefIdeal.τ).loc Cert.AdcRefIdeal.main_arg1) = m' ((c.tc : Thread Cert.AdcRefIdeal.nD Cert.AdcRefIdeal.τ).loc Cert.AdcRefIdeal.main_arg1)
          ∧ r.2.mem ((c.tc : Thread Cert.AdcRefIdeal.nD Cert.AdcRefIdeal.τ).loc Cert.AdcRefIdeal.main_arg2) = m' ((c.tc : Thread Cert.AdcRefIdeal.nD Cert.AdcRefIdeal.τ).loc Cert.AdcRefIdeal.main_arg2)
          ∧ r.2.mem ((c.tc : Thread Cert.AdcRefIdeal.nD Cert.AdcRefIdeal.τ).loc Cert.AdcRefIdeal.main_arg3) = m' ((c.tc : Thread Cert.AdcRefIdeal.nD Cert.AdcRefIdeal.τ).loc Cert.AdcRefIdeal.main_arg3))

def algebraic_AdiIdeal_AdiRefIdeal [hAdiIdeal : Cert.AdiIdeal.Facts] [hAdiRefIdeal : Cert.AdiRefIdeal.Facts] : Prop :=
  ∀ (m : (ℓ : Loc Cert.AdiIdeal.nD Cert.AdiIdeal.τ Cert.AdiIdeal.sig) → Buf (Elt Ideal) ℓ) (g : Dev Cert.AdiIdeal.nD → PrngReg)
    (m' : (ℓ : Loc Cert.AdiRefIdeal.nD Cert.AdiRefIdeal.τ Cert.AdiRefIdeal.sig) → Buf (Elt Ideal) ℓ) (g' : Dev Cert.AdiRefIdeal.nD → PrngReg), Pre_AdiIdeal m →
    (∀ c : Dev Cert.AdiIdeal.nD,
      m' ((c.tc : Thread Cert.AdiRefIdeal.nD Cert.AdiRefIdeal.τ).loc Cert.AdiRefIdeal.main_arg0) = m ((c.tc : Thread Cert.AdiIdeal.nD Cert.AdiIdeal.τ).loc Cert.AdiIdeal.main_arg0)
      ∧ m' ((c.tc : Thread Cert.AdiRefIdeal.nD Cert.AdiRefIdeal.τ).loc Cert.AdiRefIdeal.main_arg1) = m ((c.tc : Thread Cert.AdiIdeal.nD Cert.AdiIdeal.τ).loc Cert.AdiIdeal.main_arg1)
      ∧ m' ((c.tc : Thread Cert.AdiRefIdeal.nD Cert.AdiRefIdeal.τ).loc Cert.AdiRefIdeal.main_arg2) = m ((c.tc : Thread Cert.AdiIdeal.nD Cert.AdiIdeal.τ).loc Cert.AdiIdeal.main_arg2)
      ∧ m' ((c.tc : Thread Cert.AdiRefIdeal.nD Cert.AdiRefIdeal.τ).loc Cert.AdiRefIdeal.main_arg3) = m ((c.tc : Thread Cert.AdiIdeal.nD Cert.AdiIdeal.τ).loc Cert.AdiIdeal.main_arg3)) →
    ∃ (v0 : (c : Dev Cert.AdiIdeal.nD) → Buf (Elt Ideal) ((c.tc : Thread Cert.AdiIdeal.nD Cert.AdiIdeal.τ).loc Cert.AdiIdeal.main_v0_0)) (v1 : (c : Dev Cert.AdiIdeal.nD) → Buf (Elt Ideal) ((c.tc : Thread Cert.AdiIdeal.nD Cert.AdiIdeal.τ).loc Cert.AdiIdeal.main_v0_1)) (v2 : (c : Dev Cert.AdiIdeal.nD) → Buf (Elt Ideal) ((c.tc : Thread Cert.AdiIdeal.nD Cert.AdiIdeal.τ).loc Cert.AdiIdeal.main_v0_2)),
      θ_run (Cert.AdiIdeal.defs (F := Ideal)) (onTc (τ := Cert.AdiIdeal.τ) (Cert.AdiIdeal.main (F := Ideal))) ⟨m, fun _ => 0, g⟩ (fun r => ∀ c : Dev Cert.AdiIdeal.nD,
          r.2.mem ((c.tc : Thread Cert.AdiIdeal.nD Cert.AdiIdeal.τ).loc Cert.AdiIdeal.main_v0_0) = v0 c
          ∧ r.2.mem ((c.tc : Thread Cert.AdiIdeal.nD Cert.AdiIdeal.τ).loc Cert.AdiIdeal.main_v0_1) = v1 c
          ∧ r.2.mem ((c.tc : Thread Cert.AdiIdeal.nD Cert.AdiIdeal.τ).loc Cert.AdiIdeal.main_v0_2) = v2 c
          ∧ r.2.mem ((c.tc : Thread Cert.AdiIdeal.nD Cert.AdiIdeal.τ).loc Cert.AdiIdeal.main_arg0) = m ((c.tc : Thread Cert.AdiIdeal.nD Cert.AdiIdeal.τ).loc Cert.AdiIdeal.main_arg0)
          ∧ r.2.mem ((c.tc : Thread Cert.AdiIdeal.nD Cert.AdiIdeal.τ).loc Cert.AdiIdeal.main_arg1) = m ((c.tc : Thread Cert.AdiIdeal.nD Cert.AdiIdeal.τ).loc Cert.AdiIdeal.main_arg1)
          ∧ r.2.mem ((c.tc : Thread Cert.AdiIdeal.nD Cert.AdiIdeal.τ).loc Cert.AdiIdeal.main_arg2) = m ((c.tc : Thread Cert.AdiIdeal.nD Cert.AdiIdeal.τ).loc Cert.AdiIdeal.main_arg2)
          ∧ r.2.mem ((c.tc : Thread Cert.AdiIdeal.nD Cert.AdiIdeal.τ).loc Cert.AdiIdeal.main_arg3) = m ((c.tc : Thread Cert.AdiIdeal.nD Cert.AdiIdeal.τ).loc Cert.AdiIdeal.main_arg3))
      ∧ θ_run (Cert.AdiRefIdeal.defs (F := Ideal)) (onTc (τ := Cert.AdiRefIdeal.τ) (Cert.AdiRefIdeal.main (F := Ideal))) ⟨m', fun _ => 0, g'⟩ (fun r => ∀ c : Dev Cert.AdiRefIdeal.nD,
          r.2.mem ((c.tc : Thread Cert.AdiRefIdeal.nD Cert.AdiRefIdeal.τ).loc Cert.AdiRefIdeal.main_v23) = v0 c
          ∧ r.2.mem ((c.tc : Thread Cert.AdiRefIdeal.nD Cert.AdiRefIdeal.τ).loc Cert.AdiRefIdeal.main_v4) = v1 c
          ∧ r.2.mem ((c.tc : Thread Cert.AdiRefIdeal.nD Cert.AdiRefIdeal.τ).loc Cert.AdiRefIdeal.main_v10) = v2 c
          ∧ r.2.mem ((c.tc : Thread Cert.AdiRefIdeal.nD Cert.AdiRefIdeal.τ).loc Cert.AdiRefIdeal.main_arg0) = m' ((c.tc : Thread Cert.AdiRefIdeal.nD Cert.AdiRefIdeal.τ).loc Cert.AdiRefIdeal.main_arg0)
          ∧ r.2.mem ((c.tc : Thread Cert.AdiRefIdeal.nD Cert.AdiRefIdeal.τ).loc Cert.AdiRefIdeal.main_arg1) = m' ((c.tc : Thread Cert.AdiRefIdeal.nD Cert.AdiRefIdeal.τ).loc Cert.AdiRefIdeal.main_arg1)
          ∧ r.2.mem ((c.tc : Thread Cert.AdiRefIdeal.nD Cert.AdiRefIdeal.τ).loc Cert.AdiRefIdeal.main_arg2) = m' ((c.tc : Thread Cert.AdiRefIdeal.nD Cert.AdiRefIdeal.τ).loc Cert.AdiRefIdeal.main_arg2)
          ∧ r.2.mem ((c.tc : Thread Cert.AdiRefIdeal.nD Cert.AdiRefIdeal.τ).loc Cert.AdiRefIdeal.main_arg3) = m' ((c.tc : Thread Cert.AdiRefIdeal.nD Cert.AdiRefIdeal.τ).loc Cert.AdiRefIdeal.main_arg3))

def algebraic_AdoIdeal_AdoRefIdeal [hAdoIdeal : Cert.AdoIdeal.Facts] [hAdoRefIdeal : Cert.AdoRefIdeal.Facts] : Prop :=
  ∀ (m : (ℓ : Loc Cert.AdoIdeal.nD Cert.AdoIdeal.τ Cert.AdoIdeal.sig) → Buf (Elt Ideal) ℓ) (g : Dev Cert.AdoIdeal.nD → PrngReg)
    (m' : (ℓ : Loc Cert.AdoRefIdeal.nD Cert.AdoRefIdeal.τ Cert.AdoRefIdeal.sig) → Buf (Elt Ideal) ℓ) (g' : Dev Cert.AdoRefIdeal.nD → PrngReg), Pre_AdoIdeal m →
    (∀ c : Dev Cert.AdoIdeal.nD,
      m' ((c.tc : Thread Cert.AdoRefIdeal.nD Cert.AdoRefIdeal.τ).loc Cert.AdoRefIdeal.main_arg0) = m ((c.tc : Thread Cert.AdoIdeal.nD Cert.AdoIdeal.τ).loc Cert.AdoIdeal.main_arg0)
      ∧ m' ((c.tc : Thread Cert.AdoRefIdeal.nD Cert.AdoRefIdeal.τ).loc Cert.AdoRefIdeal.main_arg1) = m ((c.tc : Thread Cert.AdoIdeal.nD Cert.AdoIdeal.τ).loc Cert.AdoIdeal.main_arg1)
      ∧ m' ((c.tc : Thread Cert.AdoRefIdeal.nD Cert.AdoRefIdeal.τ).loc Cert.AdoRefIdeal.main_arg2) = m ((c.tc : Thread Cert.AdoIdeal.nD Cert.AdoIdeal.τ).loc Cert.AdoIdeal.main_arg2)
      ∧ m' ((c.tc : Thread Cert.AdoRefIdeal.nD Cert.AdoRefIdeal.τ).loc Cert.AdoRefIdeal.main_arg3) = m ((c.tc : Thread Cert.AdoIdeal.nD Cert.AdoIdeal.τ).loc Cert.AdoIdeal.main_arg3)) →
    ∃ (v0 : (c : Dev Cert.AdoIdeal.nD) → Buf (Elt Ideal) ((c.tc : Thread Cert.AdoIdeal.nD Cert.AdoIdeal.τ).loc Cert.AdoIdeal.main_v0_0)) (v1 : (c : Dev Cert.AdoIdeal.nD) → Buf (Elt Ideal) ((c.tc : Thread Cert.AdoIdeal.nD Cert.AdoIdeal.τ).loc Cert.AdoIdeal.main_v0_1)) (v2 : (c : Dev Cert.AdoIdeal.nD) → Buf (Elt Ideal) ((c.tc : Thread Cert.AdoIdeal.nD Cert.AdoIdeal.τ).loc Cert.AdoIdeal.main_v0_2)),
      θ_run (Cert.AdoIdeal.defs (F := Ideal)) (onTc (τ := Cert.AdoIdeal.τ) (Cert.AdoIdeal.main (F := Ideal))) ⟨m, fun _ => 0, g⟩ (fun r => ∀ c : Dev Cert.AdoIdeal.nD,
          r.2.mem ((c.tc : Thread Cert.AdoIdeal.nD Cert.AdoIdeal.τ).loc Cert.AdoIdeal.main_v0_0) = v0 c
          ∧ r.2.mem ((c.tc : Thread Cert.AdoIdeal.nD Cert.AdoIdeal.τ).loc Cert.AdoIdeal.main_v0_1) = v1 c
          ∧ r.2.mem ((c.tc : Thread Cert.AdoIdeal.nD Cert.AdoIdeal.τ).loc Cert.AdoIdeal.main_v0_2) = v2 c
          ∧ r.2.mem ((c.tc : Thread Cert.AdoIdeal.nD Cert.AdoIdeal.τ).loc Cert.AdoIdeal.main_arg0) = m ((c.tc : Thread Cert.AdoIdeal.nD Cert.AdoIdeal.τ).loc Cert.AdoIdeal.main_arg0)
          ∧ r.2.mem ((c.tc : Thread Cert.AdoIdeal.nD Cert.AdoIdeal.τ).loc Cert.AdoIdeal.main_arg1) = m ((c.tc : Thread Cert.AdoIdeal.nD Cert.AdoIdeal.τ).loc Cert.AdoIdeal.main_arg1)
          ∧ r.2.mem ((c.tc : Thread Cert.AdoIdeal.nD Cert.AdoIdeal.τ).loc Cert.AdoIdeal.main_arg2) = m ((c.tc : Thread Cert.AdoIdeal.nD Cert.AdoIdeal.τ).loc Cert.AdoIdeal.main_arg2)
          ∧ r.2.mem ((c.tc : Thread Cert.AdoIdeal.nD Cert.AdoIdeal.τ).loc Cert.AdoIdeal.main_arg3) = m ((c.tc : Thread Cert.AdoIdeal.nD Cert.AdoIdeal.τ).loc Cert.AdoIdeal.main_arg3))
      ∧ θ_run (Cert.AdoRefIdeal.defs (F := Ideal)) (onTc (τ := Cert.AdoRefIdeal.τ) (Cert.AdoRefIdeal.main (F := Ideal))) ⟨m', fun _ => 0, g'⟩ (fun r => ∀ c : Dev Cert.AdoRefIdeal.nD,
          r.2.mem ((c.tc : Thread Cert.AdoRefIdeal.nD Cert.AdoRefIdeal.τ).loc Cert.AdoRefIdeal.main_v23) = v0 c
          ∧ r.2.mem ((c.tc : Thread Cert.AdoRefIdeal.nD Cert.AdoRefIdeal.τ).loc Cert.AdoRefIdeal.main_v4) = v1 c
          ∧ r.2.mem ((c.tc : Thread Cert.AdoRefIdeal.nD Cert.AdoRefIdeal.τ).loc Cert.AdoRefIdeal.main_v10) = v2 c
          ∧ r.2.mem ((c.tc : Thread Cert.AdoRefIdeal.nD Cert.AdoRefIdeal.τ).loc Cert.AdoRefIdeal.main_arg0) = m' ((c.tc : Thread Cert.AdoRefIdeal.nD Cert.AdoRefIdeal.τ).loc Cert.AdoRefIdeal.main_arg0)
          ∧ r.2.mem ((c.tc : Thread Cert.AdoRefIdeal.nD Cert.AdoRefIdeal.τ).loc Cert.AdoRefIdeal.main_arg1) = m' ((c.tc : Thread Cert.AdoRefIdeal.nD Cert.AdoRefIdeal.τ).loc Cert.AdoRefIdeal.main_arg1)
          ∧ r.2.mem ((c.tc : Thread Cert.AdoRefIdeal.nD Cert.AdoRefIdeal.τ).loc Cert.AdoRefIdeal.main_arg2) = m' ((c.tc : Thread Cert.AdoRefIdeal.nD Cert.AdoRefIdeal.τ).loc Cert.AdoRefIdeal.main_arg2)
          ∧ r.2.mem ((c.tc : Thread Cert.AdoRefIdeal.nD Cert.AdoRefIdeal.τ).loc Cert.AdoRefIdeal.main_arg3) = m' ((c.tc : Thread Cert.AdoRefIdeal.nD Cert.AdoRefIdeal.τ).loc Cert.AdoRefIdeal.main_arg3))

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v61_0)) (v1 : (c : Dev Cert.FfnIdeal.nD) → Buf (Elt Ideal) ((c.tc : Thread Cert.FfnIdeal.nD Cert.FfnIdeal.τ).loc Cert.FfnIdeal.main_v61_1)) (v2 : (c : Dev Cert.FfnIdeal.nD) → Buf (Elt Ideal) ((c.tc : Thread Cert.FfnIdeal.nD Cert.FfnIdeal.τ).loc Cert.FfnIdeal.main_v61_2)) (v3 : (c : Dev Cert.FfnIdeal.nD) → Buf (Elt Ideal) ((c.tc : Thread Cert.FfnIdeal.nD Cert.FfnIdeal.τ).loc Cert.FfnIdeal.main_v61_3)) (v4 : (c : Dev Cert.FfnIdeal.nD) → Buf (Elt Ideal) ((c.tc : Thread Cert.FfnIdeal.nD Cert.FfnIdeal.τ).loc Cert.FfnIdeal.main_v61_4)) (v5 : (c : Dev Cert.FfnIdeal.nD) → Buf (Elt Ideal) ((c.tc : Thread Cert.FfnIdeal.nD Cert.FfnIdeal.τ).loc Cert.FfnIdeal.main_v61_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v61_0) = v0 c
          ∧ r.2.mem ((c.tc : Thread Cert.FfnIdeal.nD Cert.FfnIdeal.τ).loc Cert.FfnIdeal.main_v61_1) = v1 c
          ∧ r.2.mem ((c.tc : Thread Cert.FfnIdeal.nD Cert.FfnIdeal.τ).loc Cert.FfnIdeal.main_v61_2) = v2 c
          ∧ r.2.mem ((c.tc : Thread Cert.FfnIdeal.nD Cert.FfnIdeal.τ).loc Cert.FfnIdeal.main_v61_3) = v3 c
          ∧ r.2.mem ((c.tc : Thread Cert.FfnIdeal.nD Cert.FfnIdeal.τ).loc Cert.FfnIdeal.main_v61_4) = v4 c
          ∧ r.2.mem ((c.tc : Thread Cert.FfnIdeal.nD Cert.FfnIdeal.τ).loc Cert.FfnIdeal.main_v61_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v124) = v0 c
          ∧ r.2.mem ((c.tc : Thread Cert.FfnRefIdeal.nD Cert.FfnRefIdeal.τ).loc Cert.FfnRefIdeal.main_v127) = v1 c
          ∧ r.2.mem ((c.tc : Thread Cert.FfnRefIdeal.nD Cert.FfnRefIdeal.τ).loc Cert.FfnRefIdeal.main_v128) = v2 c
          ∧ r.2.mem ((c.tc : Thread Cert.FfnRefIdeal.nD Cert.FfnRefIdeal.τ).loc Cert.FfnRefIdeal.main_v130) = v3 c
          ∧ r.2.mem ((c.tc : Thread Cert.FfnRefIdeal.nD Cert.FfnRefIdeal.τ).loc Cert.FfnRefIdeal.main_v117) = v4 c
          ∧ r.2.mem ((c.tc : Thread Cert.FfnRefIdeal.nD Cert.FfnRefIdeal.τ).loc Cert.FfnRefIdeal.main_v121) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def algebraic_CondIdeal_CondRefIdeal_pre_cond_finite [hCondIdeal : Cert.CondIdeal.Facts] [hCondRefIdeal : Cert.CondRefIdeal.Facts] [hPre_cond_finite : Cert.Pre_cond_finite.Facts] : Prop :=
  ∀ (m : (ℓ : Loc Cert.CondIdeal.nD Cert.CondIdeal.τ Cert.CondIdeal.sig) → Buf (Elt Ideal) ℓ) (g : Dev Cert.CondIdeal.nD → PrngReg)
    (m' : (ℓ : Loc Cert.CondRefIdeal.nD Cert.CondRefIdeal.τ Cert.CondRefIdeal.sig) → Buf (Elt Ideal) ℓ) (g' : Dev Cert.CondRefIdeal.nD → PrngReg), Pre_CondIdeal_cond_finite m →
    (∀ c : Dev Cert.CondIdeal.nD,
      m' ((c.tc : Thread Cert.CondRefIdeal.nD Cert.CondRefIdeal.τ).loc Cert.CondRefIdeal.main_arg0) = m ((c.tc : Thread Cert.CondIdeal.nD Cert.CondIdeal.τ).loc Cert.CondIdeal.main_arg0)
      ∧ m' ((c.tc : Thread Cert.CondRefIdeal.nD Cert.CondRefIdeal.τ).loc Cert.CondRefIdeal.main_arg1) = m ((c.tc : Thread Cert.CondIdeal.nD Cert.CondIdeal.τ).loc Cert.CondIdeal.main_arg1)) →
    ∃ (v0 : (c : Dev Cert.CondIdeal.nD) → Buf (Elt Ideal) ((c.tc : Thread Cert.CondIdeal.nD Cert.CondIdeal.τ).loc Cert.CondIdeal.main_v1)),
      θ_run (Cert.CondIdeal.defs (F := Ideal)) (onTc (τ := Cert.CondIdeal.τ) (Cert.CondIdeal.main (F := Ideal))) ⟨m, fun _ => 0, g⟩ (fun r => ∀ c : Dev Cert.CondIdeal.nD,
          r.2.mem ((c.tc : Thread Cert.CondIdeal.nD Cert.CondIdeal.τ).loc Cert.CondIdeal.main_v1) = v0 c
          ∧ r.2.mem ((c.tc : Thread Cert.CondIdeal.nD Cert.CondIdeal.τ).loc Cert.CondIdeal.main_arg0) = m ((c.tc : Thread Cert.CondIdeal.nD Cert.CondIdeal.τ).loc Cert.CondIdeal.main_arg0)
          ∧ r.2.mem ((c.tc : Thread Cert.CondIdeal.nD Cert.CondIdeal.τ).loc Cert.CondIdeal.main_arg1) = m ((c.tc : Thread Cert.CondIdeal.nD Cert.CondIdeal.τ).loc Cert.CondIdeal.main_arg1))
      ∧ θ_run (Cert.CondRefIdeal.defs (F := Ideal)) (onTc (τ := Cert.CondRefIdeal.τ) (Cert.CondRefIdeal.main (F := Ideal))) ⟨m', fun _ => 0, g'⟩ (fun r => ∀ c : Dev Cert.CondRefIdeal.nD,
          r.2.mem ((c.tc : Thread Cert.CondRefIdeal.nD Cert.CondRefIdeal.τ).loc Cert.CondRefIdeal.main_v7) = v0 c
          ∧ r.2.mem ((c.tc : Thread Cert.CondRefIdeal.nD Cert.CondRefIdeal.τ).loc Cert.CondRefIdeal.main_arg0) = m' ((c.tc : Thread Cert.CondRefIdeal.nD Cert.CondRefIdeal.τ).loc Cert.CondRefIdeal.main_arg0)
          ∧ r.2.mem ((c.tc : Thread Cert.CondRefIdeal.nD Cert.CondRefIdeal.τ).loc Cert.CondRefIdeal.main_arg1) = m' ((c.tc : Thread Cert.CondRefIdeal.nD Cert.CondRefIdeal.τ).loc Cert.CondRefIdeal.main_arg1))

def Claim : Prop :=
  ∃ (hMix : Cert.Mix.Facts) (hMixIdeal : Cert.MixIdeal.Facts) (hMixRefIdeal : Cert.MixRefIdeal.Facts) (hInp : Cert.Inp.Facts) (hInpIdeal : Cert.InpIdeal.Facts) (hInpRefIdeal : Cert.InpRefIdeal.Facts) (hFfn : Cert.Ffn.Facts) (hFfnIdeal : Cert.FfnIdeal.Facts) (hFfnRefIdeal : Cert.FfnRefIdeal.Facts) (hGff : Cert.Gff.Facts) (hGffIdeal : Cert.GffIdeal.Facts) (hGffRefIdeal : Cert.GffRefIdeal.Facts) (hGout : Cert.Gout.Facts) (hGoutIdeal : Cert.GoutIdeal.Facts) (hGoutRefIdeal : Cert.GoutRefIdeal.Facts) (hFwd : Cert.Fwd.Facts) (hFwdIdeal : Cert.FwdIdeal.Facts) (hFwdRefIdeal : Cert.FwdRefIdeal.Facts) (hGin : Cert.Gin.Facts) (hGinIdeal : Cert.GinIdeal.Facts) (hGinRefIdeal : Cert.GinRefIdeal.Facts) (hAdf : Cert.Adf.Facts) (hAdfIdeal : Cert.AdfIdeal.Facts) (hAdfRefIdeal : Cert.AdfRefIdeal.Facts) (hAdc : Cert.Adc.Facts) (hAdcIdeal : Cert.AdcIdeal.Facts) (hAdcRefIdeal : Cert.AdcRefIdeal.Facts) (hAdi : Cert.Adi.Facts) (hAdiIdeal : Cert.AdiIdeal.Facts) (hAdiRefIdeal : Cert.AdiRefIdeal.Facts) (hAdo : Cert.Ado.Facts) (hAdoIdeal : Cert.AdoIdeal.Facts) (hAdoRefIdeal : Cert.AdoRefIdeal.Facts) (hCond : Cert.Cond.Facts) (hCondIdeal : Cert.CondIdeal.Facts) (hCondRefIdeal : Cert.CondRefIdeal.Facts) (hPre_ffn_finite : Cert.Pre_ffn_finite.Facts) (hPre_cond_finite : Cert.Pre_cond_finite.Facts),
    quiescent_Mix (hMix := hMix)
    ∧ quiescent_MixIdeal (hMixIdeal := hMixIdeal)
    ∧ quiescent_MixRefIdeal (hMixRefIdeal := hMixRefIdeal)
    ∧ quiescent_Inp (hInp := hInp)
    ∧ quiescent_InpIdeal (hInpIdeal := hInpIdeal)
    ∧ quiescent_InpRefIdeal (hInpRefIdeal := hInpRefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Gff (hGff := hGff)
    ∧ quiescent_GffIdeal (hGffIdeal := hGffIdeal)
    ∧ quiescent_GffRefIdeal (hGffRefIdeal := hGffRefIdeal)
    ∧ quiescent_Gout (hGout := hGout)
    ∧ quiescent_GoutIdeal (hGoutIdeal := hGoutIdeal)
    ∧ quiescent_GoutRefIdeal (hGoutRefIdeal := hGoutRefIdeal)
    ∧ quiescent_Fwd (hFwd := hFwd)
    ∧ quiescent_FwdIdeal (hFwdIdeal := hFwdIdeal)
    ∧ quiescent_FwdRefIdeal (hFwdRefIdeal := hFwdRefIdeal)
    ∧ quiescent_Gin (hGin := hGin)
    ∧ quiescent_GinIdeal (hGinIdeal := hGinIdeal)
    ∧ quiescent_GinRefIdeal (hGinRefIdeal := hGinRefIdeal)
    ∧ quiescent_Adf (hAdf := hAdf)
    ∧ quiescent_AdfIdeal (hAdfIdeal := hAdfIdeal)
    ∧ quiescent_AdfRefIdeal (hAdfRefIdeal := hAdfRefIdeal)
    ∧ quiescent_Adc (hAdc := hAdc)
    ∧ quiescent_AdcIdeal (hAdcIdeal := hAdcIdeal)
    ∧ quiescent_AdcRefIdeal (hAdcRefIdeal := hAdcRefIdeal)
    ∧ quiescent_Adi (hAdi := hAdi)
    ∧ quiescent_AdiIdeal (hAdiIdeal := hAdiIdeal)
    ∧ quiescent_AdiRefIdeal (hAdiRefIdeal := hAdiRefIdeal)
    ∧ quiescent_Ado (hAdo := hAdo)
    ∧ quiescent_AdoIdeal (hAdoIdeal := hAdoIdeal)
    ∧ quiescent_AdoRefIdeal (hAdoRefIdeal := hAdoRefIdeal)
    ∧ quiescent_Cond (hCond := hCond)
    ∧ quiescent_CondIdeal (hCondIdeal := hCondIdeal)
    ∧ quiescent_CondIdeal_pre_cond_finite (hCondIdeal := hCondIdeal) (hPre_cond_finite := hPre_cond_finite)
    ∧ quiescent_CondRefIdeal (hCondRefIdeal := hCondRefIdeal)
    ∧ quiescent_CondRefIdeal_pre_cond_finite (hCondRefIdeal := hCondRefIdeal) (hPre_cond_finite := hPre_cond_finite)
    ∧ preserves_Mix_MixIdeal
    ∧ preserves_Inp_InpIdeal
    ∧ preserves_Ffn_FfnIdeal
    ∧ preserves_Gff_GffIdeal
    ∧ preserves_Gout_GoutIdeal
    ∧ preserves_Fwd_FwdIdeal
    ∧ preserves_Gin_GinIdeal
    ∧ preserves_Adf_AdfIdeal
    ∧ preserves_Adc_AdcIdeal
    ∧ preserves_Adi_AdiIdeal
    ∧ preserves_Ado_AdoIdeal
    ∧ preserves_Cond_CondIdeal
    ∧ algebraic_MixIdeal_MixRefIdeal (hMixIdeal := hMixIdeal) (hMixRefIdeal := hMixRefIdeal)
    ∧ algebraic_GffIdeal_GffRefIdeal (hGffIdeal := hGffIdeal) (hGffRefIdeal := hGffRefIdeal)
    ∧ algebraic_GoutIdeal_GoutRefIdeal (hGoutIdeal := hGoutIdeal) (hGoutRefIdeal := hGoutRefIdeal)
    ∧ algebraic_FwdIdeal_FwdRefIdeal (hFwdIdeal := hFwdIdeal) (hFwdRefIdeal := hFwdRefIdeal)
    ∧ algebraic_GinIdeal_GinRefIdeal (hGinIdeal := hGinIdeal) (hGinRefIdeal := hGinRefIdeal)
    ∧ algebraic_AdfIdeal_AdfRefIdeal (hAdfIdeal := hAdfIdeal) (hAdfRefIdeal := hAdfRefIdeal)
    ∧ algebraic_AdcIdeal_AdcRefIdeal (hAdcIdeal := hAdcIdeal) (hAdcRefIdeal := hAdcRefIdeal)
    ∧ algebraic_AdiIdeal_AdiRefIdeal (hAdiIdeal := hAdiIdeal) (hAdiRefIdeal := hAdiRefIdeal)
    ∧ algebraic_AdoIdeal_AdoRefIdeal (hAdoIdeal := hAdoIdeal) (hAdoRefIdeal := hAdoRefIdeal)
    ∧ algebraic_FfnIdeal_FfnRefIdeal_pre_ffn_finite (hFfnIdeal := hFfnIdeal) (hFfnRefIdeal := hFfnRefIdeal) (hPre_ffn_finite := hPre_ffn_finite)
    ∧ algebraic_CondIdeal_CondRefIdeal_pre_cond_finite (hCondIdeal := hCondIdeal) (hCondRefIdeal := hCondRefIdeal) (hPre_cond_finite := hPre_cond_finite)
-- ==== Pre_cond_finite.lean ====
abbrev S16x1024 : Shape := ⟨2, ![16, 1024]⟩
abbrev S16x1536 : Shape := ⟨2, ![16, 1536]⟩
abbrev S_ : Shape := ⟨0, ![]⟩

class Facts : Prop where
  bcast_S_S16x1024 : S_.BroadcastsInDim S16x1024 (![] : Fin 0 → Fin S16x1024.rank)
  bcast_S_S16x1536 : S_.BroadcastsInDim S16x1536 (![] : Fin 0 → Fin S16x1536.rank)

variable [Facts]

def fn {F : FTy → Type} [FloatOps F] (main_arg0 : FVec F S16x1024 .f32) (main_arg1 : FVec F S16x1536 .f32) : IVec S16x1024 1 × IVec S16x1536 1 :=
  let main_cst : FVec F S_ .f32 := constant S_ .f32 0xFF800000#32
  let main_v0 : FVec F S16x1024 .f32 := broadcastInDim S16x1024 ![] bcast_S_S16x1024 main_cst
  let main_v1 : IVec S16x1024 1 := cmpf .ogt main_arg0 main_v0
  let main_cst_0 : FVec F S_ .f32 := constant S_ .f32 0x7F800000#32
  let main_v2 : FVec F S16x1024 .f32 := broadcastInDim S16x1024 ![] bcast_S_S16x1024 main_cst_0
  let main_v3 : IVec S16x1024 1 := cmpf .olt main_arg0 main_v2
  let main_v4 : IVec S16x1024 1 := andi main_v1 main_v3
  let main_cst_1 : FVec F S_ .f32 := constant S_ .f32 0xFF800000#32
  let main_v5 : FVec F S16x1536 .f32 := broadcastInDim S16x1536 ![] bcast_S_S16x1536 main_cst_1
  let main_v6 : IVec S16x1536 1 := cmpf .ogt main_arg1 main_v5
  let main_cst_2 : FVec F S_ .f32 := constant S_ .f32 0x7F800000#32
  let main_v7 : FVec F S16x1536 .f32 := broadcastInDim S16x1536 ![] bcast_S_S16x1536 main_cst_2
  let main_v8 : IVec S16x1536 1 := cmpf .olt main_arg1 main_v7
  let main_v9 : IVec S16x1536 1 := andi main_v6 main_v8
  (main_v4, main_v9)
-- ==== Pre_ffn_finite.lean ====
abbrev S4096x1024 : Shape := ⟨2, ![4096, 1024]⟩
abbrev S2x6x1024 : Shape := ⟨3, ![2, 6, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S2x1x1024 : Shape := ⟨3, ![2, 1, 1024]⟩
abbrev S2x1024 : Shape := ⟨2, ![2, 1024]⟩

class Facts : Prop where
  bcast_S_S4096x1024 : S_.BroadcastsInDim S4096x1024 (![] : Fin 0 → Fin S4096x1024.rank)
  slices_S2x6x1024_S2x1x1024_0_3_0 : S2x6x1024.Slices ![0, 3, 0] S2x1x1024
  shapeCasts_S2x1x1024_S2x1024 : S2x1x1024.ShapeCasts S2x1024
  bcast_S_S2x1024 : S_.BroadcastsInDim S2x1024 (![] : Fin 0 → Fin S2x1024.rank)
  slices_S2x6x1024_S2x1x1024_0_4_0 : S2x6x1024.Slices ![0, 4, 0] S2x1x1024
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S1x1024 .f32) (main_arg8 : FVec F S1024x2816 .f32) (main_arg9 : FVec F S2816x1024 .f32) (main_v4 : IVec S4096x1024 1) (main_v11 : IVec S2x1024 1) (main_v15 : IVec S2x1024 1) (main_v17 : IVec S2x1024 1) : IVec S4096x1024 1 × IVec S2x1024 1 × IVec S2x1024 1 × IVec S1x1024 1 × IVec S1024x2816 1 × IVec S2816x1024 1 :=
  let main_v18 : IVec S2x1024 1 := andi main_v15 main_v17
  let main_cst_5 : FVec F S_ .f32 := constant S_ .f32 0xFF800000#32
  let main_v19 : FVec F S1x1024 .f32 := broadcastInDim S1x1024 ![] bcast_S_S1x1024 main_cst_5
  let main_v20 : IVec S1x1024 1 := cmpf .ogt main_arg6 main_v19
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_arg6 main_v21
  let main_v23 : IVec S1x1024 1 := andi main_v20 main_v22
  let main_cst_7 : FVec F S_ .f32 := constant S_ .f32 0xFF800000#32
  let main_v24 : FVec F S1024x2816 .f32 := broadcastInDim S1024x2816 ![] bcast_S_S1024x2816 main_cst_7
  let main_v25 : IVec S1024x2816 1 := cmpf .ogt main_arg8 main_v24
  let main_cst_8 : FVec F S_ .f32 := constant S_ .f32 0x7F800000#32
  let main_v26 : FVec F S1024x2816 .f32 := broadcastInDim S1024x2816 ![] bcast_S_S1024x2816 main_cst_8
  let main_v27 : IVec S1024x2816 1 := cmpf .olt main_arg8 main_v26
  let main_v28 : IVec S1024x2816 1 := andi main_v25 main_v27
  let main_cst_9 : FVec F S_ .f32 := constant S_ .f32 0xFF800000#32
  let main_v29 : FVec F S2816x1024 .f32 := broadcastInDim S2816x1024 ![] bcast_S_S2816x1024 main_cst_9
  let main_v30 : IVec S2816x1024 1 := cmpf .ogt main_arg9 main_v29
  let main_cst_10 : FVec F S_ .f32 := constant S_ .f32 0x7F800000#32
  let main_v31 : FVec F S2816x1024 .f32 := broadcastInDim S2816x1024 ![] bcast_S_S2816x1024 main_cst_10
  let main_v32 : IVec S2816x1024 1 := cmpf .olt main_arg9 main_v31
  let main_v33 : IVec S2816x1024 1 := andi main_v30 main_v32
  (main_v4, main_v11, main_v18, main_v23, main_v28, main_v33)

def fn {F : FTy → Type} [FloatOps F] (main_arg0 : FVec F S4096x1024 .bf16) (main_arg1 : FVec F S4096x1024 .f32) (main_arg2 : FVec F S4096x1024 .f32) (main_arg3 : FVec F S4096x1024 .f32) (main_arg4 : FVec F S2x6x1024 .f32) (main_arg5 : FVec F S1x1024 .f32) (main_arg6 : FVec F S1x1024 .f32) (main_arg7 : FVec F S1024x2816 .f32) (main_arg8 : FVec F S1024x2816 .f32) (main_arg9 : FVec F S2816x1024 .f32) : IVec S4096x1024 1 × IVec S2x1024 1 × IVec S2x1024 1 × IVec S1x1024 1 × IVec S1024x2816 1 × IVec S2816x1024 1 :=
  let main_cst : FVec F S_ .bf16 := constant S_ .bf16 0xFF80#16
  let main_v0 : FVec F S4096x1024 .bf16 := broadcastInDim S4096x1024 ![] bcast_S_S4096x1024 main_cst
  let main_v1 : IVec S4096x1024 1 := cmpf .ogt main_arg0 main_v0
  let main_cst_0 : FVec F S_ .bf16 := constant S_ .bf16 0x7F80#16
  let main_v2 : FVec F S4096x1024 .bf16 := broadcastInDim S4096x1024 ![] bcast_S_S4096x1024 main_cst_0
  let main_v3 : IVec S4096x1024 1 := cmpf .olt main_arg0 main_v2
  let main_v4 : IVec S4096x1024 1 := andi main_v1 main_v3
  let main_v5 : FVec F S2x1x1024 .f32 := (extractStridedSlice S2x1x1024 ![0, 3, 0] · slices_S2x6x1024_S2x1x1024_0_3_0) main_arg4
  let main_v6 : FVec F S2x1024 .f32 := shapeCast S2x1024 main_v5 shapeCasts_S2x1x1024_S2x1024
  let main_cst_1 : FVec F S_ .f32 := constant S_ .f32 0xFF800000#32
  let main_v7 : FVec F S2x1024 .f32 := broadcastInDim S2x1024 ![] bcast_S_S2x1024 main_cst_1
  let main_v8 : IVec S2x1024 1 := cmpf .ogt main_v6 main_v7
  let main_cst_2 : FVec F S_ .f32 := constant S_ .f32 0x7F800000#32
  let main_v9 : FVec F S2x1024 .f32 := broadcastInDim S2x1024 ![] bcast_S_S2x1024 main_cst_2
  let main_v10 : IVec S2x1024 1 := cmpf .olt main_v6 main_v9
  let main_v11 : IVec S2x1024 1 := andi main_v8 main_v10
  let main_v12 : FVec F S2x1x1024 .f32 := (extractStridedSlice S2x1x1024 ![0, 4, 0] · slices_S2x6x1024_S2x1x1024_0_4_0) main_arg4
  let main_v13 : FVec F S2x1024 .f32 := shapeCast S2x1024 main_v12 shapeCasts_S2x1x1024_S2x1024
  let main_cst_3 : FVec F S_ .f32 := constant S_ .f32 0xFF800000#32
  let main_v14 : FVec F S2x1024 .f32 := broadcastInDim S2x1024 ![] bcast_S_S2x1024 main_cst_3
  let main_v15 : IVec S2x1024 1 := cmpf .ogt main_v13 main_v14
  let main_cst_4 : FVec F S_ .f32 := constant S_ .f32 0x7F800000#32
  let main_v16 : FVec F S2x1024 .f32 := broadcastInDim S2x1024 ![] bcast_S_S2x1024 main_cst_4
  let main_v17 : IVec S2x1024 1 := cmpf .olt main_v13 main_v16
  fn_part1 (F := F) main_arg6 main_arg8 main_arg9 main_v4 main_v11 main_v15 main_v17
-- ==== Mix.lean ====
abbrev S4096x1024 : Shape := ⟨2, ![4096, 1024]⟩
abbrev S4096x512 : Shape := ⟨2, ![4096, 512]⟩
abbrev S4x128x128 : Shape := ⟨3, ![4, 128, 128]⟩
abbrev S1x512 : Shape := ⟨2, ![1, 512]⟩
abbrev S1024x1024 : Shape := ⟨2, ![1024, 1024]⟩
abbrev S8x512 : Shape := ⟨2, ![8, 512]⟩
abbrev S512x1024 : Shape := ⟨2, ![512, 1024]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4x128x128, .f32⟩
  | .hbm, ⟨3, _⟩ => ⟨S1x512, .f32⟩
  | .hbm, ⟨4, _⟩ => ⟨S1024x1024, .f32⟩
  | .hbm, ⟨5, _⟩ => ⟨S1024x1024, .bf16⟩
  | .hbm, ⟨6, _⟩ => ⟨S4096x512, .bf16⟩
  | .hbm, ⟨7, _⟩ => ⟨S4096x512, .f32⟩
  | .hbm, ⟨8, _⟩ => ⟨S8x512, .f32⟩
  | .hbm, ⟨9, _⟩ => ⟨S4x128x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .bf16⟩
  | .local _ .vmem, ⟨4, _⟩ => ⟨S512x512, .bf16⟩
  | .local _ .vmem, ⟨5, _⟩ => ⟨S4x128x128, .f32⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | .local _ .vmem, ⟨9, _⟩ => ⟨S512x512, .f32⟩
  | .local _ .vmem, ⟨10, _⟩ => ⟨S512x512, .f32⟩
  | .local _ .vmem, ⟨11, _⟩ => ⟨S8x512, .f32⟩
  | .local _ .vmem, ⟨12, _⟩ => ⟨S4x128x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixRefIdeal.lean ====
abbrev S4096x1024 : Shape := ⟨2, ![4096, 1024]⟩
abbrev S4096x512 : Shape := ⟨2, ![4096, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩
abbrev S4096x4x128 : Shape := ⟨3, ![4096, 4, 128]⟩
abbrev S4x128x4096 : Shape := ⟨3, ![4, 128, 4096]⟩
abbrev S512 : Shape := ⟨1, ![512]⟩
abbrev S4x4096x128 : Shape := ⟨3, ![4, 4096, 128]⟩
abbrev S7x512 : Shape := ⟨2, ![7, 512]⟩
abbrev S8x512 : Shape := ⟨2, ![8, 512]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4x128x128, .f32⟩
  | .hbm, ⟨3, _⟩ => ⟨S1x512, .f32⟩
  | .hbm, ⟨4, _⟩ => ⟨S1024x1024, .f32⟩
  | .hbm, ⟨5, _⟩ => ⟨S_, .f32⟩
  | .hbm, ⟨6, _⟩ => ⟨S4096x512, .f32⟩
  | .hbm, ⟨7, _⟩ => ⟨S4096x512, .f32⟩
  | .hbm, ⟨8, _⟩ => ⟨S4096x4x128, .f32⟩
  | .hbm, ⟨9, _⟩ => ⟨S4x128x4096, .f32⟩
  | .hbm, ⟨10, _⟩ => ⟨S4096x4x128, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S512, .f32⟩
  | .hbm, ⟨23, _⟩ => ⟨S1x512, .f32⟩
  | .hbm, ⟨24, _⟩ => ⟨S4096x512, .f32⟩
  | .hbm, ⟨25, _⟩ => ⟨S4096x512, .f32⟩
  | .hbm, ⟨26, _⟩ => ⟨S4096x4x128, .f32⟩
  | .hbm, ⟨27, _⟩ => ⟨S4x128x4096, .f32⟩
  | .hbm, ⟨28, _⟩ => ⟨S4x4096x128, .f32⟩
  | .hbm, ⟨29, _⟩ => ⟨S4096x4x128, .f32⟩
  | .hbm, ⟨30, _⟩ => ⟨S4x128x128, .f32⟩
  | .hbm, ⟨31, _⟩ => ⟨S4x128x128, .f32⟩
  | .hbm, ⟨32, _⟩ => ⟨S4096x512, .f32⟩
  | .hbm, ⟨33, _⟩ => ⟨S4096x512, .bf16⟩
  | .hbm, ⟨34, _⟩ => ⟨S_, .f32⟩
  | .hbm, ⟨35, _⟩ => ⟨S7x512, .f32⟩
  | .hbm, ⟨36, _⟩ => ⟨S8x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Inp.lean ====
abbrev S4096x512 : Shape := ⟨2, ![4096, 512]⟩
abbrev S4096x1024 : Shape := ⟨2, ![4096, 1024]⟩
abbrev S2x6x1024 : Shape := ⟨3, ![2, 6, 1024]⟩
abbrev S1x1024 : Shape := ⟨2, ![1, 1024]⟩
abbrev S1024x2048 : Shape := ⟨2, ![1024, 2048]⟩
abbrev S_ : Shape := ⟨0, ![]⟩
abbrev S2x2x1024 : Shape := ⟨3, ![2, 2, 1024]⟩
abbrev S2x8x1024 : Shape := ⟨3, ![2, 8, 1024]⟩
abbrev S1024x4x512 : Shape := ⟨3, ![1024, 4, 512]⟩
abbrev S4x1024x512 : Shape := ⟨3, ![4, 1024, 512]⟩
abbrev S8x1024 : Shape := ⟨2, ![8, 1024]⟩
abbrev S512x512 : Shape := ⟨2, ![512, 512]⟩
abbrev S16x512 : Shape := ⟨2, ![16, 512]⟩
abbrev S512x1024 : Shape := ⟨2, ![512, 1024]⟩
abbrev S1x8x1024 : Shape := ⟨3, ![1, 8, 1024]⟩
abbrev S512x1 : Shape := ⟨2, ![512, 1]⟩
abbrev S512x128 : Shape := ⟨2, ![512, 128]⟩
abbrev S16x128 : Shape := ⟨2, ![16, 128]⟩
abbrev S528x512 : Shape := ⟨2, ![528, 512]⟩
abbrev S512x528 : Shape := ⟨2, ![512, 528]⟩
abbrev S528x128 : Shape := ⟨2, ![528, 128]⟩
abbrev S1x1x1024 : Shape := ⟨3, ![1, 1, 1024]⟩
abbrev S256x512 : Shape := ⟨2, ![256, 512]⟩
abbrev S1x1024x512 : Shape := ⟨3, ![1, 1024, 512]⟩
abbrev S1024x512 : Shape := ⟨2, ![1024, 512]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 19
  | .vmem => 25
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S2x6x1024, .f32⟩
  | .hbm, ⟨7, _⟩ => ⟨S1x1024, .f32⟩
  | .hbm, ⟨8, _⟩ => ⟨S1024x2048, .f32⟩
  | .hbm, ⟨9, _⟩ => ⟨S_, .f32⟩
  | .hbm, ⟨10, _⟩ => ⟨S2x2x1024, .f32⟩
  | .hbm, ⟨11, _⟩ => ⟨S2x8x1024, .f32⟩
  | .hbm, ⟨12, _⟩ => ⟨S1024x4x512, .f32⟩
  | .hbm, ⟨13, _⟩ => ⟨S4x1024x512, .f32⟩
  | .hbm, ⟨14, _⟩ => ⟨S4x1024x512, .bf16⟩
  | .hbm, ⟨15, _⟩ => ⟨S4096x1024, .f32⟩
  | .hbm, ⟨16, _⟩ => ⟨S4096x512, .bf16⟩
  | .hbm, ⟨17, _⟩ => ⟨S2x8x1024, .f32⟩
  | .hbm, ⟨18, _⟩ => ⟨S8x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S16x512, .f32⟩
  | .local _ .vmem, ⟨9, _⟩ => ⟨S16x512, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x8x1024, .f32⟩
  | .local _ .vmem, ⟨15, _⟩ => ⟨S1x8x1024, .f32⟩
  | .local _ .vmem, ⟨16, _⟩ => ⟨S1x1024, .f32⟩
  | .local _ .vmem, ⟨17, _⟩ => ⟨S4x1024x512, .bf16⟩
  | .local _ .vmem, ⟨18, _⟩ => ⟨S512x1024, .f32⟩
  | .local _ .vmem, ⟨19, _⟩ => ⟨S512x1024, .f32⟩
  | .local _ .vmem, ⟨20, _⟩ => ⟨S512x512, .bf16⟩
  | .local _ .vmem, ⟨21, _⟩ => ⟨S512x512, .bf16⟩
  | .local _ .vmem, ⟨22, _⟩ => ⟨S1x8x1024, .f32⟩
  | .local _ .vmem, ⟨23, _⟩ => ⟨S1x8x1024, .f32⟩
  | .local _ .vmem, ⟨24, _⟩ => ⟨S8x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InpRefIdeal.lean ====
abbrev S4096x512 : Shape := ⟨2, ![4096, 512]⟩
abbrev S4096x1024 : Shape := ⟨2, ![4096, 1024]⟩
abbrev S2x6x1024 : Shape := ⟨3, ![2, 6, 1024]⟩
abbrev S1x1024 : Shape := ⟨2, ![1, 1024]⟩
abbrev S1024x2048 : Shape := ⟨2, ![1024, 2048]⟩
abbrev S_ : Shape := ⟨0, ![]⟩
abbrev S2x2048x512 : Shape := ⟨3, ![2, 2048, 512]⟩
abbrev S2x1x512 : Shape := ⟨3, ![2, 1, 512]⟩
abbrev S2x2049x512 : Shape := ⟨3, ![2, 2049, 512]⟩
abbrev S2048 : Shape := ⟨1, ![2048]⟩
abbrev S2x2049x128 : Shape := ⟨3, ![2, 2049, 128]⟩
abbrev S2x2048x128 : Shape := ⟨3, ![2, 2048, 128]⟩
abbrev S2048x1 : Shape := ⟨2, ![2048, 1]⟩
abbrev S1x2048x1 : Shape := ⟨3, ![1, 2048, 1]⟩
abbrev S2x2048x1x128 : Shape := ⟨4, ![2, 2048, 1, 128]⟩
abbrev S2x2048x4x128 : Shape := ⟨4, ![2, 2048, 4, 128]⟩
abbrev S2x2048x2048 : Shape := ⟨3, ![2, 2048, 2048]⟩
abbrev S2x2048x1024 : Shape := ⟨3, ![2, 2048, 1024]⟩
abbrev S2x1x1024 : Shape := ⟨3, ![2, 1, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S2x8x1024 : Shape := ⟨3, ![2, 8, 1024]⟩
abbrev S7x1024 : Shape := ⟨2, ![7, 1024]⟩
abbrev S8x1024 : Shape := ⟨2, ![8, 1024]⟩

abbrev nBuf : Space → Nat
  | .hbm => 312
  | .vmem => 0
  | .smem => 0
  | _ => 0

abbrev hbmTy0_0 (i : Nat) : BufTy := match i % 128 with
  | 0 => ⟨S4096x512, .bf16⟩
  | 1 => ⟨S4096x512, .bf16⟩
  | 2 => ⟨S4096x512, .bf16⟩
  | 3 => ⟨S4096x512, .f32⟩
  | 4 => ⟨S4096x1024, .f32⟩
  | 5 => ⟨S4096x1024, .f32⟩
  | 6 => ⟨S2x6x1024, .f32⟩
  | 7 => ⟨S1x1024, .f32⟩
  | 8 => ⟨S1024x2048, .f32⟩
  | 9 => ⟨S_, .f32⟩
  | 10 => ⟨S2x2048x512, .f32⟩
  | 11 => ⟨S_, .f32⟩
  | 12 => ⟨S2x1x512, .f32⟩
  | 13 => ⟨S_, .f32⟩
  | 14 => ⟨S_, .f32⟩
  | 15 => ⟨S2x2048x512, .f32⟩
  | 16 => ⟨S2x2049x512, .f32⟩
  | 17 => ⟨S_, .f32⟩
  | 18 => ⟨S2x1x512, .f32⟩
  | 19 => ⟨S2048, .i32⟩
  | 20 => ⟨S_, .i32⟩
  | 21 => ⟨S2048, .i32⟩
  | 22 => ⟨S2048, .i32⟩
  | 23 => ⟨S_, .i32⟩
  | 24 => ⟨S2048, .i32⟩
  | 25 => ⟨S2048, .i32⟩
  | 26 => ⟨S_, .i32⟩
  | 27 => ⟨S2048, .i32⟩
  | 28 => ⟨S2048, .i32⟩
  | 29 => ⟨S_, .i32⟩
  | 30 => ⟨S2048, .i32⟩
  | 31 => ⟨S2048, .i32⟩
  | 32 => ⟨S2048, .i32⟩
  | 33 => ⟨S2048, .f32⟩
  | 34 => ⟨S2x2049x128, .f32⟩
  | 35 => ⟨S2x2048x128, .f32⟩
  | 36 => ⟨S_, .i32⟩
  | 37 => ⟨S2048, .i32⟩
  | 38 => ⟨S2048, .i1⟩
  | 39 => ⟨S_, .i32⟩
  | 40 => ⟨S2048, .i32⟩
  | 41 => ⟨S2048, .i32⟩
  | 42 => ⟨S2048, .i32⟩
  | 43 => ⟨S2048x1, .i32⟩
  | 44 => ⟨S2x2048x128, .f32⟩
  | 45 => ⟨S2x2048x128, .f32⟩
  | 46 => ⟨S1x2048x1, .f32⟩
  | 47 => ⟨S2x2048x128, .f32⟩
  | 48 => ⟨S2x2048x128, .f32⟩
  | 49 => ⟨S2x2048x128, .f32⟩
  | 50 => ⟨S2x2048x128, .f32⟩
  | 51 => ⟨S_, .i32⟩
  | 52 => ⟨S2048, .i32⟩
  | 53 => ⟨S2048, .i32⟩
  | 54 => ⟨S_, .i32⟩
  | 55 => ⟨S2048, .i32⟩
  | 56 => ⟨S2048, .i32⟩
  | 57 => ⟨S_, .i32⟩
  | 58 => ⟨S2048, .i32⟩
  | 59 => ⟨S2048, .i32⟩
  | 60 => ⟨S_, .i32⟩
  | 61 => ⟨S2048, .i32⟩
  | 62 => ⟨S2048, .i32⟩
  | 63 => ⟨S2048, .i32⟩
  | 64 => ⟨S2048, .f32⟩
  | 65 => ⟨S2x2049x128, .f32⟩
  | 66 => ⟨S2x2048x128, .f32⟩
  | 67 => ⟨S_, .i32⟩
  | 68 => ⟨S2048, .i32⟩
  | 69 => ⟨S2048, .i1⟩
  | 70 => ⟨S_, .i32⟩
  | 71 => ⟨S2048, .i32⟩
  | 72 => ⟨S2048, .i32⟩
  | 73 => ⟨S2048, .i32⟩
  | 74 => ⟨S2048x1, .i32⟩
  | 75 => ⟨S2x2048x128, .f32⟩
  | 76 => ⟨S2x2048x128, .f32⟩
  | 77 => ⟨S1x2048x1, .f32⟩
  | 78 => ⟨S2x2048x128, .f32⟩
  | 79 => ⟨S2x2048x128, .f32⟩
  | 80 => ⟨S2x2048x128, .f32⟩
  | 81 => ⟨S2x2048x128, .f32⟩
  | 82 => ⟨S_, .i32⟩
  | 83 => ⟨S2048, .i32⟩
  | 84 => ⟨S2048, .i32⟩
  | 85 => ⟨S_, .i32⟩
  | 86 => ⟨S2048, .i32⟩
  | 87 => ⟨S2048, .i32⟩
  | 88 => ⟨S_, .i32⟩
  | 89 => ⟨S2048, .i32⟩
  | 90 => ⟨S2048, .i32⟩
  | 91 => ⟨S_, .i32⟩
  | 92 => ⟨S2048, .i32⟩
  | 93 => ⟨S2048, .i32⟩
  | 94 => ⟨S2048, .i32⟩
  | 95 => ⟨S2048, .f32⟩
  | 96 => ⟨S2x2049x128, .f32⟩
  | 97 => ⟨S2x2048x128, .f32⟩
  | 98 => ⟨S_, .i32⟩
  | 99 => ⟨S2048, .i32⟩
  | 100 => ⟨S2048, .i1⟩
  | 101 => ⟨S_, .i32⟩
  | 102 => ⟨S2048, .i32⟩
  | 103 => ⟨S2048, .i32⟩
  | 104 => ⟨S2048, .i32⟩
  | 105 => ⟨S2048x1, .i32⟩
  | 106 => ⟨S2x2048x128, .f32⟩
  | 107 => ⟨S2x2048x128, .f32⟩
  | 108 => ⟨S1x2048x1, .f32⟩
  | 109 => ⟨S2x2048x128, .f32⟩
  | 110 => ⟨S2x2048x128, .f32⟩
  | 111 => ⟨S2x2048x128, .f32⟩
  | 112 => ⟨S2x2048x128, .f32⟩
  | 113 => ⟨S_, .i32⟩
  | 114 => ⟨S2048, .i32⟩
  | 115 => ⟨S2048, .i32⟩
  | 116 => ⟨S_, .i32⟩
  | 117 => ⟨S2048, .i32⟩
  | 118 => ⟨S2048, .i32⟩
  | 119 => ⟨S_, .i32⟩
  | 120 => ⟨S2048, .i32⟩
  | 121 => ⟨S2048, .i32⟩
  | 122 => ⟨S_, .i32⟩
  | 123 => ⟨S2048, .i32⟩
  | 124 => ⟨S2048, .i32⟩
  | 125 => ⟨S2048, .i32⟩
  | 126 => ⟨S2048, .f32⟩
  | 127 => ⟨S2x2049x128, .f32⟩
  | _ => ⟨S4096x512, .bf16⟩

abbrev hbmTy0_1 (i : Nat) : BufTy := match i % 128 with
  | 0 => ⟨S2x2048x128, .f32⟩
  | 1 => ⟨S_, .i32⟩
  | 2 => ⟨S2048, .i32⟩
  | 3 => ⟨S2048, .i1⟩
  | 4 => ⟨S_, .i32⟩
  | 5 => ⟨S2048, .i32⟩
  | 6 => ⟨S2048, .i32⟩
  | 7 => ⟨S2048, .i32⟩
  | 8 => ⟨S2048x1, .i32⟩
  | 9 => ⟨S2x2048x128, .f32⟩
  | 10 => ⟨S2x2048x128, .f32⟩
  | 11 => ⟨S1x2048x1, .f32⟩
  | 12 => ⟨S2x2048x128, .f32⟩
  | 13 => ⟨S2x2048x128, .f32⟩
  | 14 => ⟨S2x2048x128, .f32⟩
  | 15 => ⟨S2x2048x128, .f32⟩
  | 16 => ⟨S2x2048x1x128, .f32⟩
  | 17 => ⟨S2x2048x1x128, .f32⟩
  | 18 => ⟨S2x2048x1x128, .f32⟩
  | 19 => ⟨S2x2048x1x128, .f32⟩
  | 20 => ⟨S2x2048x4x128, .f32⟩
  | 21 => ⟨S2x2048x4x128, .f32⟩
  | 22 => ⟨S2x2048x1x128, .f32⟩
  | 23 => ⟨S2x2048x128, .f32⟩
  | 24 => ⟨S2x2048x1x128, .f32⟩
  | 25 => ⟨S2x2048x128, .f32⟩
  | 26 => ⟨S2x2048x1x128, .f32⟩
  | 27 => ⟨S2x2048x128, .f32⟩
  | 28 => ⟨S2x2048x1x128, .f32⟩
  | 29 => ⟨S2x2048x128, .f32⟩
  | 30 => ⟨S2x2048x128, .f32⟩
  | 31 => ⟨S_, .f32⟩
  | 32 => ⟨S2x2048x512, .f32⟩
  | 33 => ⟨S2x2048x128, .f32⟩
  | 34 => ⟨S2x2048x128, .f32⟩
  | 35 => ⟨S2x2048x128, .f32⟩
  | 36 => ⟨S_, .f32⟩
  | 37 => ⟨S2x2049x128, .f32⟩
  | 38 => ⟨S2x2049x128, .f32⟩
  | 39 => ⟨S_, .f32⟩
  | 40 => ⟨S2x2049x128, .f32⟩
  | 41 => ⟨S2x2049x128, .f32⟩
  | 42 => ⟨S_, .f32⟩
  | 43 => ⟨S2x2049x512, .f32⟩
  | 44 => ⟨S2x2048x128, .f32⟩
  | 45 => ⟨S_, .f32⟩
  | 46 => ⟨S2x2048x512, .f32⟩
  | 47 => ⟨S2x2048x512, .f32⟩
  | 48 => ⟨S2x2048x128, .f32⟩
  | 49 => ⟨S2x2048x128, .f32⟩
  | 50 => ⟨S2x2048x128, .f32⟩
  | 51 => ⟨S_, .f32⟩
  | 52 => ⟨S2x2049x128, .f32⟩
  | 53 => ⟨S2x2049x128, .f32⟩
  | 54 => ⟨S_, .f32⟩
  | 55 => ⟨S2x2049x128, .f32⟩
  | 56 => ⟨S2x2049x128, .f32⟩
  | 57 => ⟨S_, .f32⟩
  | 58 => ⟨S2x2049x512, .f32⟩
  | 59 => ⟨S2x2049x512, .f32⟩
  | 60 => ⟨S2x2048x128, .f32⟩
  | 61 => ⟨S_, .f32⟩
  | 62 => ⟨S2x2048x512, .f32⟩
  | 63 => ⟨S2x2048x512, .f32⟩
  | 64 => ⟨S2x2048x128, .f32⟩
  | 65 => ⟨S2x2048x128, .f32⟩
  | 66 => ⟨S2x2048x128, .f32⟩
  | 67 => ⟨S_, .f32⟩
  | 68 => ⟨S2x2049x128, .f32⟩
  | 69 => ⟨S2x2049x128, .f32⟩
  | 70 => ⟨S_, .f32⟩
  | 71 => ⟨S2x2049x128, .f32⟩
  | 72 => ⟨S2x2049x128, .f32⟩
  | 73 => ⟨S_, .f32⟩
  | 74 => ⟨S2x2049x512, .f32⟩
  | 75 => ⟨S2x2049x512, .f32⟩
  | 76 => ⟨S2x2048x128, .f32⟩
  | 77 => ⟨S_, .f32⟩
  | 78 => ⟨S2x2048x512, .f32⟩
  | 79 => ⟨S2x2048x512, .f32⟩
  | 80 => ⟨S2x2048x128, .f32⟩
  | 81 => ⟨S2x2048x128, .f32⟩
  | 82 => ⟨S2x2048x128, .f32⟩
  | 83 => ⟨S_, .f32⟩
  | 84 => ⟨S2x2049x128, .f32⟩
  | 85 => ⟨S2x2049x128, .f32⟩
  | 86 => ⟨S_, .f32⟩
  | 87 => ⟨S2x2049x128, .f32⟩
  | 88 => ⟨S2x2049x128, .f32⟩
  | 89 => ⟨S_, .f32⟩
  | 90 => ⟨S2x2049x512, .f32⟩
  | 91 => ⟨S2x2049x512, .f32⟩
  | 92 => ⟨S2x1x512, .f32⟩
  | 93 => ⟨S2x2048x512, .f32⟩
  | 94 => ⟨S_, .f32⟩
  | 95 => ⟨S_, .f32⟩
  | 96 => ⟨S2x2048x512, .f32⟩
  | 97 => ⟨S2x2048x512, .f32⟩
  | 98 => ⟨S4096x512, .f32⟩
  | 99 => ⟨S2x2048x512, .f32⟩
  | 100 => ⟨S4096x512, .f32⟩
  | 101 => ⟨S2x2048x512, .f32⟩
  | 102 => ⟨S4096x512, .f32⟩
  | 103 => ⟨S2x2048x512, .f32⟩
  | 104 => ⟨S2x2048x2048, .f32⟩
  | 105 => ⟨S2x2048x1024, .f32⟩
  | 106 => ⟨S2x1x1024, .f32⟩
  | 107 => ⟨S2x1x1024, .f32⟩
  | 108 => ⟨S1024, .f32⟩
  | 109 => ⟨S2x2048x1024, .f32⟩
  | 110 => ⟨S_, .f32⟩
  | 111 => ⟨S2x2048, .f32⟩
  | 112 => ⟨S2x2048x1, .f32⟩
  | 113 => ⟨S_, .f32⟩
  | 114 => ⟨S2x2048x1, .f32⟩
  | 115 => ⟨S2x2048x1, .f32⟩
  | 116 => ⟨S_, .f32⟩
  | 117 => ⟨S2x2048x1, .f32⟩
  | 118 => ⟨S2x2048x1, .f32⟩
  | 119 => ⟨S2x2048x1, .f32⟩
  | 120 => ⟨S2x2048x1, .f32⟩
  | 121 => ⟨S_, .f32⟩
  | 122 => ⟨S2x2048x1, .f32⟩
  | 123 => ⟨S2x2048x1, .f32⟩
  | 124 => ⟨S2x2048x1024, .f32⟩
  | 125 => ⟨S2x2048x1024, .f32⟩
  | 126 => ⟨S1x1x1024, .f32⟩
  | 127 => ⟨S2x2048x1024, .f32⟩
  | _ => ⟨S4096x512, .bf16⟩

abbrev hbmTy0_2 (i : Nat) : BufTy := match i % 128 with
  | 0 => ⟨S2x2048x1024, .f32⟩
  | 1 => ⟨S_, .f32⟩
  | 2 => ⟨S2x1x1024, .f32⟩
  | 3 => ⟨S2x1x1024, .f32⟩
  | 4 => ⟨S2x2048x1024, .f32⟩
  | 5 => ⟨S2x2048x1024, .f32⟩
  | 6 => ⟨S2x2048x1024, .f32⟩
  | 7 => ⟨S2x2048x1024, .f32⟩
  | 8 => ⟨S2x2048x2048, .f32⟩
  | 9 => ⟨S2x2048x1024, .f32⟩
  | 10 => ⟨S2x2048x1024, .f32⟩
  | 11 => ⟨S_, .f32⟩
  | 12 => ⟨S2x1024, .f32⟩
  | 13 => ⟨S2x1x1024, .f32⟩
  | 14 => ⟨S2x2048x1024, .f32⟩
  | 15 => ⟨S_, .f32⟩
  | 16 => ⟨S2x1024, .f32⟩
  | 17 => ⟨S2x1x1024, .f32⟩
  | 18 => ⟨S2x2048x1024, .f32⟩
  | 19 => ⟨S2x2048x1024, .f32⟩
  | 20 => ⟨S2x2048x1024, .f32⟩
  | 21 => ⟨S_, .f32⟩
  | 22 => ⟨S1024, .f32⟩
  | 23 => ⟨S1x1x1024, .f32⟩
  | 24 => ⟨S2x2048x1024, .f32⟩
  | 25 => ⟨S2x2048x1024, .f32⟩
  | 26 => ⟨S_, .f32⟩
  | 27 => ⟨S1024, .f32⟩
  | 28 => ⟨S2x2048x1024, .f32⟩
  | 29 => ⟨S_, .f32⟩
  | 30 => ⟨S2x2048, .f32⟩
  | 31 => ⟨S2x2048x1, .f32⟩
  | 32 => ⟨S2x2048x1024, .f32⟩
  | 33 => ⟨S2x2048x1024, .f32⟩
  | 34 => ⟨S2x2048x1024, .f32⟩
  | 35 => ⟨S2x2048x1, .f32⟩
  | 36 => ⟨S_, .f32⟩
  | 37 => ⟨S2x2048x1, .f32⟩
  | 38 => ⟨S2x2048x1, .f32⟩
  | 39 => ⟨S_, .f32⟩
  | 40 => ⟨S2x2048, .f32⟩
  | 41 => ⟨S2x2048x1024, .f32⟩
  | 42 => ⟨S2x2048x1024, .f32⟩
  | 43 => ⟨S2x2048x1024, .f32⟩
  | 44 => ⟨S2x2048x1024, .f32⟩
  | 45 => ⟨S2x2048x1024, .f32⟩
  | 46 => ⟨S_, .f32⟩
  | 47 => ⟨S2x6x1024, .f32⟩
  | 48 => ⟨S2x8x1024, .f32⟩
  | 49 => ⟨S1x1024, .f32⟩
  | 50 => ⟨S_, .f32⟩
  | 51 => ⟨S7x1024, .f32⟩
  | 52 => ⟨S8x1024, .f32⟩
  | 53 => ⟨S4096x1024, .f32⟩
  | 54 => ⟨S4096x512, .f32⟩
  | 55 => ⟨S4096x512, .bf16⟩
  | _ => ⟨S4096x512, .bf16⟩

abbrev hbmTy (i : Nat) : BufTy := match i / 128 with
  | 0 => hbmTy0_0 i
  | 1 => hbmTy0_1 i
  | 2 => hbmTy0_2 i
  | _ => ⟨S4096x512, .bf16⟩

abbrev bufTy : (tb : Table) → Fin (tcTables nBuf tb) → BufTy
  | .hbm, ⟨i, _⟩ => hbmTy i
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_call0_call0_cst : Ref sig .tc := ⟨.hbm, 13, rfl⟩
abbrev main_call0_call0_v0 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_c_3 : Ref sig .tc := ⟨.hbm, 26, rfl⟩
abbrev main_v10 : Ref sig .tc := ⟨.hbm, 27, rfl⟩
abbrev main_v11 : Ref sig .tc := ⟨.hbm, 28, rfl⟩
abbrev main_c_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_c_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_11 : Ref sig .tc := ⟨.hbm, 67, rfl⟩
abbrev main_v43 : Ref sig .tc := ⟨.hbm, 68, rfl⟩
abbrev main_v44 : Ref sig .tc := ⟨.hbm, 69, rfl⟩
abbrev main_c_12 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_13 : Ref sig .tc := ⟨.hbm, 82, rfl⟩
abbrev main_v56 : Ref sig .tc := ⟨.hbm, 83, rfl⟩
abbrev main_v57 : Ref sig .tc := ⟨.hbm, 84, rfl⟩
abbrev main_c_14 : Ref sig .tc := ⟨.hbm, 85, rfl⟩
abbrev main_v58 : Ref sig .tc := ⟨.hbm, 86, rfl⟩
abbrev main_v59 : Ref sig .tc := ⟨.hbm, 87, rfl⟩
abbrev main_c_15 : Ref sig .tc := ⟨.hbm, 88, rfl⟩
abbrev main_v60 : Ref sig .tc := ⟨.hbm, 89, rfl⟩
abbrev main_v61 : Ref sig .tc := ⟨.hbm, 90, rfl⟩
abbrev main_c_16 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_17 : Ref sig .tc := ⟨.hbm, 98, rfl⟩
abbrev main_v68 : Ref sig .tc := ⟨.hbm, 99, rfl⟩
abbrev main_v69 : Ref sig .tc := ⟨.hbm, 100, rfl⟩
abbrev main_c_18 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_19 : Ref sig .tc := ⟨.hbm, 113, rfl⟩
abbrev main_v81 : Ref sig .tc := ⟨.hbm, 114, rfl⟩
abbrev main_v82 : Ref sig .tc := ⟨.hbm, 115, rfl⟩
abbrev main_c_20 : Ref sig .tc := ⟨.hbm, 116, rfl⟩
abbrev main_v83 : Ref sig .tc := ⟨.hbm, 117, rfl⟩
abbrev main_v84 : Ref sig .tc := ⟨.hbm, 118, rfl⟩
abbrev main_c_21 : Ref sig .tc := ⟨.hbm, 119, rfl⟩
abbrev main_v85 : Ref sig .tc := ⟨.hbm, 120, rfl⟩
abbrev main_v86 : Ref sig .tc := ⟨.hbm, 121, rfl⟩
abbrev main_c_22 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_23 : Ref sig .tc := ⟨.hbm, 129, rfl⟩
abbrev main_v93 : Ref sig .tc := ⟨.hbm, 130, rfl⟩
abbrev main_v94 : Ref sig .tc := ⟨.hbm, 131, rfl⟩
abbrev main_c_24 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_25 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_26 : Ref sig .tc := ⟨.hbm, 164, rfl⟩
abbrev main_v125 : Ref sig .tc := ⟨.hbm, 165, rfl⟩
abbrev main_v126 : Ref sig .tc := ⟨.hbm, 166, rfl⟩
abbrev main_cst_27 : Ref sig .tc := ⟨.hbm, 167, rfl⟩
abbrev main_v127 : Ref sig .tc := ⟨.hbm, 168, rfl⟩
abbrev main_v128 : Ref sig .tc := ⟨.hbm, 169, rfl⟩
abbrev main_cst_28 : Ref sig .tc := ⟨.hbm, 170, rfl⟩
abbrev main_v129 : Ref sig .tc := ⟨.hbm, 171, rfl⟩
abbrev main_v130 : Ref sig .tc := ⟨.hbm, 172, rfl⟩
abbrev main_cst_29 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_30 : Ref sig .tc := ⟨.hbm, 179, rfl⟩
abbrev main_v136 : Ref sig .tc := ⟨.hbm, 180, rfl⟩
abbrev main_v137 : Ref sig .tc := ⟨.hbm, 181, rfl⟩
abbrev main_cst_31 : Ref sig .tc := ⟨.hbm, 182, rfl⟩
abbrev main_v138 : Ref sig .tc := ⟨.hbm, 183, rfl⟩
abbrev main_v139 : Ref sig .tc := ⟨.hbm, 184, rfl⟩
abbrev main_cst_32 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_cst_33 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_cst_34 : Ref sig .tc := ⟨.hbm, 195, rfl⟩
abbrev main_v148 : Ref sig .tc := ⟨.hbm, 196, rfl⟩
abbrev main_v149 : Ref sig .tc := ⟨.hbm, 197, rfl⟩
abbrev main_cst_35 : Ref sig .tc := ⟨.hbm, 198, rfl⟩
abbrev main_v150 : Ref sig .tc := ⟨.hbm, 199, rfl⟩
abbrev main_v151 : Ref sig .tc := ⟨.hbm, 200, rfl⟩
abbrev main_cst_36 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_37 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_cst_38 : Ref sig .tc := ⟨.hbm, 211, rfl⟩
abbrev main_v160 : Ref sig .tc := ⟨.hbm, 212, rfl⟩
abbrev main_v161 : Ref sig .tc := ⟨.hbm, 213, rfl⟩
abbrev main_cst_39 : Ref sig .tc := ⟨.hbm, 214, rfl⟩
abbrev main_v162 : Ref sig .tc := ⟨.hbm, 215, rfl⟩
abbrev main_v163 : Ref sig .tc := ⟨.hbm, 216, rfl⟩
abbrev main_cst_40 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_call1_call0_cst : Ref sig .tc := ⟨.hbm, 222, rfl⟩
abbrev main_call1_call0_v0 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_cst_41 : Ref sig .tc := ⟨.hbm, 238, rfl⟩
abbrev main_v182 : Ref sig .tc := ⟨.hbm, 239, rfl⟩
abbrev main_v183 : Ref sig .tc := ⟨.hbm, 240, rfl⟩
abbrev main_cst_42 : Ref sig .tc := ⟨.hbm, 241, rfl⟩
abbrev main_v184 : Ref sig .tc := ⟨.hbm, 242, rfl⟩
abbrev main_v185 : Ref sig .tc := ⟨.hbm, 243, rfl⟩
abbrev main_cst_43 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_cst_44 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_cst_45 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_cst_46 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_cst_47 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_cst_48 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_cst_49 : Ref sig .tc := ⟨.hbm, 282, rfl⟩
abbrev main_v218 : Ref sig .tc := ⟨.hbm, 283, rfl⟩
abbrev main_v219 : Ref sig .tc := ⟨.hbm, 284, rfl⟩
abbrev main_cst_50 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_cst_51 : Ref sig .tc := ⟨.hbm, 292, rfl⟩
abbrev main_v226 : Ref sig .tc := ⟨.hbm, 293, rfl⟩
abbrev main_v227 : Ref sig .tc := ⟨.hbm, 294, rfl⟩
abbrev main_cst_52 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_cst_53 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_cst_54 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩

abbrev nD : Nat := 1
abbrev τ : Topo := Topo.v7x

variable {F : FTy → Type} [FloatOps F]
-- ==== Ffn.lean ====
abbrev S4096x1024 : Shape := ⟨2, ![4096, 1024]⟩
abbrev S2x6x1024 : Shape := ⟨3, ![2, 6, 1024]⟩
abbrev S1x1024 : Shape := ⟨2, ![1, 1024]⟩
abbrev S1024x2816 : Shape := ⟨2, ![1024, 2816]⟩
abbrev S2816x1024 : Shape := ⟨2, ![2816, 1024]⟩
abbrev S2x2048x1024 : Shape := ⟨3, ![2, 2048, 1024]⟩
abbrev S2x1x1024 : Shape := ⟨3, ![2, 1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2x1024 : Shape := ⟨3, ![2, 2, 1024]⟩
abbrev S2x8x1024 : Shape := ⟨3, ![2, 8, 1024]⟩
abbrev S2x2048x2816 : Shape := ⟨3, ![2, 2048, 2816]⟩
abbrev S4096x4x704 : Shape := ⟨3, ![4096, 4, 704]⟩
abbrev S4x4096x704 : Shape := ⟨3, ![4, 4096, 704]⟩
abbrev S4x704x1024 : Shape := ⟨3, ![4, 704, 1024]⟩
abbrev S8x1024 : Shape := ⟨2, ![8, 1024]⟩
abbrev S512x1024 : Shape := ⟨2, ![512, 1024]⟩
abbrev S1x512x704 : Shape := ⟨3, ![1, 512, 704]⟩
abbrev S1x704x1024 : Shape := ⟨3, ![1, 704, 1024]⟩
abbrev S1x8x1024 : Shape := ⟨3, ![1, 8, 1024]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩
abbrev S512 : Shape := ⟨1, ![512]⟩
abbrev S512x1 : Shape := ⟨2, ![512, 1]⟩

abbrev nBuf : Space → Nat
  | .hbm => 85
  | .vmem => 34
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S2x6x1024, .f32⟩
  | .hbm, ⟨5, _⟩ => ⟨S1x1024, .f32⟩
  | .hbm, ⟨6, _⟩ => ⟨S1x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S2x2048x1024, .f32⟩
  | .hbm, ⟨11, _⟩ => ⟨S2x2048x1024, .f32⟩
  | .hbm, ⟨12, _⟩ => ⟨S2x1x1024, .f32⟩
  | .hbm, ⟨13, _⟩ => ⟨S1024, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S1024, .f32⟩
  | .hbm, ⟨34, _⟩ => ⟨S2x2048x1024, .f32⟩
  | .hbm, ⟨35, _⟩ => ⟨S_, .f32⟩
  | .hbm, ⟨36, _⟩ => ⟨S2x2048, .f32⟩
  | .hbm, ⟨37, _⟩ => ⟨S2x2048x1, .f32⟩
  | .hbm, ⟨38, _⟩ => ⟨S_, .f32⟩
  | .hbm, ⟨39, _⟩ => ⟨S2x2048x1, .f32⟩
  | .hbm, ⟨40, _⟩ => ⟨S2x2048x1, .f32⟩
  | .hbm, ⟨41, _⟩ => ⟨S_, .f32⟩
  | .hbm, ⟨42, _⟩ => ⟨S2x2048x1, .f32⟩
  | .hbm, ⟨43, _⟩ => ⟨S2x2048x1, .f32⟩
  | .hbm, ⟨44, _⟩ => ⟨S2x2048x1, .f32⟩
  | .hbm, ⟨45, _⟩ => ⟨S2x2048x1024, .f32⟩
  | .hbm, ⟨46, _⟩ => ⟨S2x2048x1024, .f32⟩
  | .hbm, ⟨47, _⟩ => ⟨S1x1x1024, .f32⟩
  | .hbm, ⟨48, _⟩ => ⟨S2x2048x1024, .f32⟩
  | .hbm, ⟨49, _⟩ => ⟨S2x2048x1024, .f32⟩
  | .hbm, ⟨50, _⟩ => ⟨S2x1x1024, .f32⟩
  | .hbm, ⟨51, _⟩ => ⟨S_, .f32⟩
  | .hbm, ⟨52, _⟩ => ⟨S2x1x1024, .f32⟩
  | .hbm, ⟨53, _⟩ => ⟨S2x1x1024, .f32⟩
  | .hbm, ⟨54, _⟩ => ⟨S2x2048x1024, .f32⟩
  | .hbm, ⟨55, _⟩ => ⟨S2x2048x1024, .f32⟩
  | .hbm, ⟨56, _⟩ => ⟨S2x1x1024, .f32⟩
  | .hbm, ⟨57, _⟩ => ⟨S2x2048x1024, .f32⟩
  | .hbm, ⟨58, _⟩ => ⟨S2x2048x1024, .f32⟩
  | .hbm, ⟨59, _⟩ => ⟨S_, .f32⟩
  | .hbm, ⟨60, _⟩ => ⟨S2x2x1024, .f32⟩
  | .hbm, ⟨61, _⟩ => ⟨S2x8x1024, .f32⟩
  | .hbm, ⟨62, _⟩ => ⟨S2x2048x2816, .f32⟩
  | .hbm, ⟨63, _⟩ => ⟨S4096x4x704, .f32⟩
  | .hbm, ⟨64, _⟩ => ⟨S4x4096x704, .f32⟩
  | .hbm, ⟨65, _⟩ => ⟨S4x4096x704, .bf16⟩
  | .hbm, ⟨66, _⟩ => ⟨S2x2048x2816, .f32⟩
  | .hbm, ⟨67, _⟩ => ⟨S4096x4x704, .f32⟩
  | .hbm, ⟨68, _⟩ => ⟨S4x4096x704, .f32⟩
  | .hbm, ⟨69, _⟩ => ⟨S4x4096x704, .bf16⟩
  | .hbm, ⟨70, _⟩ => ⟨S4x704x1024, .f32⟩
  | .hbm, ⟨71, _⟩ => ⟨S4x704x1024, .bf16⟩
  | .hbm, ⟨72, _⟩ => ⟨S2816x1024, .f32⟩
  | .hbm, ⟨73, _⟩ => ⟨S4x704x1024, .f32⟩
  | .hbm, ⟨74, _⟩ => ⟨S4x704x1024, .bf16⟩
  | .hbm, ⟨75, _⟩ => ⟨S2816x1024, .f32⟩
  | .hbm, ⟨76, _⟩ => ⟨S4x704x1024, .f32⟩
  | .hbm, ⟨77, _⟩ => ⟨S4x704x1024, .bf16⟩
  | .hbm, ⟨78, _⟩ => ⟨S4096x1024, .f32⟩
  | .hbm, ⟨79, _⟩ => ⟨S4x4096x704, .bf16⟩
  | .hbm, ⟨80, _⟩ => ⟨S4x4096x704, .bf16⟩
  | .hbm, ⟨81, _⟩ => ⟨S4096x1024, .f32⟩
  | .hbm, ⟨82, _⟩ => ⟨S4096x1024, .bf16⟩
  | .hbm, ⟨83, _⟩ => ⟨S2x8x1024, .f32⟩
  | .hbm, ⟨84, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S1x512x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x8x1024, .f32⟩
  | .local _ .vmem, ⟨19, _⟩ => ⟨S1x8x1024, .f32⟩
  | .local _ .vmem, ⟨20, _⟩ => ⟨S1x1024, .f32⟩
  | .local _ .vmem, ⟨21, _⟩ => ⟨S1x1024, .f32⟩
  | .local _ .vmem, ⟨22, _⟩ => ⟨S1x512x704, .bf16⟩
  | .local _ .vmem, ⟨23, _⟩ => ⟨S1x512x704, .bf16⟩
  | .local _ .vmem, ⟨24, _⟩ => ⟨S1x512x704, .bf16⟩
  | .local _ .vmem, ⟨25, _⟩ => ⟨S1x512x704, .bf16⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | .local _ .vmem, ⟨30, _⟩ => ⟨S1x8x1024, .f32⟩
  | .local _ .vmem, ⟨31, _⟩ => ⟨S1x8x1024, .f32⟩
  | .local _ .vmem, ⟨32, _⟩ => ⟨S8x1024, .f32⟩
  | .local _ .vmem, ⟨33, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61_0 : Ref sig .tc := ⟨.hbm, 79, rfl⟩
abbrev main_v61_1 : Ref sig .tc := ⟨.hbm, 80, rfl⟩
abbrev main_v61_2 : Ref sig .tc := ⟨.hbm, 81, rfl⟩
abbrev main_v61_3 : Ref sig .tc := ⟨.hbm, 82, rfl⟩
abbrev main_v61_4 : Ref sig .tc := ⟨.hbm, 83, rfl⟩
abbrev main_v61_5 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v97 : BitVec 1 := Scalar.cmpi .eq arg1 c3_i32
  let v98 : BitVec 32 := Scalar.extui v97
  let c0_i32_68 : BitVec 32 := 0#32
  let v99 : BitVec 1 := Scalar.cmpi .ne v98 c0_i32_68
  v99

def k0_cond4 (i : grid0.Coords) : BitVec 1 :=
  let arg0 : BitVec 32 := BitVec.ofNat 32 (i 0).val
  let c4_i32 : BitVec 32 := 4#32
  let c0_i32_71 : BitVec 32 := 0#32
  let v103 : BitVec 1 := Scalar.cmpi .eq c4_i32 c0_i32_71
  let c1_i32 : BitVec 32 := 1#32
  let v104 : BitVec 32 := Scalar.select v103 c1_i32 c4_i32
  let v105 : BitVec 32 := Scalar.remsi arg0 v104
  let c0_i32_73 : BitVec 32 := 0#32
  let v107 : BitVec 1 := Scalar.cmpi .slt v105 c0_i32_73
  let c0_i32_74 : BitVec 32 := 0#32
  let v108 : BitVec 1 := Scalar.cmpi .slt v104 c0_i32_74
  let v109 : BitVec 1 := Scalar.xori v107 v108
  let c0_i32_72 : BitVec 32 := 0#32
  let v106 : BitVec 1 := Scalar.cmpi .ne v105 c0_i32_72
  let v110 : BitVec 1 := Scalar.andi v109 v106
  let v111 : BitVec 32 := Scalar.addi v105 v104
  let v112 : BitVec 32 := Scalar.select v110 v111 v105
  let c0_i32_75 : BitVec 32 := 0#32
  let v113 : BitVec 1 := Scalar.cmpi .eq v112 c0_i32_75
  let v114 : BitVec 32 := Scalar.extui v113
  let c0_i32_76 : BitVec 32 := 0#32
  let v115 : BitVec 1 := Scalar.cmpi .ne v114 c0_i32_76
  v115

def k0_cond3 (i : grid0.Coords) : BitVec 1 :=
  let arg0 : BitVec 32 := BitVec.ofNat 32 (i 0).val
  let c0_i32_69 : BitVec 32 := 0#32
  let v100 : BitVec 1 := Scalar.cmpi .eq arg0 c0_i32_69
  let v101 : BitVec 32 := Scalar.extui v100
  let c0_i32_70 : BitVec 32 := 0#32
  let v102 : BitVec 1 := Scalar.cmpi .ne v101 c0_i32_70
  v102

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== FfnRefIdeal.lean ====
abbrev S4096x1024 : Shape := ⟨2, ![4096, 1024]⟩
abbrev S2x6x1024 : Shape := ⟨3, ![2, 6, 1024]⟩
abbrev S1x1024 : Shape := ⟨2, ![1, 1024]⟩
abbrev S1024x2816 : Shape := ⟨2, ![1024, 2816]⟩
abbrev S2816x1024 : Shape := ⟨2, ![2816, 1024]⟩
abbrev S2x2048x1024 : Shape := ⟨3, ![2, 2048, 1024]⟩
abbrev S2x1x1024 : Shape := ⟨3, ![2, 1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S2x1024 : Shape := ⟨2, ![2, 1024]⟩
abbrev S2x5x1024 : Shape := ⟨3, ![2, 5, 1024]⟩
abbrev S2x8x1024 : Shape := ⟨3, ![2, 8, 1024]⟩
abbrev S6x1024 : Shape := ⟨2, ![6, 1024]⟩
abbrev S8x1024 : Shape := ⟨2, ![8, 1024]⟩
abbrev S4096x4x704 : Shape := ⟨3, ![4096, 4, 704]⟩
abbrev S4x4096x704 : Shape := ⟨3, ![4, 4096, 704]⟩

abbrev nBuf : Space → Nat
  | .hbm => 180
  | .vmem => 0
  | .smem => 0
  | _ => 0

abbrev hbmTy0_0 (i : Nat) : BufTy := match i % 128 with
  | 0 => ⟨S4096x1024, .bf16⟩
  | 1 => ⟨S4096x1024, .f32⟩
  | 2 => ⟨S4096x1024, .f32⟩
  | 3 => ⟨S4096x1024, .f32⟩
  | 4 => ⟨S2x6x1024, .f32⟩
  | 5 => ⟨S1x1024, .f32⟩
  | 6 => ⟨S1x1024, .f32⟩
  | 7 => ⟨S1024x2816, .f32⟩
  | 8 => ⟨S1024x2816, .f32⟩
  | 9 => ⟨S2816x1024, .f32⟩
  | 10 => ⟨S2x2048x1024, .f32⟩
  | 11 => ⟨S2x2048x1024, .f32⟩
  | 12 => ⟨S2x1x1024, .f32⟩
  | 13 => ⟨S2x1x1024, .f32⟩
  | 14 => ⟨S2x1x1024, .f32⟩
  | 15 => ⟨S1024, .f32⟩
  | 16 => ⟨S1024, .f32⟩
  | 17 => ⟨S2x2048x1024, .f32⟩
  | 18 => ⟨S_, .f32⟩
  | 19 => ⟨S2x2048, .f32⟩
  | 20 => ⟨S2x2048x1, .f32⟩
  | 21 => ⟨S_, .f32⟩
  | 22 => ⟨S2x2048x1, .f32⟩
  | 23 => ⟨S2x2048x1, .f32⟩
  | 24 => ⟨S_, .f32⟩
  | 25 => ⟨S2x2048x1, .f32⟩
  | 26 => ⟨S2x2048x1, .f32⟩
  | 27 => ⟨S2x2048x1, .f32⟩
  | 28 => ⟨S2x2048x1, .f32⟩
  | 29 => ⟨S_, .f32⟩
  | 30 => ⟨S2x2048x1, .f32⟩
  | 31 => ⟨S2x2048x1, .f32⟩
  | 32 => ⟨S2x2048x1024, .f32⟩
  | 33 => ⟨S2x2048x1024, .f32⟩
  | 34 => ⟨S1x1x1024, .f32⟩
  | 35 => ⟨S2x2048x1024, .f32⟩
  | 36 => ⟨S2x2048x1024, .f32⟩
  | 37 => ⟨S2x2048x1024, .f32⟩
  | 38 => ⟨S2x2048x1024, .f32⟩
  | 39 => ⟨S2x2048x1024, .f32⟩
  | 40 => ⟨S2x2048x1024, .f32⟩
  | 41 => ⟨S_, .f32⟩
  | 42 => ⟨S2x2048, .f32⟩
  | 43 => ⟨S2x2048x1, .f32⟩
  | 44 => ⟨S_, .f32⟩
  | 45 => ⟨S2x2048x1, .f32⟩
  | 46 => ⟨S2x2048x1, .f32⟩
  | 47 => ⟨S_, .f32⟩
  | 48 => ⟨S2x2048x1, .f32⟩
  | 49 => ⟨S2x2048x1, .f32⟩
  | 50 => ⟨S2x2048x1, .f32⟩
  | 51 => ⟨S2x2048x1, .f32⟩
  | 52 => ⟨S_, .f32⟩
  | 53 => ⟨S2x2048x1, .f32⟩
  | 54 => ⟨S2x2048x1, .f32⟩
  | 55 => ⟨S2x2048x1024, .f32⟩
  | 56 => ⟨S2x2048x1024, .f32⟩
  | 57 => ⟨S1x1x1024, .f32⟩
  | 58 => ⟨S2x2048x1024, .f32⟩
  | 59 => ⟨S2x2048x1024, .f32⟩
  | 60 => ⟨S_, .f32⟩
  | 61 => ⟨S2x1x1024, .f32⟩
  | 62 => ⟨S2x1x1024, .f32⟩
  | 63 => ⟨S2x2048x1024, .f32⟩
  | 64 => ⟨S2x2048x1024, .f32⟩
  | 65 => ⟨S2x2048x1024, .f32⟩
  | 66 => ⟨S2x2048x1024, .f32⟩
  | 67 => ⟨S2x2048x2816, .f32⟩
  | 68 => ⟨S2x2048x2816, .f32⟩
  | 69 => ⟨S2x2048x2816, .f32⟩
  | 70 => ⟨S2x2048x2816, .f32⟩
  | 71 => ⟨S_, .f32⟩
  | 72 => ⟨S2x2048x2816, .f32⟩
  | 73 => ⟨S2x2048x2816, .f32⟩
  | 74 => ⟨S_, .f32⟩
  | 75 => ⟨S2x2048x2816, .f32⟩
  | 76 => ⟨S2x2048x2816, .f32⟩
  | 77 => ⟨S_, .f32⟩
  | 78 => ⟨S2x2048x2816, .f32⟩
  | 79 => ⟨S2x2048x2816, .f32⟩
  | 80 => ⟨S2x2048x2816, .f32⟩
  | 81 => ⟨S2x2048x2816, .f32⟩
  | 82 => ⟨S2x2048x2816, .f32⟩
  | 83 => ⟨S2x2048x1024, .f32⟩
  | 84 => ⟨S4096x1024, .f32⟩
  | 85 => ⟨S2x2048x1024, .f32⟩
  | 86 => ⟨S2x2048x2816, .f32⟩
  | 87 => ⟨S2x2048x2816, .f32⟩
  | 88 => ⟨S2x2048x2816, .f32⟩
  | 89 => ⟨S2x2048x2816, .f32⟩
  | 90 => ⟨S2x2048x2816, .f32⟩
  | 91 => ⟨S2x2048x2816, .f32⟩
  | 92 => ⟨S2x2048x2816, .f32⟩
  | 93 => ⟨S2x2048x1024, .f32⟩
  | 94 => ⟨S2x2048x1024, .f32⟩
  | 95 => ⟨S2x2048x1024, .f32⟩
  | 96 => ⟨S2x2048x1024, .f32⟩
  | 97 => ⟨S_, .f32⟩
  | 98 => ⟨S2x1024, .f32⟩
  | 99 => ⟨S2x1x1024, .f32⟩
  | 100 => ⟨S2x2048x1024, .f32⟩
  | 101 => ⟨S_, .f32⟩
  | 102 => ⟨S2x1024, .f32⟩
  | 103 => ⟨S2x1x1024, .f32⟩
  | 104 => ⟨S2x2048x1024, .f32⟩
  | 105 => ⟨S2x2048x1024, .f32⟩
  | 106 => ⟨S2x2048x1024, .f32⟩
  | 107 => ⟨S_, .f32⟩
  | 108 => ⟨S1024, .f32⟩
  | 109 => ⟨S1x1x1024, .f32⟩
  | 110 => ⟨S2x2048x1024, .f32⟩
  | 111 => ⟨S2x2048x1024, .f32⟩
  | 112 => ⟨S_, .f32⟩
  | 113 => ⟨S1024, .f32⟩
  | 114 => ⟨S2x2048x1024, .f32⟩
  | 115 => ⟨S_, .f32⟩
  | 116 => ⟨S2x2048, .f32⟩
  | 117 => ⟨S2x2048x1, .f32⟩
  | 118 => ⟨S2x2048x1024, .f32⟩
  | 119 => ⟨S2x2048x1024, .f32⟩
  | 120 => ⟨S2x2048x1024, .f32⟩
  | 121 => ⟨S2x2048x1, .f32⟩
  | 122 => ⟨S_, .f32⟩
  | 123 => ⟨S2x2048x1, .f32⟩
  | 124 => ⟨S2x2048x1, .f32⟩
  | 125 => ⟨S_, .f32⟩
  | 126 => ⟨S2x2048, .f32⟩
  | 127 => ⟨S2x2048x1024, .f32⟩
  | _ => ⟨S4096x1024, .bf16⟩

abbrev hbmTy0_1 (i : Nat) : BufTy := match i % 128 with
  | 0 => ⟨S2x2048x1024, .f32⟩
  | 1 => ⟨S2x2048x1024, .f32⟩
  | 2 => ⟨S2x2048x1024, .f32⟩
  | 3 => ⟨S2x2048x1024, .f32⟩
  | 4 => ⟨S2x2048x1024, .f32⟩
  | 5 => ⟨S2x2048x1024, .f32⟩
  | 6 => ⟨S2x2048x1024, .f32⟩
  | 7 => ⟨S_, .f32⟩
  | 8 => ⟨S2x1024, .f32⟩
  | 9 => ⟨S2x1x1024, .f32⟩
  | 10 => ⟨S2x2048x1024, .f32⟩
  | 11 => ⟨S_, .f32⟩
  | 12 => ⟨S1024, .f32⟩
  | 13 => ⟨S1x1x1024, .f32⟩
  | 14 => ⟨S2x2048x1024, .f32⟩
  | 15 => ⟨S2x2048x1024, .f32⟩
  | 16 => ⟨S_, .f32⟩
  | 17 => ⟨S1024, .f32⟩
  | 18 => ⟨S2x2048x1024, .f32⟩
  | 19 => ⟨S_, .f32⟩
  | 20 => ⟨S2x2048, .f32⟩
  | 21 => ⟨S2x2048x1, .f32⟩
  | 22 => ⟨S2x2048x1024, .f32⟩
  | 23 => ⟨S2x2048x1024, .f32⟩
  | 24 => ⟨S2x2048x1, .f32⟩
  | 25 => ⟨S_, .f32⟩
  | 26 => ⟨S2x2048x1, .f32⟩
  | 27 => ⟨S2x2048x1, .f32⟩
  | 28 => ⟨S_, .f32⟩
  | 29 => ⟨S2x2048, .f32⟩
  | 30 => ⟨S2x2048x1024, .f32⟩
  | 31 => ⟨S2x2048x1024, .f32⟩
  | 32 => ⟨S2x2048x1024, .f32⟩
  | 33 => ⟨S2x2048x1024, .f32⟩
  | 34 => ⟨S2x2048x1024, .f32⟩
  | 35 => ⟨S_, .f32⟩
  | 36 => ⟨S2x5x1024, .f32⟩
  | 37 => ⟨S2x8x1024, .f32⟩
  | 38 => ⟨S1x1024, .f32⟩
  | 39 => ⟨S1x1024, .f32⟩
  | 40 => ⟨S_, .f32⟩
  | 41 => ⟨S6x1024, .f32⟩
  | 42 => ⟨S8x1024, .f32⟩
  | 43 => ⟨S4096x4x704, .f32⟩
  | 44 => ⟨S4x4096x704, .f32⟩
  | 45 => ⟨S4x4096x704, .bf16⟩
  | 46 => ⟨S4096x4x704, .f32⟩
  | 47 => ⟨S4x4096x704, .f32⟩
  | 48 => ⟨S4x4096x704, .bf16⟩
  | 49 => ⟨S4096x1024, .f32⟩
  | 50 => ⟨S4096x1024, .f32⟩
  | 51 => ⟨S4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_v50_2 : Ref sig .tc := ⟨.hbm, 76, rfl⟩
abbrev main_call0_cst_1 : Ref sig .tc := ⟨.hbm, 77, rfl⟩
abbrev main_call0_v6 : Ref sig .tc := ⟨.hbm, 78, rfl⟩
abbrev main_call0_v7 : Ref sig .tc := ⟨.hbm, 79, rfl⟩
abbrev main_v50_1 : Ref sig .tc := ⟨.hbm, 80, rfl⟩
abbrev main_v50_0 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_8 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_9 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_10 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_11 : Ref sig .tc := ⟨.hbm, 112, rfl⟩
abbrev main_v75 : Ref sig .tc := ⟨.hbm, 113, rfl⟩
abbrev main_v76 : Ref sig .tc := ⟨.hbm, 114, rfl⟩
abbrev main_cst_12 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_13 : Ref sig .tc := ⟨.hbm, 122, rfl⟩
abbrev main_v83 : Ref sig .tc := ⟨.hbm, 123, rfl⟩
abbrev main_v84 : Ref sig .tc := ⟨.hbm, 124, rfl⟩
abbrev main_cst_14 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_15 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_16 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_17 : Ref sig .tc := ⟨.hbm, 144, rfl⟩
abbrev main_v101 : Ref sig .tc := ⟨.hbm, 145, rfl⟩
abbrev main_v102 : Ref sig .tc := ⟨.hbm, 146, rfl⟩
abbrev main_cst_18 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_19 : Ref sig .tc := ⟨.hbm, 153, rfl⟩
abbrev main_v108 : Ref sig .tc := ⟨.hbm, 154, rfl⟩
abbrev main_v109 : Ref sig .tc := ⟨.hbm, 155, rfl⟩
abbrev main_cst_20 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_21 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_22 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩

abbrev nD : Nat := 1
abbrev τ : Topo := Topo.v7x

variable {F : FTy → Type} [FloatOps F]
-- ==== Gff.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x4x704, .bf16⟩
  | .hbm, ⟨3, _⟩ => ⟨S4x4096x704, .bf16⟩
  | .hbm, ⟨4, _⟩ => ⟨S4x704x1024, .f32⟩
  | .hbm, ⟨5, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .f32⟩
  | .local _ .vmem, ⟨4, _⟩ => ⟨S1x704x1024, .f32⟩
  | .local _ .vmem, ⟨5, _⟩ => ⟨S1x704x1024, .bf16⟩
  | .local _ .vmem, ⟨6, _⟩ => ⟨S1x704x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== GffRefIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S4x704x1024, .f32⟩
  | .hbm, ⟨11, _⟩ => ⟨S4x704x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Gout.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 4
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .f32⟩
  | .hbm, ⟨3, _⟩ => ⟨S1x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1x1024x1024, .f32⟩
  | .local _ .vmem, ⟨3, _⟩ => ⟨S1x1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg1 : BitVec 32 := BitVec.ofNat 32 (i 1).val
  let c0_i32_6 : BitVec 32 := 0#32
  let v9 : BitVec 1 := Scalar.cmpi .eq arg1 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== GoutRefIdeal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Fwd.lean ====
abbrev S4096x1024 : Shape := ⟨2, ![4096, 1024]⟩
abbrev S2x6x1024 : Shape := ⟨3, ![2, 6, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S2x2x1024 : Shape := ⟨3, ![2, 2, 1024]⟩
abbrev S2x8x1024 : Shape := ⟨3, ![2, 8, 1024]⟩
abbrev S4x704x1024 : Shape := ⟨3, ![4, 704, 1024]⟩
abbrev S4x4096x704 : Shape := ⟨3, ![4, 4096, 704]⟩
abbrev S8x128 : Shape := ⟨2, ![8, 128]⟩
abbrev S8x1024 : Shape := ⟨2, ![8, 1024]⟩
abbrev S512x1024 : Shape := ⟨2, ![512, 1024]⟩
abbrev S1x704x1024 : Shape := ⟨3, ![1, 704, 1024]⟩
abbrev S1x8x1024 : Shape := ⟨3, ![1, 8, 1024]⟩
abbrev S1x512x704 : Shape := ⟨3, ![1, 512, 704]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩
abbrev S512 : Shape := ⟨1, ![512]⟩
abbrev S512x1 : Shape := ⟨2, ![512, 1]⟩
abbrev S1x1x1024 : Shape := ⟨3, ![1, 1, 1024]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 27
  | .vmem => 30
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S2x6x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S_, .f32⟩
  | .hbm, ⟨9, _⟩ => ⟨S2x2x1024, .f32⟩
  | .hbm, ⟨10, _⟩ => ⟨S2x8x1024, .f32⟩
  | .hbm, ⟨11, _⟩ => ⟨S2816x1024, .f32⟩
  | .hbm, ⟨12, _⟩ => ⟨S4x704x1024, .f32⟩
  | .hbm, ⟨13, _⟩ => ⟨S4x704x1024, .bf16⟩
  | .hbm, ⟨14, _⟩ => ⟨S2816x1024, .f32⟩
  | .hbm, ⟨15, _⟩ => ⟨S4x704x1024, .f32⟩
  | .hbm, ⟨16, _⟩ => ⟨S4x704x1024, .bf16⟩
  | .hbm, ⟨17, _⟩ => ⟨S4x704x1024, .f32⟩
  | .hbm, ⟨18, _⟩ => ⟨S4x704x1024, .bf16⟩
  | .hbm, ⟨19, _⟩ => ⟨S4x4096x704, .bf16⟩
  | .hbm, ⟨20, _⟩ => ⟨S4x4096x704, .bf16⟩
  | .hbm, ⟨21, _⟩ => ⟨S4x4096x704, .bf16⟩
  | .hbm, ⟨22, _⟩ => ⟨S4096x1024, .f32⟩
  | .hbm, ⟨23, _⟩ => ⟨S4096x1024, .bf16⟩
  | .hbm, ⟨24, _⟩ => ⟨S8x128, .f32⟩
  | .hbm, ⟨25, _⟩ => ⟨S2x8x1024, .f32⟩
  | .hbm, ⟨26, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x1024, .f32⟩
  | .local _ .vmem, ⟨15, _⟩ => ⟨S1x512x704, .bf16⟩
  | .local _ .vmem, ⟨16, _⟩ => ⟨S1x512x704, .bf16⟩
  | .local _ .vmem, ⟨17, _⟩ => ⟨S1x512x704, .bf16⟩
  | .local _ .vmem, ⟨18, _⟩ => ⟨S1x512x704, .bf16⟩
  | .local _ .vmem, ⟨19, _⟩ => ⟨S1x512x704, .bf16⟩
  | .local _ .vmem, ⟨20, _⟩ => ⟨S1x512x704, .bf16⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S8x128, .f32⟩
  | .local _ .vmem, ⟨26, _⟩ => ⟨S1x8x1024, .f32⟩
  | .local _ .vmem, ⟨27, _⟩ => ⟨S1x8x1024, .f32⟩
  | .local _ .vmem, ⟨28, _⟩ => ⟨S8x1024, .f32⟩
  | .local _ .vmem, ⟨29, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev main_v10_6 : Ref sig .tc := ⟨.hbm, 25, rfl⟩
abbrev main_v10_7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v75 : BitVec 1 := Scalar.cmpi .eq arg1 c3_i32
  let v76 : BitVec 32 := Scalar.extui v75
  let c0_i32_58 : BitVec 32 := 0#32
  let v77 : BitVec 1 := Scalar.cmpi .ne v76 c0_i32_58
  v77

def k0_cond3 (i : grid0.Coords) : BitVec 1 :=
  let arg0 : BitVec 32 := BitVec.ofNat 32 (i 0).val
  let c0_i32_75 : BitVec 32 := 0#32
  let v103 : BitVec 1 := Scalar.cmpi .eq arg0 c0_i32_75
  let v104 : BitVec 32 := Scalar.extui v103
  let c0_i32_76 : BitVec 32 := 0#32
  let v105 : BitVec 1 := Scalar.cmpi .ne v104 c0_i32_76
  v105

def k0_cond4 (i : grid0.Coords) : BitVec 1 :=
  let arg0 : BitVec 32 := BitVec.ofNat 32 (i 0).val
  let c4_i32 : BitVec 32 := 4#32
  let c0_i32_77 : BitVec 32 := 0#32
  let v106 : BitVec 1 := Scalar.cmpi .eq c4_i32 c0_i32_77
  let c1_i32 : BitVec 32 := 1#32
  let v107 : BitVec 32 := Scalar.select v106 c1_i32 c4_i32
  let v108 : BitVec 32 := Scalar.remsi arg0 v107
  let c0_i32_79 : BitVec 32 := 0#32
  let v110 : BitVec 1 := Scalar.cmpi .slt v108 c0_i32_79
  let c0_i32_80 : BitVec 32 := 0#32
  let v111 : BitVec 1 := Scalar.cmpi .slt v107 c0_i32_80
  let v112 : BitVec 1 := Scalar.xori v110 v111
  let c0_i32_78 : BitVec 32 := 0#32
  let v109 : BitVec 1 := Scalar.cmpi .ne v108 c0_i32_78
  let v113 : BitVec 1 := Scalar.andi v112 v109
  let v114 : BitVec 32 := Scalar.addi v108 v107
  let v115 : BitVec 32 := Scalar.select v113 v114 v108
  let c0_i32_81 : BitVec 32 := 0#32
  let v116 : BitVec 1 := Scalar.cmpi .eq v115 c0_i32_81
  let v117 : BitVec 32 := Scalar.extui v116
  let c0_i32_82 : BitVec 32 := 0#32
  let v118 : BitVec 1 := Scalar.cmpi .ne v117 c0_i32_82
  v118

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== FwdRefIdeal.lean ====
abbrev S4096x1024 : Shape := ⟨2, ![4096, 1024]⟩
abbrev S2x6x1024 : Shape := ⟨3, ![2, 6, 1024]⟩
abbrev S1x1024 : Shape := ⟨2, ![1, 1024]⟩
abbrev S1024x2816 : Shape := ⟨2, ![1024, 2816]⟩
abbrev S2816x1024 : Shape := ⟨2, ![2816, 1024]⟩
abbrev S2x2048x1024 : Shape := ⟨3, ![2, 2048, 1024]⟩
abbrev S2x2048x2816 : Shape := ⟨3, ![2, 2048, 2816]⟩
abbrev S_ : Shape := ⟨0, ![]⟩
abbrev S2x1x1024 : Shape := ⟨3, ![2, 1, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S2x7x1024 : Shape := ⟨3, ![2, 7, 1024]⟩
abbrev S2x8x1024 : Shape := ⟨3, ![2, 8, 1024]⟩
abbrev S7x1024 : Shape := ⟨2, ![7, 1024]⟩
abbrev S8x1024 : Shape := ⟨2, ![8, 1024]⟩
abbrev S4096x4x704 : Shape := ⟨3, ![4096, 4, 704]⟩
abbrev S4x4096x704 : Shape := ⟨3, ![4, 4096, 704]⟩
abbrev S8x128 : Shape := ⟨2, ![8, 128]⟩

abbrev nBuf : Space → Nat
  | .hbm => 124
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S2x6x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S4096x1024, .f32⟩
  | .hbm, ⟨9, _⟩ => ⟨S2x2048x1024, .f32⟩
  | .hbm, ⟨10, _⟩ => ⟨S2x2048x2816, .f32⟩
  | .hbm, ⟨11, _⟩ => ⟨S2x2048x2816, .f32⟩
  | .hbm, ⟨12, _⟩ => ⟨S2x2048x2816, .f32⟩
  | .hbm, ⟨13, _⟩ => ⟨S2x2048x2816, .f32⟩
  | .hbm, ⟨14, _⟩ => ⟨S_, .f32⟩
  | .hbm, ⟨15, _⟩ => ⟨S2x2048x2816, .f32⟩
  | .hbm, ⟨16, _⟩ => ⟨S2x2048x2816, .f32⟩
  | .hbm, ⟨17, _⟩ => ⟨S_, .f32⟩
  | .hbm, ⟨18, _⟩ => ⟨S2x2048x2816, .f32⟩
  | .hbm, ⟨19, _⟩ => ⟨S2x2048x2816, .f32⟩
  | .hbm, ⟨20, _⟩ => ⟨S2x2048x2816, .f32⟩
  | .hbm, ⟨21, _⟩ => ⟨S2x2048x2816, .f32⟩
  | .hbm, ⟨22, _⟩ => ⟨S2x2048x1024, .f32⟩
  | .hbm, ⟨23, _⟩ => ⟨S2x2048x1024, .f32⟩
  | .hbm, ⟨24, _⟩ => ⟨S2x1x1024, .f32⟩
  | .hbm, ⟨25, _⟩ => ⟨S1024, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048, .f32⟩
  | .hbm, ⟨30, _⟩ => ⟨S2x2048x1, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S_, .f32⟩
  | .hbm, ⟨35, _⟩ => ⟨S2x2048x1, .f32⟩
  | .hbm, ⟨36, _⟩ => ⟨S2x2048x1, .f32⟩
  | .hbm, ⟨37, _⟩ => ⟨S2x2048x1, .f32⟩
  | .hbm, ⟨38, _⟩ => ⟨S2x2048x1, .f32⟩
  | .hbm, ⟨39, _⟩ => ⟨S_, .f32⟩
  | .hbm, ⟨40, _⟩ => ⟨S2x2048x1, .f32⟩
  | .hbm, ⟨41, _⟩ => ⟨S2x2048x1, .f32⟩
  | .hbm, ⟨42, _⟩ => ⟨S2x2048x1024, .f32⟩
  | .hbm, ⟨43, _⟩ => ⟨S2x2048x1024, .f32⟩
  | .hbm, ⟨44, _⟩ => ⟨S1x1x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S2x2048x1024, .f32⟩
  | .hbm, ⟨54, _⟩ => ⟨S2x2048x1024, .f32⟩
  | .hbm, ⟨55, _⟩ => ⟨S_, .f32⟩
  | .hbm, ⟨56, _⟩ => ⟨S2x2048, .f32⟩
  | .hbm, ⟨57, _⟩ => ⟨S_, .f32⟩
  | .hbm, ⟨58, _⟩ => ⟨S2x2048, .f32⟩
  | .hbm, ⟨59, _⟩ => ⟨S2x2048, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S2x2048, .f32⟩
  | .hbm, ⟨68, _⟩ => ⟨S_, .f32⟩
  | .hbm, ⟨69, _⟩ => ⟨S2x2048, .f32⟩
  | .hbm, ⟨70, _⟩ => ⟨S2x2048, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S_, .f32⟩
  | .hbm, ⟨77, _⟩ => ⟨S2x1024, .f32⟩
  | .hbm, ⟨78, _⟩ => ⟨S2x1x1024, .f32⟩
  | .hbm, ⟨79, _⟩ => ⟨S2x2048x1024, .f32⟩
  | .hbm, ⟨80, _⟩ => ⟨S_, .f32⟩
  | .hbm, ⟨81, _⟩ => ⟨S1024, .f32⟩
  | .hbm, ⟨82, _⟩ => ⟨S1x1x1024, .f32⟩
  | .hbm, ⟨83, _⟩ => ⟨S2x2048x1024, .f32⟩
  | .hbm, ⟨84, _⟩ => ⟨S2x2048x1024, .f32⟩
  | .hbm, ⟨85, _⟩ => ⟨S_, .f32⟩
  | .hbm, ⟨86, _⟩ => ⟨S1024, .f32⟩
  | .hbm, ⟨87, _⟩ => ⟨S2x2048x1024, .f32⟩
  | .hbm, ⟨88, _⟩ => ⟨S_, .f32⟩
  | .hbm, ⟨89, _⟩ => ⟨S2x2048, .f32⟩
  | .hbm, ⟨90, _⟩ => ⟨S2x2048x1, .f32⟩
  | .hbm, ⟨91, _⟩ => ⟨S2x2048x1024, .f32⟩
  | .hbm, ⟨92, _⟩ => ⟨S2x2048x1024, .f32⟩
  | .hbm, ⟨93, _⟩ => ⟨S2x2048x1, .f32⟩
  | .hbm, ⟨94, _⟩ => ⟨S_, .f32⟩
  | .hbm, ⟨95, _⟩ => ⟨S2x2048x1, .f32⟩
  | .hbm, ⟨96, _⟩ => ⟨S2x2048x1, .f32⟩
  | .hbm, ⟨97, _⟩ => ⟨S_, .f32⟩
  | .hbm, ⟨98, _⟩ => ⟨S2x2048, .f32⟩
  | .hbm, ⟨99, _⟩ => ⟨S2x2048x1024, .f32⟩
  | .hbm, ⟨100, _⟩ => ⟨S2x2048x1024, .f32⟩
  | .hbm, ⟨101, _⟩ => ⟨S2x2048x1024, .f32⟩
  | .hbm, ⟨102, _⟩ => ⟨S2x2048x1024, .f32⟩
  | .hbm, ⟨103, _⟩ => ⟨S2x2048x1024, .f32⟩
  | .hbm, ⟨104, _⟩ => ⟨S_, .f32⟩
  | .hbm, ⟨105, _⟩ => ⟨S2x7x1024, .f32⟩
  | .hbm, ⟨106, _⟩ => ⟨S2x8x1024, .f32⟩
  | .hbm, ⟨107, _⟩ => ⟨S1x1024, .f32⟩
  | .hbm, ⟨108, _⟩ => ⟨S_, .f32⟩
  | .hbm, ⟨109, _⟩ => ⟨S7x1024, .f32⟩
  | .hbm, ⟨110, _⟩ => ⟨S8x1024, .f32⟩
  | .hbm, ⟨111, _⟩ => ⟨S4096x4x704, .f32⟩
  | .hbm, ⟨112, _⟩ => ⟨S4x4096x704, .f32⟩
  | .hbm, ⟨113, _⟩ => ⟨S4x4096x704, .bf16⟩
  | .hbm, ⟨114, _⟩ => ⟨S4096x4x704, .f32⟩
  | .hbm, ⟨115, _⟩ => ⟨S4x4096x704, .f32⟩
  | .hbm, ⟨116, _⟩ => ⟨S4x4096x704, .bf16⟩
  | .hbm, ⟨117, _⟩ => ⟨S4096x4x704, .f32⟩
  | .hbm, ⟨118, _⟩ => ⟨S4x4096x704, .f32⟩
  | .hbm, ⟨119, _⟩ => ⟨S4x4096x704, .bf16⟩
  | .hbm, ⟨120, _⟩ => ⟨S4096x1024, .f32⟩
  | .hbm, ⟨121, _⟩ => ⟨S4096x1024, .f32⟩
  | .hbm, ⟨122, _⟩ => ⟨S4096x1024, .bf16⟩
  | .hbm, ⟨123, _⟩ => ⟨S8x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_cst_8 : Ref sig .tc := ⟨.hbm, 64, rfl⟩
abbrev main_cst_9 : Ref sig .tc := ⟨.hbm, 65, rfl⟩
abbrev main_v39 : Ref sig .tc := ⟨.hbm, 66, rfl⟩
abbrev main_v40 : Ref sig .tc := ⟨.hbm, 67, rfl⟩
abbrev main_cst_10 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_12 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_13 : Ref sig .tc := ⟨.hbm, 85, rfl⟩
abbrev main_v55 : Ref sig .tc := ⟨.hbm, 86, rfl⟩
abbrev main_v56 : Ref sig .tc := ⟨.hbm, 87, rfl⟩
abbrev main_cst_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_15 : Ref sig .tc := ⟨.hbm, 94, rfl⟩
abbrev main_v62 : Ref sig .tc := ⟨.hbm, 95, rfl⟩
abbrev main_v63 : Ref sig .tc := ⟨.hbm, 96, rfl⟩
abbrev main_cst_16 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_17 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_18 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩

abbrev nD : Nat := 1
abbrev τ : Topo := Topo.v7x

variable {F : FTy → Type} [FloatOps F]
-- ==== Gin.lean ====
abbrev S4096x1024 : Shape := ⟨2, ![4096, 1024]⟩
abbrev S4096x512 : Shape := ⟨2, ![4096, 512]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4x1024x512, .f32⟩
  | .hbm, ⟨6, _⟩ => ⟨S4x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S4x1024x512, .f32⟩
  | .local _ .vmem, ⟨11, _⟩ => ⟨S4x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v36 : BitVec 1 := Scalar.cmpi .eq arg0 c1_i32
  let v37 : BitVec 32 := Scalar.extui v36
  let c0_i32_34 : BitVec 32 := 0#32
  let v38 : BitVec 1 := Scalar.cmpi .ne v37 c0_i32_34
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GinRefIdeal.lean ====
abbrev S4096x1024 : Shape := ⟨2, ![4096, 1024]⟩
abbrev S4096x512 : Shape := ⟨2, ![4096, 512]⟩
abbrev S_ : Shape := ⟨0, ![]⟩
abbrev S1024x2048 : Shape := ⟨2, ![1024, 2048]⟩
abbrev S4096x2048 : Shape := ⟨2, ![4096, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S_, .f32⟩
  | .hbm, ⟨6, _⟩ => ⟨S1024x2048, .f32⟩
  | .hbm, ⟨7, _⟩ => ⟨S4096x2048, .bf16⟩
  | .hbm, ⟨8, _⟩ => ⟨S4096x1024, .f32⟩
  | .hbm, ⟨9, _⟩ => ⟨S4096x2048, .f32⟩
  | .hbm, ⟨10, _⟩ => ⟨S4096x2048, .f32⟩
  | .hbm, ⟨11, _⟩ => ⟨S2048x1024, .f32⟩
  | .hbm, ⟨12, _⟩ => ⟨S1024x2048, .f32⟩
  | .hbm, ⟨13, _⟩ => ⟨S1024x4x512, .f32⟩
  | .hbm, ⟨14, _⟩ => ⟨S4x1024x512, .f32⟩
  | .hbm, ⟨15, _⟩ => ⟨S4x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Adf.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdfIdeal.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdfRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adc.lean ====
abbrev S1024x1536 : Shape := ⟨2, ![1024, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdcIdeal.lean ====
abbrev S1024x1536 : Shape := ⟨2, ![1024, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdcRefIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adi.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdiIdeal.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdiRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Ado.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdoRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Cond.lean ====
abbrev S16x1024 : Shape := ⟨2, ![16, 1024]⟩
abbrev S16x1536 : Shape := ⟨2, ![16, 1536]⟩
abbrev S_ : Shape := ⟨0, ![]⟩
abbrev S1024x1536 : Shape := ⟨2, ![1024, 1536]⟩
abbrev S16x512 : Shape := ⟨2, ![16, 512]⟩
abbrev S1024x512 : Shape := ⟨2, ![1024, 512]⟩

abbrev nBuf : Space → Nat
  | .hbm => 12
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S1024x1536, .f32⟩
  | .local _ .vmem, ⟨0, _⟩ => ⟨S16x1024, .f32⟩
  | .local _ .vmem, ⟨1, _⟩ => ⟨S16x512, .f32⟩
  | .local _ .vmem, ⟨2, _⟩ => ⟨S16x512, .f32⟩
  | .local _ .vmem, ⟨3, _⟩ => ⟨S1024x512, .f32⟩
  | .local _ .vmem, ⟨4, _⟩ => ⟨S1024x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CondRefIdeal.lean ====
abbrev S16x1024 : Shape := ⟨2, ![16, 1024]⟩
abbrev S16x1536 : Shape := ⟨2, ![16, 1536]⟩
abbrev S_ : Shape := ⟨0, ![]⟩
abbrev S1024x1536 : Shape := ⟨2, ![1024, 1536]⟩
abbrev S1x1536 : Shape := ⟨2, ![1, 1536]⟩
abbrev S1536x1024 : Shape := ⟨2, ![1536, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S_, .f32⟩
  | .hbm, ⟨3, _⟩ => ⟨S1024x1536, .f32⟩
  | .hbm, ⟨4, _⟩ => ⟨S_, .f32⟩
  | .hbm, ⟨5, _⟩ => ⟨S1x1536, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x1536, .f32⟩
  | .hbm, ⟨16, _⟩ => ⟨S16x1536, .f32⟩
  | .hbm, ⟨17, _⟩ => ⟨S16x1536, .f32⟩
  | .hbm, ⟨18, _⟩ => ⟨S1536x1024, .f32⟩
  | .hbm, ⟨19, _⟩ => ⟨S1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== Proof.Covered.lean ====
/-
  Stores over a fill. Where the newest stores of a buffer already cover an index, what was stored before them does not
  matter there.
-/
module

public import Idealize.ShloMosaic.Lib.Pipeline.ValueKit

@[expose] public section

noncomputable section

namespace Cert.Covered

open Idealize.ShloMosaic Idealize.ShloMosaic.View

variable {Val : EltTy → Type} {S : Shape} {e : EltTy}

/-- An index that one of the newest `n` stores holds reads those stores alone. -/
theorem canon_take [∀ e, Nonempty (Val e)] (n : ℕ) : ∀ (L : List (Piece Val S e)) (y : S.Idx),
    (∃ p ∈ L.take n, y ∈ p.1.set) → canon L y = canon (L.take n) y := by
  induction n with
  | zero => intro L y h; obtain ⟨p, hp, _⟩ := h; simp at hp
  | succ n ih =>
    intro L y h
    cases L with
    | nil => rfl
    | cons p L =>
      rw [List.take_succ_cons]
      by_cases hm : y ∈ p.1.set
      · obtain ⟨x, rfl⟩ := p.1.exists_idx_of_mem hm
        rw [show p.1.idx x = p.1.emb x from rfl, canon_cons_emb, canon_cons_emb]
      · rw [canon_cons_of_not_mem _ _ hm, canon_cons_of_not_mem _ _ hm]
        refine ih L y ?_
        obtain ⟨q, hq, hyq⟩ := h
        rw [List.take_succ_cons] at hq
        rcases List.mem_cons.mp hq with rfl | hq'
        · exact absurd hyq hm
        · exact ⟨q, hq', hyq⟩

/-- A load of the whole buffer reads what the stores left. -/
theorem readCov_whole [∀ e, Nonempty (Val e)] {sig : RefSig} {κ : Kind} {sp : Space} (v : View sig κ sp S e) {off : Fin S.rank → ℕ}
    (inb : ∀ a, off a + S.size a ≤ S.size a) (L : List (Piece Val S e)) (h : ∀ a, off a = 0) :
    v.readCov L (Rect.unit off (no_index S.size) inb).toLoadRect = canon L := by
  rw [readCov_eq_canon']
  funext j
  have : (Rect.unit off S.size inb).toLoadRect.idx j = j := by
    funext a
    apply Fin.ext
    show off a + 1 * (j a : ℕ) = j a
    rw [h a]; omega
  rw [this]

/-- Stores that all leave one function `G`, over older stores: where none of them holds the index, the older ones must
    leave `G` there. -/
theorem canon_over [∀ e, Nonempty (Val e)] (G : S.Idx → Val e) (L' : List (Piece Val S e)) : ∀ (L : List (Piece Val S e)) (y : S.Idx),
    (∀ p ∈ L, ∀ x : p.1.shape.Idx, p.2 x = G (p.1.emb x)) → ((∀ p ∈ L, y ∉ p.1.set) → canon L' y = G y) →
      canon (L ++ L') y = G y := by
  intro L
  induction L with
  | nil => intro y _ h; exact h (by simp)
  | cons p L ih =>
    intro y hG h
    by_cases hm : y ∈ p.1.set
    · obtain ⟨x, rfl⟩ := p.1.exists_idx_of_mem hm
      rw [List.cons_append, show p.1.idx x = p.1.emb x from rfl, canon_cons_emb]
      exact hG p List.mem_cons_self x
    · rw [List.cons_append, canon_cons_of_not_mem _ _ hm]
      refine ih y (fun q hq => hG q (List.mem_cons_of_mem _ hq)) fun hL => h fun q hq => ?_
      rcases List.mem_cons.mp hq with rfl | hq'
      · exact hm
      · exact hL q hq'

/-- The same over the contents a buffer had before. -/
theorem read_over {sig : RefSig} {κ : Kind} {sp : Space} (v : View sig κ sp S e) (f : v.ty.Contents Val) (G : S.Idx → Val e)
    (L : List (Piece Val S e)) (y : S.Idx) (hG : ∀ p ∈ L, ∀ x : p.1.shape.Idx, p.2 x = G (p.1.emb x))
    (h : (∀ p ∈ L, y ∉ p.1.set) → v.read Val f y = G y) : v.read Val (v.writes Val f L) y = G y := by
  by_cases hL : ∃ p ∈ L, y ∈ p.1.set
  · exact read_writes_apply_of_pieces v f G L hG y hL
  · have hL' : ∀ p ∈ L, y ∉ p.1.set := fun p hp hy => hL ⟨p, hp, hy⟩
    rw [read_writes_apply_of_forall_not_mem v f y L hL']
    exact h hL'

end Cert.Covered

end
-- ==== Proof.MixValue.lean ====
/-
  The gradients of the mixer's tail (`Mix`): the output projection backwards, and through the pooled half the groups'
  maps and their scales. Eight grid points of 512 rows; two results are blocks of rows, two are sums over the points.
-/
module

public import proofs.«01_k».proof.Defs
public import proofs.«01_k».proof.Proof.Gen.MixIdeal.Value
public import proofs.«01_k».proof.Proof.Gen.MixRefIdeal.Read
public import proofs.«01_k».proof.Proof.Covered
public import Idealize.ShloMosaic.Lib.Pipeline.ReadBack
public import Idealize.ShloMosaic.Lib.Pipeline.ValueKit

@[expose] public section

set_option maxRecDepth 16384

noncomputable section

namespace Cert.MixIdeal.Value

open Cert.MixIdeal Cert.MixIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at a point. -/
theorem idx : ∀ t : Fin cfg0.N, win0_0.index t = ![t.val, 0] ∧ win0_1.index t = ![0, 0] ∧ win0_2.index t = ![t.val, 0]
    ∧ win0_3.index t = ![0, 0, 0] ∧ win0_4.index t = ![0, 0] ∧ win0_5.index t = ![t.val, 0] ∧ win0_6.index t = ![t.val, 0]
    ∧ win0_7.index t = ![0, 0] ∧ win0_8.index t = ![0, 0, 0] ∧ t.val < 8 :=
  (by decide +kernel : ∀ t : Fin grid0.N, _)

/-- A column's group, -/
abbrev gq (c : Fin 512) : Fin 4 := ⟨c.val / 128, by omega⟩
/-- its place in the group, -/
abbrev gr (c : Fin 512) : Fin 128 := ⟨c.val % 128, by omega⟩
/-- the column at a place of a group, -/
abbrev gc (g : Fin 4) (i : Fin 128) : Fin 512 := ⟨128 * g.val + i.val, by omega⟩
/-- a column of the upper half, -/
abbrev up (c : Fin 512) : Fin 1024 := ⟨512 + c.val, by omega⟩
/-- and one of the lower half. -/
abbrev lo (c : Fin 512) : Fin 1024 := ⟨c.val, by omega⟩

/-- The cotangent through the output projection, for any number of rows. -/
def dm {R : ℕ} (X0 : FVec Ideal ⟨2, ![R, 1024]⟩ .bf16) (X1 : FVec Ideal S1024x1024 .f32) (r : Fin R) (c : Fin 1024) : EReal :=
  ∑ k : Fin 1024, X0 (ix2 r k) * X1 (ix2 c k)

/-- The pooled half's cotangent, at a row. -/
def part6 {R : ℕ} (X0 : FVec Ideal ⟨2, ![R, 1024]⟩ .bf16) (X1 : FVec Ideal S1024x1024 .f32) (X3 : FVec Ideal S4x128x128 .f32)
    (X4 : FVec Ideal S1x512 .f32) (r : Fin R) (c : Fin 512) : EReal :=
  ∑ j : Fin 128, (dm X0 X1 r (up (gc (gq c) j)) * X4 (ix2 0 (gc (gq c) j))) * X3 (ix3 (gq c) (gr c) j)

/-- What one row adds to the gradient of the scales. -/
def part7 {R : ℕ} (X0 : FVec Ideal ⟨2, ![R, 1024]⟩ .bf16) (X1 : FVec Ideal S1024x1024 .f32) (X2 : FVec Ideal ⟨2, ![R, 512]⟩ .bf16)
    (X3 : FVec Ideal S4x128x128 .f32) (r : Fin R) (c : Fin 512) : EReal :=
  dm X0 X1 r (up c) * ∑ i : Fin 128, X2 (ix2 r (gc (gq c) i)) * X3 (ix3 (gq c) i (gr c))

/-- What one row adds to the gradient of the groups' maps. -/
def part8 {R : ℕ} (X0 : FVec Ideal ⟨2, ![R, 1024]⟩ .bf16) (X1 : FVec Ideal S1024x1024 .f32) (X2 : FVec Ideal ⟨2, ![R, 512]⟩ .bf16)
    (X4 : FVec Ideal S1x512 .f32) (r : Fin R) (g : Fin 4) (i j : Fin 128) : EReal :=
  X2 (ix2 r (gc g i)) * (dm X0 X1 r (up (gc g j)) * X4 (ix2 0 (gc g j)))

/-- The lower half of the cotangent at a point. -/
theorem out5 (c : Dev nD) (t : Fin cfg0.N) (y : S512x512.Idx) : (outsAt0 m c t.val t.isLt).1 y
    = dm (iblk m c 0 t) (iblk m c 1 t) (y 0) (lo (y 1)) := by
  by_cases h : t.val % 8 = 0
  · rw [outsAt0_A m c t h]
    frame_open
    simp (disch := decide) only [↓ View.readCov_skip, ↓ View.readCov_cons_toLoadRect, ↓ View.readCov_fill, Cert.Covered.readCov_whole]
    frame_out
    pointwise [k0_pay8, k0_pay9, dm]
  · rw [outsAt0_B m c t h]
    frame_open
    simp (disch := decide) only [↓ View.readCov_skip, ↓ View.readCov_cons_toLoadRect, ↓ View.readCov_fill, Cert.Covered.readCov_whole]
    frame_out
    pointwise [k0_pay8, k0_pay9, dm]

/-- The pooled half's cotangent at a point. -/
theorem out6 (c : Dev nD) (t : Fin cfg0.N) (y : S512x512.Idx) : (outsAt0 m c t.val t.isLt).2.1 y
    = part6 (iblk m c 0 t) (iblk m c 1 t) (iblk m c 3 t) (iblk m c 4 t) (y 0) (y 1) := by
  by_cases h : t.val % 8 = 0
  · rw [outsAt0_A m c t h]
    frame_open
    simp (disch := decide) only [↓ View.readCov_skip, ↓ View.readCov_cons_toLoadRect, ↓ View.readCov_fill, Cert.Covered.readCov_whole]
    frame_out
    canon_tiles x h
    all_goals (open_payloads; pointwise [part6, dm])
    all_goals blk_point []
  · rw [outsAt0_B m c t h]
    frame_open
    simp (disch := decide) only [↓ View.readCov_skip, ↓ View.readCov_cons_toLoadRect, ↓ View.readCov_fill, Cert.Covered.readCov_whole]
    frame_out
    canon_tiles x h
    all_goals (open_payloads; pointwise [part6, dm])
    all_goals blk_point []

/-- What a point adds to the gradient of the scales: row 0 alone takes part. -/
def add7 (c : Dev nD) (t : Fin cfg0.N) (y : S8x512.Idx) : EReal :=
  if (y 0 : ℕ) = 0 then ∑ r : Fin 512, part7 (iblk m c 0 t) (iblk m c 1 t) (iblk m c 2 t) (iblk m c 3 t) r (y 1) else 0

/-- Four tiles of row 0 hold every index of row 0. -/
theorem row0 {y : S8x512.Idx} (h : (y 0 : ℕ) = 0)
    (h0 : y ∉ (Rect.unit ![0, 0] ![1, 128] inb_S8x512_S1x128_0_0).set) (h1 : y ∉ (Rect.unit ![0, 128] ![1, 128] inb_S8x512_S1x128_0_128).set)
    (h2 : y ∉ (Rect.unit ![0, 256] ![1, 128] inb_S8x512_S1x128_0_256).set) (h3 : y ∉ (Rect.unit ![0, 384] ![1, 128] inb_S8x512_S1x128_0_384).set) :
    False := by
  have hb : (y 1 : ℕ) < 512 := (y 1).isLt
  simp only [Rect.mem_set_unit, Fin.forall_fin_two, Matrix.cons_val_zero, Matrix.cons_val_one] at h0 h1 h2 h3
  omega

/-- A tile of row 0 lies in row 0. -/
theorem tile_row {o : ℕ} {inb} (x : S1x128.Idx) : (((Rect.unit (s := S8x512) ![0, o] ![1, 128] inb).emb x) 0 : ℕ) = 0 := by
  have hb : (x 0 : ℕ) < 1 := (x 0).isLt
  refine (ValueKit.rect_emb_unit_val _ _ _ _ _).trans ?_
  show 0 + (x 0 : ℕ) = 0
  omega

/-- In row 0 a point adds the sum of its rows' parts. -/
theorem add7_row (c : Dev nD) (t : Fin cfg0.N) (y : S8x512.Idx) (h : (y 0 : ℕ) = 0) : add7 m c t y
    = ∑ r : Fin 512, part7 (iblk m c 0 t) (iblk m c 1 t) (iblk m c 2 t) (iblk m c 3 t) r (y 1) :=
  if_pos h

/-- The first point leaves its own part of the scales' gradient, over zeros. -/
theorem outA7 (c : Dev nD) (t : Fin cfg0.N) (h : t.val % 8 = 0) (y : S8x512.Idx) : (outsAt0 m c t.val t.isLt).2.2.1 y
    = 0 + add7 m c t y := by
  rw [outsAt0_A m c t h]
  frame_open
  simp (disch := decide) only [↓ View.readCov_skip, ↓ View.readCov_cons_toLoadRect, ↓ View.readCov_fill, Cert.Covered.readCov_whole]
  frame_out
  refine Cert.Covered.canon_over (Val := Elt Ideal) (e := .f32) (fun y : S8x512.Idx => 0 + add7 m c t y) [_] [_, _, _, _] y ?_ ?_
  · refine List.forall_mem_cons.mpr ⟨fun (x : S1x128.Idx) => ?_, List.forall_mem_cons.mpr ⟨fun (x : S1x128.Idx) => ?_, List.forall_mem_cons.mpr ⟨fun (x : S1x128.Idx) => ?_,
      List.forall_mem_singleton.mpr fun (x : S1x128.Idx) => ?_⟩⟩⟩
    all_goals (dsimp only; rw [add7_row m c t _ (tile_row x)]; pointwise [part7, dm, gq, gr, gc, up, lo, k0_pay1, k0_pay2, k0_pay6, k0_pay8, k0_pay10, k0_pay11, k0_pay12, k0_pay18, k0_pay19, k0_pay20, k0_pay24, k0_pay25, k0_pay26, k0_pay30])
    all_goals (blk_point [])
  · intro hn
    simp only [List.forall_mem_cons, List.forall_mem_singleton] at hn
    have hy : ¬(y 0 : ℕ) = 0 := fun hy => row0 hy hn.2.2.2.1 hn.2.2.1 hn.2.1 hn.1
    pointwise [add7, k0_pay6, hy]
    simp (disch := decide) only [View.canon_cons_unit_lit']
    rfl

/-- A later point adds its part to what was there. -/
theorem outB7 (c : Dev nD) (t : Fin cfg0.N) (h : ¬t.val % 8 = 0) (y : S8x512.Idx) : (outsAt0 m c t.val t.isLt).2.2.1 y
    = (outsAt0 m c (t.val - 1) (Nat.lt_of_le_of_lt (Nat.sub_le _ _) t.isLt)).2.2.1 y + add7 m c t y := by
  rw [outsAt0_B m c t h]
  frame_open
  simp (disch := decide) only [↓ View.readCov_skip, ↓ View.readCov_cons_toLoadRect, ↓ View.readCov_fill, Cert.Covered.readCov_whole]
  frame_out
  refine Cert.Covered.read_over _ _ (fun y => (outsAt0 m c (t.val - 1) (Nat.lt_of_le_of_lt (Nat.sub_le _ _) t.isLt)).2.2.1 y + add7 m c t y) _ y ?_ ?_
  · refine List.forall_mem_cons.mpr ⟨fun (x : S1x128.Idx) => ?_, List.forall_mem_cons.mpr ⟨fun (x : S1x128.Idx) => ?_, List.forall_mem_cons.mpr ⟨fun (x : S1x128.Idx) => ?_,
      List.forall_mem_singleton.mpr fun (x : S1x128.Idx) => ?_⟩⟩⟩
    all_goals (dsimp only; rw [add7_row m c t _ (tile_row x)]; pointwise [part7, dm, gq, gr, gc, up, lo, k0_pay1, k0_pay2, k0_pay6, k0_pay8, k0_pay10, k0_pay11, k0_pay12, k0_pay18, k0_pay19, k0_pay20, k0_pay24, k0_pay25, k0_pay26, k0_pay30])
    all_goals (blk_point [])
  · intro hn
    simp only [List.forall_mem_cons, List.forall_mem_singleton] at hn
    have hy : ¬(y 0 : ℕ) = 0 := fun hy => row0 hy hn.2.2.2.1 hn.2.2.1 hn.2.1 hn.1
    rw [Memref.IsWhole.read_unread]
    pointwise [add7, hy]

/-- What a point adds to the gradient of the groups' maps. -/
def add8 (c : Dev nD) (t : Fin cfg0.N) (y : S4x128x128.Idx) : EReal :=
  ∑ r : Fin 512, part8 (iblk m c 0 t) (iblk m c 1 t) (iblk m c 2 t) (iblk m c 4 t) r (y 0) (y 1) (y 2)

/-- The first point leaves its own part of the maps' gradient, over zeros. -/
theorem outA8 (c : Dev nD) (t : Fin cfg0.N) (h : t.val % 8 = 0) (y : S4x128x128.Idx) : (outsAt0 m c t.val t.isLt).2.2.2 y
    = 0 + add8 m c t y := by
  rw [outsAt0_A m c t h]
  frame_open
  simp (disch := decide) only [↓ View.readCov_skip, ↓ View.readCov_cons_toLoadRect, ↓ View.readCov_fill, Cert.Covered.readCov_whole]
  frame_out
  refine (Cert.Covered.canon_take 4 _ y (by
    simp only [List.take_succ_cons, List.take_zero]; exact View.cover_of_tiled_head _ _ _ rfl y)).trans ?_
  simp only [List.take_succ_cons, List.take_zero]
  canon_tiles x h
  all_goals (open_payloads; pointwise [add8, part8, dm, k0_pay7])
  all_goals blk_point []

/-- A later point adds its part to what was there. -/
theorem outB8 (c : Dev nD) (t : Fin cfg0.N) (h : ¬t.val % 8 = 0) (y : S4x128x128.Idx) : (outsAt0 m c t.val t.isLt).2.2.2 y
    = (outsAt0 m c (t.val - 1) (Nat.lt_of_le_of_lt (Nat.sub_le _ _) t.isLt)).2.2.2 y + add8 m c t y := by
  rw [outsAt0_B m c t h]
  frame_open
  simp (disch := decide) only [↓ View.readCov_skip, ↓ View.readCov_cons_toLoadRect, ↓ View.readCov_fill, Cert.Covered.readCov_whole]
  frame_out
  canon_tiles x h
  all_goals (open_payloads; pointwise [add8, part8, dm])
  all_goals blk_point []

/-- The reference's cotangent, lower half. -/
theorem ref5 (X0 : FVec Ideal S4096x1024 .bf16) (X4 : FVec Ideal S1024x1024 .f32) (y : S4096x512.Idx) :
    Cert.MixRefIdeal.Read.val_main_v26 (F := Ideal) X0 X4 y = dm X0 X4 (y 0) (lo (y 1)) := by
  pointwise [Cert.MixRefIdeal.Read.val_main_v26, Cert.MixRefIdeal.Read.val_main_v12, Cert.MixRefIdeal.Read.val_main_v11,
    Cert.MixRefIdeal.Read.val_main_v10, dm]

/-- The reference's cotangent of the pooled half. -/
theorem ref6 (X0 : FVec Ideal S4096x1024 .bf16) (X2 : FVec Ideal S4x128x128 .f32) (X3 : FVec Ideal S1x512 .f32)
    (X4 : FVec Ideal S1024x1024 .f32) (y : S4096x512.Idx) :
    Cert.MixRefIdeal.Read.val_main_v25 (F := Ideal) X0 X2 X3 X4 y = part6 X0 X4 X2 X3 (y 0) (y 1) := by
  pointwise [Cert.MixRefIdeal.Read.val_main_v25, Cert.MixRefIdeal.Read.val_main_v22, Cert.MixRefIdeal.Read.val_main_v21,
    Cert.MixRefIdeal.Read.val_main_v20, Cert.MixRefIdeal.Read.val_main_v19, Cert.MixRefIdeal.Read.val_main_v18,
    Cert.MixRefIdeal.Read.val_main_v17, Cert.MixRefIdeal.Read.val_main_v13, Cert.MixRefIdeal.Read.val_main_v11,
    Cert.MixRefIdeal.Read.val_main_v10, part6, dm]
  blk_point []

/-- The reference's gradient of the scales. -/
theorem ref7 (X0 : FVec Ideal S4096x1024 .bf16) (X1 : FVec Ideal S4096x512 .bf16) (X2 : FVec Ideal S4x128x128 .f32)
    (X4 : FVec Ideal S1024x1024 .f32) (y : S8x512.Idx) :
    Cert.MixRefIdeal.Read.val_main_v28 (F := Ideal) X0 X1 X2 X4 y
      = if (y 0 : ℕ) = 0 then ∑ r : Fin 4096, part7 X0 X4 X1 X2 r (y 1) else 0 := by
  pointwise [Cert.MixRefIdeal.Read.val_main_v28, Cert.MixRefIdeal.Read.val_main_v27, Cert.MixRefIdeal.Read.val_main_v16,
    Cert.MixRefIdeal.Read.val_main_v15, Cert.MixRefIdeal.Read.val_main_v14, Cert.MixRefIdeal.Read.val_main_v5,
    Cert.MixRefIdeal.Read.val_main_v4, Cert.MixRefIdeal.Read.val_main_v3, Cert.MixRefIdeal.Read.val_main_v2,
    Cert.MixRefIdeal.Read.val_main_v1, Cert.MixRefIdeal.Read.val_main_v13, Cert.MixRefIdeal.Read.val_main_v11,
    Cert.MixRefIdeal.Read.val_main_v10, Cert.MixRefIdeal.Read.val_main_cst_0, Cert.MixRefIdeal.Read.val_main_cst_1, part7, dm]
  by_cases hy : (y 0 : ℕ) = 0
  · rw [dif_pos (by omega), if_pos hy]
    refine Fin.sum_fin_congr fun r => (mul_comm (_ : EReal) (_ : EReal)).trans
      (congrArg₂ (fun a b : EReal => a * b) ?_ (Fin.sum_fin_congr fun i => (mul_comm (_ : EReal) (_ : EReal)).trans ?_))
    · rfl
    · blk_point []
  · rw [dif_neg (by omega), if_neg hy]

/-- The reference's gradient of the groups' maps. -/
theorem ref8 (X0 : FVec Ideal S4096x1024 .bf16) (X1 : FVec Ideal S4096x512 .bf16) (X3 : FVec Ideal S1x512 .f32)
    (X4 : FVec Ideal S1024x1024 .f32) (y : S4x128x128.Idx) :
    Cert.MixRefIdeal.Read.val_main_v24 (F := Ideal) X0 X1 X3 X4 y = ∑ r : Fin 4096, part8 X0 X4 X1 X3 r (y 0) (y 1) (y 2) := by
  pointwise [Cert.MixRefIdeal.Read.val_main_v24, Cert.MixRefIdeal.Read.val_main_v23,
    Cert.MixRefIdeal.Read.val_main_v20, Cert.MixRefIdeal.Read.val_main_v19, Cert.MixRefIdeal.Read.val_main_v18,
    Cert.MixRefIdeal.Read.val_main_v17, Cert.MixRefIdeal.Read.val_main_v13, Cert.MixRefIdeal.Read.val_main_v11,
    Cert.MixRefIdeal.Read.val_main_v10, Cert.MixRefIdeal.Read.val_main_v2, Cert.MixRefIdeal.Read.val_main_v1, part8, dm]
  refine Fin.sum_fin_congr fun k => (mul_comm (_ : EReal) (_ : EReal)).trans ?_
  blk_point []

/-- The sum over the points of the scales' gradient. -/
theorem sums7 (c : Dev nD) (t : Fin cfg0.N) (h : t.val % 8 = 7) (y : S8x512.Idx) : (outsAt0 m c t.val t.isLt).2.2.1 y
    = Cert.MixRefIdeal.Read.val_main_v28 (F := Ideal) (m ((c : Thread nD τ).loc main_arg0)) (m ((c : Thread nD τ).loc main_arg1)) (m ((c : Thread nD τ).loc main_arg2)) (m ((c : Thread nD τ).loc main_arg4)) y := by
  rw [Pipeline.eq_sum_fin_of_reset_step_apply_of_flush (fun n h => (outsAt0 m c n h).2.2.1) 8 (fun _ => 0)
    (fun p => add7 m c p) (fun t h j => outA7 m c t h j) (fun t h j => outB7 m c t h j) t h y, zero_add, ref7]
  unfold add7
  by_cases hy : (y 0 : ℕ) = 0
  · simp only [if_pos hy]
    unfold part7 dm
    refine Fin.sum_mul_add_congr fun s k hl => ?_
    blk_point [iblk, V, idx t, idx ⟨_, Pipeline.run_point_lt_of_flush t h s⟩]
  · simp only [if_neg hy, Finset.sum_const_zero]

/-- The sum over the points of the maps' gradient. -/
theorem sums8 (c : Dev nD) (t : Fin cfg0.N) (h : t.val % 8 = 7) (y : S4x128x128.Idx) : (outsAt0 m c t.val t.isLt).2.2.2 y
    = Cert.MixRefIdeal.Read.val_main_v24 (F := Ideal) (m ((c : Thread nD τ).loc main_arg0)) (m ((c : Thread nD τ).loc main_arg1)) (m ((c : Thread nD τ).loc main_arg3)) (m ((c : Thread nD τ).loc main_arg4)) y := by
  rw [Pipeline.eq_sum_fin_of_reset_step_apply_of_flush (fun n h => (outsAt0 m c n h).2.2.2) 8 (fun _ => 0)
    (fun p => add8 m c p) (fun t h j => outA8 m c t h j) (fun t h j => outB8 m c t h j) t h y, zero_add, ref8]
  unfold add8 part8 dm
  refine Fin.sum_mul_add_congr fun s k hl => ?_
  blk_point [iblk, V, idx t, idx ⟨_, Pipeline.run_point_lt_of_flush t h s⟩]

/-- The lower half's array after the run is the reference's. -/
theorem final5 (c : Dev nD) : (dats m 0 c).arrAt 5 cfg0.N
    = Cert.MixRefIdeal.Read.val_main_v26 (F := Ideal) (m ((c : Thread nD τ).loc main_arg0)) (m ((c : Thread nD τ).loc main_arg4)) := by
  refine (dats m 0 c).arrAt_eq_of_covers 5 _ (by decide +kernel) fun t hf y => ?_
  blk_simp
  rw [after0_5, out5, ref5]
  unfold dm
  blk_point [iblk, V, idx t, lo]

/-- The pooled half's array after the run is the reference's. -/
theorem final6 (c : Dev nD) : (dats m 0 c).arrAt 6 cfg0.N
    = Cert.MixRefIdeal.Read.val_main_v25 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, out6, ref6]
  unfold part6 dm
  blk_point [iblk, V, idx t, gq, gr, gc, up]

/-- The scales' gradient after the run is the reference's. -/
theorem final7 (c : Dev nD) : (dats m 0 c).arrAt 7 cfg0.N
    = Cert.MixRefIdeal.Read.val_main_v28 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 7 _ (by decide +kernel) fun t hf y => ?_
  blk_simp
  rw [after0_7, sums7 m c t ((flush0_7 t).mp hf) y]
  congr 1
  blk_ext [idx t]

/-- The maps' gradient after the run is the reference's. -/
theorem final8 (c : Dev nD) : (dats m 0 c).arrAt 8 cfg0.N
    = Cert.MixRefIdeal.Read.val_main_v24 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 8 _ (by decide +kernel) fun t hf y => ?_
  blk_simp
  rw [after0_8, sums8 m c t ((flush0_8 t).mp hf) y]
  congr 1
  blk_ext [idx t]

end Cert.MixIdeal.Value

namespace Cert.Proof

open Idealize.ShloMosaic Idealize.ShloMosaic.TcCoe Idealize.SL.Sem

/-- The claim on the mixer's tail. -/
theorem mix : Cert.algebraic_MixIdeal_MixRefIdeal := by
  pair_intro
  · run_from Cert.MixIdeal.Value.run_blocks m g
  · run_from Cert.MixRefIdeal.Value.run m' g'
    · exact (Cert.MixIdeal.Value.final5 m c).symm
    · exact (Cert.MixIdeal.Value.final6 m c).symm
    · refine (Cert.MixRefIdeal.Read.val_main_v28_eq (F := Ideal) _ _ _ _).trans ?_
      rw [(hagree c).2.2.2.2]
      exact (Cert.MixIdeal.Value.final7 m c).symm
    · exact (Cert.MixIdeal.Value.final8 m c).symm

end Cert.Proof

end
-- ==== Proof.GffValue.lean ====
/-
  The gradient of a feed-forward weight (`Gff`): four quarters of one product `dᵀ h`, one quarter per grid point.
  At a point the body multiplies the turned quarter of the cotangent by the whole of the normed rows and writes the
  quarter of the result, once as it is and once narrowed, which over the reals is the same number.
-/
module

public import proofs.«01_k».proof.Defs
public import proofs.«01_k».proof.Proof.Gen.GffIdeal.Value
public import proofs.«01_k».proof.Proof.Gen.GffRefIdeal.Read
public import Idealize.ShloMosaic.Lib.Pipeline.ValueKit

@[expose] public section

set_option maxRecDepth 16384

noncomputable section

namespace Cert.GffIdeal.Value

open Cert.GffIdeal Cert.GffIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at a point. -/
theorem idx : ∀ t : Fin cfg0.N, win0_0.index t = ![t.val, 0, 0] ∧ win0_1.index t = ![0, 0]
    ∧ win0_2.index t = ![t.val, 0, 0] ∧ win0_3.index t = ![t.val, 0, 0] ∧ t.val < 4 :=
  (by decide +kernel : ∀ t : Fin grid0.N, _)

/-- The stored quarter, at an index of the quarter: the product's entry in the whole result. -/
theorem point (c : Dev nD) (t : Fin cfg0.N) (y : S1x704x1024.Idx) :
    k0_pay2 (iblk m c 0 t) (iblk m c 1 t) y
      = Cert.GffRefIdeal.Read.val_main_v7 (F := Ideal) (m ((c : Thread nD τ).loc main_arg0)) (m ((c : Thread nD τ).loc main_arg1))
          (((cfg0.win 2).blk t).view.emb y) := by
  pointwise [k0_pay2, k0_pay1, Cert.GffRefIdeal.Read.val_main_v7, Cert.GffRefIdeal.Read.val_main_v6, Cert.GffRefIdeal.Read.val_main_v5,
    Cert.GffRefIdeal.Read.val_main_v4, Cert.GffRefIdeal.Read.val_main_v3, Cert.GffRefIdeal.Read.val_main_v1]
  blk_point [iblk, V, idx t]

/-- The gradient's array after the run is the reference's. -/
theorem final (c : Dev nD) : (dats m 0 c).arrAt 2 cfg0.N
    = Cert.GffRefIdeal.Read.val_main_v7 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- Its narrowed copy is the reference's, the same numbers. -/
theorem final_narrow (c : Dev nD) : (dats m 0 c).arrAt 3 cfg0.N
    = Cert.GffRefIdeal.Read.val_main_v8 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  unfold outsAt0
  frame_out
  pointwise [k0_pay4, k0_pay2, k0_pay1, Cert.GffRefIdeal.Read.val_main_v8, Cert.GffRefIdeal.Read.val_main_v7, Cert.GffRefIdeal.Read.val_main_v6,
    Cert.GffRefIdeal.Read.val_main_v5, Cert.GffRefIdeal.Read.val_main_v4, Cert.GffRefIdeal.Read.val_main_v3, Cert.GffRefIdeal.Read.val_main_v1]
  blk_point [iblk, V, idx t]

end Cert.GffIdeal.Value

namespace Cert.Proof

open Idealize.ShloMosaic Idealize.ShloMosaic.TcCoe Idealize.SL.Sem

/-- The claim on the gradient of a feed-forward weight. -/
theorem gff : Cert.algebraic_GffIdeal_GffRefIdeal := by
  pair_intro
  · run_from Cert.GffIdeal.Value.run_blocks m g
  · run_from Cert.GffRefIdeal.Value.run m' g'
    · exact (Cert.GffIdeal.Value.final m c).symm
    · exact (Cert.GffIdeal.Value.final_narrow m c).symm

end Cert.Proof

end
-- ==== Proof.GoutValue.lean ====
/-
  The gradient of the output projection of the mixer (`Gout`): one product `mixedᵀ dmix` at one grid point, stored once
  as it is and once narrowed, which over the reals is the same number.
-/
module

public import proofs.«01_k».proof.Defs
public import proofs.«01_k».proof.Proof.Gen.GoutIdeal.Value
public import proofs.«01_k».proof.Proof.Gen.GoutRefIdeal.Read
public import Idealize.ShloMosaic.Lib.Pipeline.ValueKit

@[expose] public section

set_option maxRecDepth 16384

noncomputable section

namespace Cert.GoutIdeal.Value

open Cert.GoutIdeal Cert.GoutIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at a point. -/
theorem idx : ∀ t : Fin cfg0.N, win0_0.index t = ![0, 0] ∧ win0_1.index t = ![0, 0]
    ∧ win0_2.index t = ![0, 0, 0] ∧ win0_3.index t = ![0, 0, 0] ∧ t.val < 1 :=
  (by decide +kernel : ∀ t : Fin grid0.N, _)

/-- The stored block, at an index of the block: the product's entry in the whole result. -/
theorem point (c : Dev nD) (t : Fin cfg0.N) (y : S1x1024x1024.Idx) :
    k0_pay2 (iblk m c 0 t) (iblk m c 1 t) y
      = Cert.GoutRefIdeal.Read.val_main_v6 (F := Ideal) (m ((c : Thread nD τ).loc main_arg0)) (m ((c : Thread nD τ).loc main_arg1))
          (((cfg0.win 2).blk t).view.emb y) := by
  pointwise [k0_pay2, k0_pay1, Cert.GoutRefIdeal.Read.val_main_v6, Cert.GoutRefIdeal.Read.val_main_v5, Cert.GoutRefIdeal.Read.val_main_v4, Cert.GoutRefIdeal.Read.val_main_v3, Cert.GoutRefIdeal.Read.val_main_v1]
  refine (Fin.sum_fin_congr fun k => mul_comm (_ : EReal) (_ : EReal)).trans ?_
  blk_point [iblk, V, idx t]

/-- The gradient's array after the run is the reference's. -/
theorem final (c : Dev nD) : (dats m 0 c).arrAt 2 cfg0.N
    = Cert.GoutRefIdeal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- Its narrowed copy is the reference's, the same numbers. -/
theorem final_narrow (c : Dev nD) : (dats m 0 c).arrAt 3 cfg0.N
    = Cert.GoutRefIdeal.Read.val_main_v7 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  unfold outsAt0
  frame_out
  pointwise [k0_pay4, k0_pay2, k0_pay1, Cert.GoutRefIdeal.Read.val_main_v7, Cert.GoutRefIdeal.Read.val_main_v6, Cert.GoutRefIdeal.Read.val_main_v5, Cert.GoutRefIdeal.Read.val_main_v4, Cert.GoutRefIdeal.Read.val_main_v3, Cert.GoutRefIdeal.Read.val_main_v1]
  refine (Fin.sum_fin_congr fun k => mul_comm (_ : EReal) (_ : EReal)).trans ?_
  blk_point [iblk, V, idx t]

end Cert.GoutIdeal.Value

namespace Cert.Proof

open Idealize.ShloMosaic Idealize.ShloMosaic.TcCoe Idealize.SL.Sem

/-- The claim on the gradient of the output projection. -/
theorem gout : Cert.algebraic_GoutIdeal_GoutRefIdeal := by
  pair_intro
  · run_from Cert.GoutIdeal.Value.run_blocks m g
  · run_from Cert.GoutRefIdeal.Value.run m' g'
    · exact (Cert.GoutIdeal.Value.final m c).symm
    · exact (Cert.GoutIdeal.Value.final_narrow m c).symm

end Cert.Proof

end
-- ==== Proof.GinValue.lean ====
/-
  The gradient of the input projection (`Gin`): two grid points, each adding the product of its half of the rows into
  four blocks of columns, one block for each of the four cotangents; the second point narrows the sum.
-/
module

public import proofs.«01_k».proof.Defs
public import proofs.«01_k».proof.Proof.Gen.GinIdeal.Value
public import proofs.«01_k».proof.Proof.Gen.GinRefIdeal.Read
public import proofs.«01_k».proof.Proof.Covered
public import Idealize.ShloMosaic.Lib.Pipeline.ReadBack
public import Idealize.ShloMosaic.Lib.Pipeline.ValueKit

@[expose] public section

set_option maxRecDepth 16384

noncomputable section

namespace Cert.GinIdeal.Value

open Cert.GinIdeal Cert.GinIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0] ∧ win0_6.index t = ![0, 0, 0]
    ∧ t.val < 2 :=
  (by decide +kernel : ∀ t : Fin grid0.N, _)

/-- Of the four cotangents, the one that a block of columns belongs to. -/
def pick (n : ℕ) (a b c d : EReal) : EReal := if n = 0 then a else if n = 1 then b else if n = 2 then c else d

/-- What one grid point adds: the product of its rows, for the cotangent of the block. -/
def part (X0 : FVec Ideal S2048x1024 .bf16) (X1 X2 X3 X4 : FVec Ideal S2048x512 .bf16) : FVec Ideal S4x1024x512 .f32 :=
  fun y => ∑ k : Fin 2048, X0 (ix2 k (y 1)) * pick (y 0 : ℕ) (X1 (ix2 k (y 2))) (X2 (ix2 k (y 2))) (X3 (ix2 k (y 2))) (X4 (ix2 k (y 2)))

/-- The first point leaves its own part, over zeros. -/
theorem outA (c : Dev nD) (t : Fin cfg0.N) (h : t.val % 2 = 0) (y : S4x1024x512.Idx) : (outsAt0 m c t.val t.isLt).1 y
    = 0 + part (iblk m c 0 t) (iblk m c 1 t) (iblk m c 2 t) (iblk m c 3 t) (iblk m c 4 t) y := by
  rw [outsAt0_A m c t h (by omega)]
  frame_open
  simp (disch := decide) only [↓ View.readCov_skip, ↓ View.readCov_cons_toLoadRect, ↓ View.readCov_fill]
  frame_out
  refine (Cert.Covered.canon_take 4 _ y (by
    simp only [List.take_succ_cons, List.take_zero]; exact View.cover_of_tiled_head _ _ _ rfl y)).trans ?_
  simp only [List.take_succ_cons, List.take_zero]
  canon_tiles x h
  all_goals (open_payloads; pointwise [part, pick, k0_pay4])
  all_goals (blk_point [] <;> (exfalso; omega))

/-- The second point adds its part to what the first left. -/
theorem outB (c : Dev nD) (t : Fin cfg0.N) (h : ¬t.val % 2 = 0) (y : S4x1024x512.Idx) : (outsAt0 m c t.val t.isLt).1 y
    = (outsAt0 m c (t.val - 1) (Nat.lt_of_le_of_lt (Nat.sub_le _ _) t.isLt)).1 y
      + part (iblk m c 0 t) (iblk m c 1 t) (iblk m c 2 t) (iblk m c 3 t) (iblk m c 4 t) y := by
  rw [outsAt0_B m c t h (by omega)]
  frame_open
  simp (disch := decide) only [↓ View.readCov_skip, ↓ View.readCov_cons_toLoadRect, ↓ View.readCov_fill]
  frame_out
  canon_tiles x h
  all_goals (open_payloads; pointwise [part, pick])
  all_goals (blk_point [] <;> (exfalso; omega))

/-- The reference's gradient at an index. -/
theorem ref (X0 : FVec Ideal S4096x1024 .bf16) (X1 X2 X3 X4 : FVec Ideal S4096x512 .bf16) (y : S4x1024x512.Idx) :
    Cert.GinRefIdeal.Read.val_main_v8 (F := Ideal) X0 X1 X2 X3 X4 y
      = ∑ k : Fin 4096, X0 (ix2 k (y 1)) * pick (y 0 : ℕ) (X1 (ix2 k (y 2))) (X2 (ix2 k (y 2))) (X3 (ix2 k (y 2))) (X4 (ix2 k (y 2))) := by
  pointwise [Cert.GinRefIdeal.Read.val_main_v8, Cert.GinRefIdeal.Read.val_main_v7, Cert.GinRefIdeal.Read.val_main_v6, Cert.GinRefIdeal.Read.val_main_v5,
    Cert.GinRefIdeal.Read.val_main_v4, Cert.GinRefIdeal.Read.val_main_v2, Cert.GinRefIdeal.Read.val_main_v1, pick]
  refine Fin.sum_fin_congr fun k => (mul_comm (_ : EReal) (_ : EReal)).trans (congrArg (X0 (ix2 k (y 1)) * ·) ?_)
  idx_bounds
  repeat' split
  all_goals first | (exfalso; omega) | blk_ext

/-- So does its narrowed copy. -/
theorem outB_narrow (c : Dev nD) (t : Fin cfg0.N) (h : t.val % 2 = 1) (y : S4x1024x512.Idx) : (outsAt0 m c t.val t.isLt).2 y
    = (outsAt0 m c (t.val - 1) (Nat.lt_of_le_of_lt (Nat.sub_le _ _) t.isLt)).1 y
      + part (iblk m c 0 t) (iblk m c 1 t) (iblk m c 2 t) (iblk m c 3 t) (iblk m c 4 t) y := by
  rw [outsAt0_B m c t (by omega) h]
  frame_open
  simp (disch := decide) only [↓ View.readCov_skip, ↓ View.readCov_cons_toLoadRect, ↓ View.readCov_fill, Cert.Covered.readCov_whole]
  frame_out
  pointwise [k0_pay3]
  canon_tiles x h
  all_goals (open_payloads; pointwise [part, pick])
  all_goals (blk_point [] <;> (exfalso; omega))

/-- The narrowed copy holds what the gradient's block holds. -/
theorem narrow (c : Dev nD) (t : Fin cfg0.N) (h : t.val % 2 = 1) (y : S4x1024x512.Idx) :
    (outsAt0 m c t.val t.isLt).2 y = (outsAt0 m c t.val t.isLt).1 y :=
  (outB_narrow m c t h y).trans (outB m c t (by omega) y).symm

/-- The gradient's block at the second point is the reference's. -/
theorem sums (c : Dev nD) (t : Fin cfg0.N) (h : t.val % 2 = 1) (y : S4x1024x512.Idx) : (outsAt0 m c t.val t.isLt).1 y
    = Cert.GinRefIdeal.Read.val_main_v8 (F := Ideal) (m ((c : Thread nD τ).loc main_arg0))
      (m ((c : Thread nD τ).loc main_arg1))
      (m ((c : Thread nD τ).loc main_arg2))
      (m ((c : Thread nD τ).loc main_arg3))
      (m ((c : Thread nD τ).loc main_arg4)) y := by
  rw [Pipeline.eq_sum_fin_of_reset_step_apply_of_flush (fun n h => (outsAt0 m c n h).1) 2 (fun _ => 0)
    (fun p => part (iblk m c 0 p) (iblk m c 1 p) (iblk m c 2 p) (iblk m c 3 p) (iblk m c 4 p))
    (fun t h j => outA m c t h j) (fun t h j => outB m c t h j) t h y, zero_add, ref]
  unfold part
  refine Fin.sum_mul_add_congr fun s k hl => ?_
  blk_point [iblk, V, idx t, idx ⟨_, Pipeline.run_point_lt_of_flush t h s⟩]

/-- The one block of the narrowed copy is the whole of it. -/
theorem emb6 (t : Fin cfg0.N) (y : S4x1024x512.Idx) : ((cfg0.win 6).blk t).view.emb y = y := by
  blk_ext [idx t]

/-- The gradient's array after the run is the reference's. -/
theorem final (c : Dev nD) : (dats m 0 c).arrAt 5 cfg0.N
    = Cert.GinRefIdeal.Read.val_main_v8 (F := Ideal) (m ((c : Thread nD τ).loc main_arg0))
      (m ((c : Thread nD τ).loc main_arg1))
      (m ((c : Thread nD τ).loc main_arg2))
      (m ((c : Thread nD τ).loc main_arg3))
      (m ((c : Thread nD τ).loc main_arg4)) := by
  refine (dats m 0 c).arrAt_eq_of_covers 5 _ (by decide +kernel) fun t hf y => ?_
  blk_simp
  rw [after0_5, sums m c t ((flush0_5 t).mp hf) y]
  congr 1
  blk_ext [idx t]

/-- The reference's narrowed copy holds its gradient's numbers. -/
theorem ref_narrow (X0 : FVec Ideal S4096x1024 .bf16) (X1 X2 X3 X4 : FVec Ideal S4096x512 .bf16) (y : S4x1024x512.Idx) :
    Cert.GinRefIdeal.Read.val_main_v9 (F := Ideal) X0 X1 X2 X3 X4 y = Cert.GinRefIdeal.Read.val_main_v8 (F := Ideal) X0 X1 X2 X3 X4 y := by
  pointwise [Cert.GinRefIdeal.Read.val_main_v9]

/-- Its narrowed copy is the reference's. -/
theorem final_narrow (c : Dev nD) : (dats m 0 c).arrAt 6 cfg0.N
    = Cert.GinRefIdeal.Read.val_main_v9 (F := Ideal) (m ((c : Thread nD τ).loc main_arg0))
      (m ((c : Thread nD τ).loc main_arg1))
      (m ((c : Thread nD τ).loc main_arg2))
      (m ((c : Thread nD τ).loc main_arg3))
      (m ((c : Thread nD τ).loc main_arg4)) := by
  refine (dats m 0 c).arrAt_eq_of_covers 6 _ (by decide +kernel) fun t hf y => ?_
  blk_simp
  rw [after0_6, narrow m c t ((flush0_6 t).mp hf) y, sums m c t ((flush0_6 t).mp hf) y]
  refine Eq.trans ?_ (congrArg (Cert.GinRefIdeal.Read.val_main_v9 (F := Ideal) (m ((c : Thread nD τ).loc main_arg0))
      (m ((c : Thread nD τ).loc main_arg1))
      (m ((c : Thread nD τ).loc main_arg2))
      (m ((c : Thread nD τ).loc main_arg3))
      (m ((c : Thread nD τ).loc main_arg4))) (emb6 t y)).symm
  exact (ref_narrow ..).symm

end Cert.GinIdeal.Value

namespace Cert.Proof

open Idealize.ShloMosaic Idealize.ShloMosaic.TcCoe Idealize.SL.Sem

/-- The claim on the gradient of the input projection. -/
theorem gin : Cert.algebraic_GinIdeal_GinRefIdeal := by
  pair_intro
  · run_from Cert.GinIdeal.Value.run_blocks m g
  · run_from Cert.GinRefIdeal.Value.run m' g'
    · refine (Cert.GinRefIdeal.Read.val_main_v8_eq (F := Ideal) _ _ _ _ _).trans ?_
      rw [(hagree c).2.1, (hagree c).2.2.1, (hagree c).2.2.2.1, (hagree c).2.2.2.2]
      exact (Cert.GinIdeal.Value.final m c).symm
    · refine (Cert.GinRefIdeal.Read.val_main_v9_eq (F := Ideal) _ _ _ _ _).trans ?_
      rw [(hagree c).2.1, (hagree c).2.2.1, (hagree c).2.2.2.1, (hagree c).2.2.2.2]
      exact (Cert.GinIdeal.Value.final_narrow m c).symm

end Cert.Proof

end
-- ==== Proof.FfnForm.lean ====
/-
  The forms that one token's row takes through the feed-forward half backwards: the gate's derivative, the normalization's
  derivative, the residual's and the mixer's cotangents. Rows are functions of the column.
-/
module

public import proofs.«01_k».proof.Defs
public import Idealize.ShloMosaic.Lib.Pipeline.ValueKit

@[expose] public section

noncomputable section

namespace Cert.FfnForm

open Idealize.ShloMosaic

/-- A token's row. -/
abbrev Row : Type := Fin 1024 → EReal

/-- The row's length, as the programs write it, -/
abbrev cN : EReal := Ideal.ofBits .f32 0x44800000#32
/-- the small constant under the root, -/
abbrev cE : EReal := Ideal.ofBits .f32 0x358637BD#32
/-- one, -/
abbrev c1 : EReal := Ideal.ofBits .f32 0x3F800000#32
/-- one half, -/
abbrev ch : EReal := Ideal.ofBits .f32 0x3F000000#32
/-- and minus one half. -/
abbrev cm : EReal := Ideal.ofBits .f32 0xBF000000#32

/-- The reciprocal root of a row's mean square. -/
def rinv (x : Row) : EReal := Ideal.rsqrt (Ideal.div (∑ k, x k * x k) cN + cE)

/-- The normalization backwards, from the normalized row. -/
def nbwd (dn n : Row) (r : EReal) (d : Fin 1024) : EReal := r * (dn d - n d * Ideal.div (∑ k, dn k * n k) cN)

/-- The logistic function by the hyperbolic tangent. -/
def sigm (a : EReal) : EReal := ch * Ideal.tanh (ch * a) + ch

/-- The cotangent of the gate's argument, the inner cotangent `g` and the other factor `b` given, -/
def daOf (g a b : EReal) : EReal := (g * b) * (sigm a * (c1 + a * (c1 - sigm a)))

/-- and of the other factor. -/
def dbOf (g a : EReal) : EReal := g * (a * sigm a)

/-- The inner cotangent, through the down projection. -/
def dfin (df : Row) (w : Row) : EReal := ∑ k, df k * w k

/-- The normalized row. -/
def nrm (x : Row) (d : Fin 1024) : EReal := x d * rinv x

/-- The residual's cotangent: `h` is the normalized, scaled row's cotangent. -/
def dxOf (h x dy s g : Row) (d : Fin 1024) : EReal :=
  dy d + nbwd (fun k => (h k * (c1 + s k)) * g k) (nrm x) (rinv x) d

/-- The mixer's cotangent, from the residual's. -/
def dmOf (dx mx gate g : Row) (d : Fin 1024) : EReal :=
  nbwd (fun k => (dx k * gate k) * g k) (nrm mx) (rinv mx) d

/-- A row against a normalized, scaled row, -/
def pn (h x g : Row) (d : Fin 1024) : EReal := h d * (nrm x d * g d)

/-- and a scaled row against a normalized one. -/
def ps (h s x : Row) (d : Fin 1024) : EReal := (h d * s d) * nrm x d

end Cert.FfnForm

end
-- ==== Proof.FfnTile.lean ====
/-
  The feed-forward half backwards (`Ffn`), the tiles: at every grid point one quarter of the hidden columns of 512 tokens.
-/
module

public import proofs.«01_k».proof.Defs
public import proofs.«01_k».proof.Proof.Gen.FfnIdeal.Value
public import proofs.«01_k».proof.Proof.Covered
public import proofs.«01_k».proof.Proof.FfnForm
public import Idealize.ShloMosaic.Lib.Pipeline.ReadBack
public import Idealize.ShloMosaic.Lib.Pipeline.ValueKit

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Cert.FfnForm

variable (m : (ℓ : Loc nD τ sig) → Buf (Elt Ideal) ℓ)

/-- The inner cotangent of a tile. -/
def tg (X0 : FVec Ideal S512x1024 .bf16) (X3 : FVec Ideal S1x704x1024 .bf16) (r : Fin 512) (f : Fin 704) : EReal :=
  dfin (fun k => X0 (ix2 r k)) (fun k => X3 (ix3 0 f k))

/-- The five kinds of grid point. -/
theorem kinds (t : Fin cfg0.N) : (t.val % 4 = 0 ∧ ¬t.val % 4 = 3) ∨ (¬t.val % 4 = 0 ∧ ¬t.val % 4 = 3)
    ∨ (¬t.val % 4 = 0 ∧ t.val % 4 = 3 ∧ t.val < 4 ∧ (t.val % 16 = 0 ∨ t.val % 16 = 1 ∨ t.val % 16 = 2 ∨ t.val % 16 = 3))
    ∨ (¬t.val % 4 = 0 ∧ t.val % 4 = 3 ∧ ¬t.val < 4 ∧ ¬(t.val % 16 = 0 ∨ t.val % 16 = 1 ∨ t.val % 16 = 2 ∨ t.val % 16 = 3))
    ∨ (¬t.val % 4 = 0 ∧ t.val % 4 = 3 ∧ ¬t.val < 4 ∧ (t.val % 16 = 0 ∨ t.val % 16 = 1 ∨ t.val % 16 = 2 ∨ t.val % 16 = 3)) := by
  omega

/-- The gate's cotangent of a tile, -/
def ta (c : Dev nD) (t : Fin cfg0.N) (r : Fin 512) (f : Fin 704) : EReal :=
  daOf (tg (iblk m c 0 t) (iblk m c 3 t) r f) (iblk m c 1 t (ix3 0 r f)) (iblk m c 2 t (ix3 0 r f))

/-- the other factor's, -/
def tb (c : Dev nD) (t : Fin cfg0.N) (r : Fin 512) (f : Fin 704) : EReal :=
  dbOf (tg (iblk m c 0 t) (iblk m c 3 t) r f) (iblk m c 1 t (ix3 0 r f))

/-- and what the point adds to the input's. -/
def th (c : Dev nD) (t : Fin cfg0.N) (r : Fin 512) (d : Fin 1024) : EReal :=
  (∑ f : Fin 704, ta m c t r f * iblk m c 4 t (ix3 0 f d)) + ∑ f : Fin 704, tb m c t r f * iblk m c 5 t (ix3 0 f d)

/-- The gate's cotangent, at every point. -/
theorem out12 (c : Dev nD) (t : Fin cfg0.N) (y : S1x512x704.Idx) : (outsAt0 m c t.val t.isLt).1 y = ta m c t (y 1) (y 2) := by
  rcases kinds t with ⟨h0, h1⟩ | ⟨h0, h1⟩ | ⟨h0, h1, h2, h3⟩ | ⟨h0, h1, h2, h3⟩ | ⟨h0, h1, h2, h3⟩
  · rw [outsAt0_A m c t h0 h1]
    frame_open
    simp (disch := decide) only [↓ View.readCov_skip, ↓ View.readCov_cons_toLoadRect, ↓ View.readCov_fill, Cert.Covered.readCov_whole]
    frame_out
    canon_tiles x h
    all_goals (open_payloads; pointwise [ta, daOf, tg, dfin, sigm])
    all_goals blk_point []
  · rw [outsAt0_B m c t h0 h1]
    frame_open
    simp (disch := decide) only [↓ View.readCov_skip, ↓ View.readCov_cons_toLoadRect, ↓ View.readCov_fill, Cert.Covered.readCov_whole]
    frame_out
    canon_tiles x h
    all_goals (open_payloads; pointwise [ta, daOf, tg, dfin, sigm])
    all_goals blk_point []
  · rw [outsAt0_C m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [ta, daOf, tg, dfin, sigm])
    all_goals blk_point []
  · rw [outsAt0_D m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [ta, daOf, tg, dfin, sigm])
    all_goals blk_point []
  · rw [outsAt0_E m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [ta, daOf, tg, dfin, sigm])
    all_goals blk_point []

/-- The other factor's, at every point. -/
theorem out13 (c : Dev nD) (t : Fin cfg0.N) (y : S1x512x704.Idx) : (outsAt0 m c t.val t.isLt).2.1 y = tb m c t (y 1) (y 2) := by
  rcases kinds t with ⟨h0, h1⟩ | ⟨h0, h1⟩ | ⟨h0, h1, h2, h3⟩ | ⟨h0, h1, h2, h3⟩ | ⟨h0, h1, h2, h3⟩
  · rw [outsAt0_A m c t h0 h1]
    frame_open
    simp (disch := decide) only [↓ View.readCov_skip, ↓ View.readCov_cons_toLoadRect, ↓ View.readCov_fill, Cert.Covered.readCov_whole]
    frame_out
    canon_tiles x h
    all_goals (open_payloads; pointwise [tb, dbOf, tg, dfin, sigm])
    all_goals blk_point []
  · rw [outsAt0_B m c t h0 h1]
    frame_open
    simp (disch := decide) only [↓ View.readCov_skip, ↓ View.readCov_cons_toLoadRect, ↓ View.readCov_fill, Cert.Covered.readCov_whole]
    frame_out
    canon_tiles x h
    all_goals (open_payloads; pointwise [tb, dbOf, tg, dfin, sigm])
    all_goals blk_point []
  · rw [outsAt0_C m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [tb, dbOf, tg, dfin, sigm])
    all_goals blk_point []
  · rw [outsAt0_D m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [tb, dbOf, tg, dfin, sigm])
    all_goals blk_point []
  · rw [outsAt0_E m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [tb, dbOf, tg, dfin, sigm])
    all_goals blk_point []

/-- The running sum starts with the first quarter, -/
theorem accA (c : Dev nD) (t : Fin cfg0.N) (h0 : t.val % 4 = 0) (y : S512x1024.Idx) : (outsAt0 m c t.val t.isLt).2.2.2.2.2.2 y
    = 0 + th m c t (y 0) (y 1) := by
  · rw [outsAt0_A m c t h0 (by omega)]
    frame_open
    simp (disch := decide) only [↓ View.readCov_skip, ↓ View.readCov_cons_toLoadRect, ↓ View.readCov_fill, Cert.Covered.readCov_whole]
    frame_out
    refine (Cert.Covered.canon_take 2 _ y (by
      simp only [List.take_succ_cons, List.take_zero]; exact View.cover_of_tiled_head _ _ _ rfl y)).trans ?_
    simp only [List.take_succ_cons, List.take_zero]
    canon_tiles x h
    all_goals (open_payloads; pointwise [th, ta, tb, daOf, dbOf, tg, dfin, sigm])
    all_goals blk_point []

/-- and every further quarter is added. -/
theorem accB (c : Dev nD) (t : Fin cfg0.N) (h0 : ¬t.val % 4 = 0) (y : S512x1024.Idx) : (outsAt0 m c t.val t.isLt).2.2.2.2.2.2 y
    = (outsAt0 m c (t.val - 1) (Nat.lt_of_le_of_lt (Nat.sub_le _ _) t.isLt)).2.2.2.2.2.2 y + th m c t (y 0) (y 1) := by
  rcases kinds t with ⟨h0', h1⟩ | ⟨h0, h1⟩ | ⟨h0, h1, h2, h3⟩ | ⟨h0, h1, h2, h3⟩ | ⟨h0, h1, h2, h3⟩
  · exact absurd h0' h0
  · rw [outsAt0_B m c t h0 h1]
    frame_open
    simp (disch := decide) only [↓ View.readCov_skip, ↓ View.readCov_cons_toLoadRect, ↓ View.readCov_fill, Cert.Covered.readCov_whole]
    frame_out
    canon_tiles x h
    all_goals (open_payloads; pointwise [th, ta, tb, daOf, dbOf, tg, dfin, sigm])
    all_goals blk_point []
    all_goals (refine (congrFun (Memref.IsWhole.read_unread _ _) _).trans ?_; blk_point [])
  · rw [outsAt0_C m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [th, ta, tb, daOf, dbOf, tg, dfin, sigm])
    all_goals blk_point []
    all_goals (refine (congrFun (Memref.IsWhole.read_unread _ _) _).trans ?_; blk_point [])
  · rw [outsAt0_D m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [th, ta, tb, daOf, dbOf, tg, dfin, sigm])
    all_goals blk_point []
    all_goals (refine (congrFun (Memref.IsWhole.read_unread _ _) _).trans ?_; blk_point [])
  · rw [outsAt0_E m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [th, ta, tb, daOf, dbOf, tg, dfin, sigm])
    all_goals blk_point []
    all_goals (refine (congrFun (Memref.IsWhole.read_unread _ _) _).trans ?_; blk_point [])

end Cert.FfnIdeal.Value

end
-- ==== Proof.FfnTok.lean ====
/-
  The feed-forward half backwards (`Ffn`), the rows: at the last quarter of every 512 tokens.
-/
module

public import proofs.«01_k».proof.Defs
public import proofs.«01_k».proof.Proof.Gen.FfnIdeal.Value
public import proofs.«01_k».proof.Proof.Covered
public import proofs.«01_k».proof.Proof.FfnTile
public import Idealize.ShloMosaic.Lib.Pipeline.ReadBack
public import Idealize.ShloMosaic.Lib.Pipeline.ValueKit

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Cert.FfnForm

variable (m : (ℓ : Loc nD τ sig) → Buf (Elt Ideal) ℓ)

/-- The residual's cotangent of a row of the tile, from the input's cotangent `H`. -/
def tx (c : Dev nD) (t : Fin cfg0.N) (H : FVec Ideal S512x1024 .f32) (r : Fin 512) : Row :=
  dxOf (fun k => H (ix2 r k)) (fun k => iblk m c 6 t (ix2 r k)) (fun k => iblk m c 7 t (ix2 r k)) (fun k => iblk m c 9 t (ix3 0 4 k))
    (fun k => iblk m c 10 t (ix2 0 k))

/-- The residual's cotangent at the last quarter. -/
theorem out14 (c : Dev nD) (t : Fin cfg0.N) (h1 : t.val % 4 = 3) (y : S512x1024.Idx) : (outsAt0 m c t.val t.isLt).2.2.1 y
    = tx m c t (outsAt0 m c t.val t.isLt).2.2.2.2.2.2 (y 0) (y 1) := by
  obtain ⟨H, hH⟩ : ∃ H, H = (outsAt0 m c t.val t.isLt).2.2.2.2.2.2 := ⟨_, rfl⟩
  rw [← hH]
  rcases kinds t with ⟨h0, h1⟩ | ⟨h0, h1⟩ | ⟨h0, h1, h2, h3⟩ | ⟨h0, h1, h2, h3⟩ | ⟨h0, h1, h2, h3⟩
  · contradiction
  · contradiction
  · rw [outsAt0_C m c t h0 h1 h2 h3] at hH ⊢
    frame_open at hH ⊢
    simp (disch := decide) only [↓ View.readCov_skip, ↓ View.readCov_cons_toLoadRect, ↓ View.readCov_fill, Cert.Covered.readCov_whole, View.read_writes_junk_eq_canon] at hH ⊢
    rw [← hH]
    clear hH
    frame_out
    open_payloads
    pointwise [tx, dxOf, nbwd, nrm, rinv]
  · rw [outsAt0_D m c t h0 h1 h2 h3] at hH ⊢
    frame_open at hH ⊢
    simp (disch := decide) only [↓ View.readCov_skip, ↓ View.readCov_cons_toLoadRect, ↓ View.readCov_fill, Cert.Covered.readCov_whole, View.read_writes_junk_eq_canon] at hH ⊢
    rw [← hH]
    clear hH
    frame_out
    open_payloads
    pointwise [tx, dxOf, nbwd, nrm, rinv]
  · rw [outsAt0_E m c t h0 h1 h2 h3] at hH ⊢
    frame_open at hH ⊢
    simp (disch := decide) only [↓ View.readCov_skip, ↓ View.readCov_cons_toLoadRect, ↓ View.readCov_fill, Cert.Covered.readCov_whole, View.read_writes_junk_eq_canon] at hH ⊢
    rw [← hH]
    clear hH
    frame_out
    open_payloads
    pointwise [tx, dxOf, nbwd, nrm, rinv]

/-- The mixer's cotangent of a row of the tile. -/
def tm (c : Dev nD) (t : Fin cfg0.N) (H : FVec Ideal S512x1024 .f32) (r : Fin 512) : Row :=
  dmOf (tx m c t H r) (fun k => iblk m c 8 t (ix2 r k)) (fun k => iblk m c 9 t (ix3 0 2 k)) (fun k => iblk m c 11 t (ix2 0 k))

/-- The mixer's cotangent at the last quarter. -/
theorem out15 (c : Dev nD) (t : Fin cfg0.N) (h1 : t.val % 4 = 3) (y : S512x1024.Idx) : (outsAt0 m c t.val t.isLt).2.2.2.1 y
    = tm m c t (outsAt0 m c t.val t.isLt).2.2.2.2.2.2 (y 0) (y 1) := by
  obtain ⟨H, hH⟩ : ∃ H, H = (outsAt0 m c t.val t.isLt).2.2.2.2.2.2 := ⟨_, rfl⟩
  rw [← hH]
  rcases kinds t with ⟨h0, h1⟩ | ⟨h0, h1⟩ | ⟨h0, h1, h2, h3⟩ | ⟨h0, h1, h2, h3⟩ | ⟨h0, h1, h2, h3⟩
  · contradiction
  · contradiction
  · rw [outsAt0_C m c t h0 h1 h2 h3] at hH ⊢
    frame_open at hH ⊢
    simp (disch := decide) only [↓ View.readCov_skip, ↓ View.readCov_cons_toLoadRect, ↓ View.readCov_fill, Cert.Covered.readCov_whole, View.read_writes_junk_eq_canon] at hH ⊢
    rw [← hH]
    clear hH
    frame_out
    open_payloads
    pointwise [tm, dmOf, tx, dxOf, nbwd, nrm, rinv]
  · rw [outsAt0_D m c t h0 h1 h2 h3] at hH ⊢
    frame_open at hH ⊢
    simp (disch := decide) only [↓ View.readCov_skip, ↓ View.readCov_cons_toLoadRect, ↓ View.readCov_fill, Cert.Covered.readCov_whole, View.read_writes_junk_eq_canon] at hH ⊢
    rw [← hH]
    clear hH
    frame_out
    open_payloads
    pointwise [tm, dmOf, tx, dxOf, nbwd, nrm, rinv]
  · rw [outsAt0_E m c t h0 h1 h2 h3] at hH ⊢
    frame_open at hH ⊢
    simp (disch := decide) only [↓ View.readCov_skip, ↓ View.readCov_cons_toLoadRect, ↓ View.readCov_fill, Cert.Covered.readCov_whole, View.read_writes_junk_eq_canon] at hH ⊢
    rw [← hH]
    clear hH
    frame_out
    open_payloads
    pointwise [tm, dmOf, tx, dxOf, nbwd, nrm, rinv]

end Cert.FfnIdeal.Value

end
-- ==== Proof.FfnAcc.lean ====
/-
  The feed-forward half backwards (`Ffn`), the sums over the tokens.
-/
module

public import proofs.«01_k».proof.Defs
public import proofs.«01_k».proof.Proof.Gen.FfnIdeal.Value
public import proofs.«01_k».proof.Proof.Covered
public import proofs.«01_k».proof.Proof.FfnTok
public import Idealize.ShloMosaic.Lib.Pipeline.ReadBack
public import Idealize.ShloMosaic.Lib.Pipeline.ValueKit

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Cert.FfnForm

variable (m : (ℓ : Loc nD τ sig) → Buf (Elt Ideal) ℓ)

/-- What a tile adds to the gradients of one sequence's shift, scale and gate. -/
def ab (c : Dev nD) (t : Fin cfg0.N) (H : FVec Ideal S512x1024 .f32) (y : S1x8x1024.Idx) : EReal :=
  if (y 1 : ℕ) = 0 then ∑ r : Fin 512, H (ix2 r (y 2))
  else if (y 1 : ℕ) = 1 then ∑ r : Fin 512, pn (fun k => H (ix2 r k)) (fun k => iblk m c 6 t (ix2 r k)) (fun k => iblk m c 10 t (ix2 0 k)) (y 2)
  else if (y 1 : ℕ) = 2 then ∑ r : Fin 512, pn (tx m c t H r) (fun k => iblk m c 8 t (ix2 r k)) (fun k => iblk m c 11 t (ix2 0 k)) (y 2)
  else 0

theorem ab0 (c : Dev nD) (t : Fin cfg0.N) (H : FVec Ideal S512x1024 .f32) (y : S1x8x1024.Idx) (h : (y 1 : ℕ) = 0) :
    ab m c t H y = ∑ r : Fin 512, H (ix2 r (y 2)) := by
  unfold ab; rw [if_pos h]

theorem ab1 (c : Dev nD) (t : Fin cfg0.N) (H : FVec Ideal S512x1024 .f32) (y : S1x8x1024.Idx) (h : (y 1 : ℕ) = 1) :
    ab m c t H y = ∑ r : Fin 512, pn (fun k => H (ix2 r k)) (fun k => iblk m c 6 t (ix2 r k)) (fun k => iblk m c 10 t (ix2 0 k)) (y 2) := by
  unfold ab; rw [if_neg (by omega), if_pos h]

theorem ab2 (c : Dev nD) (t : Fin cfg0.N) (H : FVec Ideal S512x1024 .f32) (y : S1x8x1024.Idx) (h : (y 1 : ℕ) = 2) :
    ab m c t H y = ∑ r : Fin 512, pn (tx m c t H r) (fun k => iblk m c 8 t (ix2 r k)) (fun k => iblk m c 11 t (ix2 0 k)) (y 2) := by
  unfold ab; rw [if_neg (by omega), if_neg (by omega), if_pos h]

theorem ab_ (c : Dev nD) (t : Fin cfg0.N) (H : FVec Ideal S512x1024 .f32) (y : S1x8x1024.Idx) (h0 : ¬(y 1 : ℕ) = 0) (h1 : ¬(y 1 : ℕ) = 1)
    (h2 : ¬(y 1 : ℕ) = 2) : ab m c t H y = 0 := by
  unfold ab; rw [if_neg h0, if_neg h1, if_neg h2]

/-- A row's piece of a sequence's block lies in that row. -/
theorem piece_row {o : ℕ} {inb} (x : S1x1x1024.Idx) : (((Rect.unit (s := S1x8x1024) ![0, o, 0] ![1, 1, 1024] inb).emb x) 1 : ℕ) = o := by
  have hb : (x 1 : ℕ) < 1 := (x 1).isLt
  refine (ValueKit.rect_emb_unit_val _ _ _ _ _).trans ?_
  show o + (x 1 : ℕ) = o
  omega

/-- The piece holds its whole row. -/
theorem row_piece {o : ℕ} {inb} (y : S1x8x1024.Idx) (h : y ∉ (Rect.unit (s := S1x8x1024) ![0, o, 0] ![1, 1, 1024] inb).set) : ¬(y 1 : ℕ) = o := by
  intro ho
  refine h ?_
  have h0 : (y 0 : ℕ) < 1 := (y 0).isLt
  have h2 : (y 2 : ℕ) < 1024 := (y 2).isLt
  rw [Rect.mem_set_unit]
  intro a
  fin_cases a
  · show 0 ≤ (y 0 : ℕ) ∧ (y 0 : ℕ) < 0 + 1; omega
  · show o ≤ (y 1 : ℕ) ∧ (y 1 : ℕ) < o + 1; omega
  · show 0 ≤ (y 2 : ℕ) ∧ (y 2 : ℕ) < 0 + 1024; omega

/-- The first tile of a sequence leaves its own part, over zeros. -/
theorem accbC (c : Dev nD) (t : Fin cfg0.N) (h0 : ¬t.val % 4 = 0) (h1 : t.val % 4 = 3) (h2 : t.val < 4)
    (h3 : t.val % 16 = 0 ∨ t.val % 16 = 1 ∨ t.val % 16 = 2 ∨ t.val % 16 = 3) (y : S1x8x1024.Idx) : (outsAt0 m c t.val t.isLt).2.2.2.2.1 y
    = 0 + ab m c t (outsAt0 m c t.val t.isLt).2.2.2.2.2.2 y := by
  obtain ⟨H, hH⟩ : ∃ H, H = (outsAt0 m c t.val t.isLt).2.2.2.2.2.2 := ⟨_, rfl⟩
  rw [← hH]
  rw [outsAt0_C m c t h0 h1 h2 h3] at hH ⊢
  frame_open at hH ⊢
  simp (disch := decide) only [↓ View.readCov_skip, ↓ View.readCov_cons_toLoadRect, ↓ View.readCov_fill, Cert.Covered.readCov_whole, View.read_writes_junk_eq_canon] at hH ⊢
  rw [← hH]
  clear hH
  frame_out
  refine Cert.Covered.canon_over (Val := Elt Ideal) (e := .f32) (fun y : S1x8x1024.Idx => 0 + ab m c t H y) [_] [_, _, _] y ?_ ?_
  · skip
    refine List.forall_mem_cons.mpr ⟨fun (x : S1x1x1024.Idx) => ?_, List.forall_mem_cons.mpr ⟨fun (x : S1x1x1024.Idx) => ?_,
      List.forall_mem_singleton.mpr fun (x : S1x1x1024.Idx) => ?_⟩⟩
    · dsimp only
      rw [ab2 m c t H _ (piece_row x)]
      pointwise [pn, ps, tx, dxOf, nbwd, nrm, rinv, k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19]
      all_goals blk_point []
    · dsimp only
      rw [ab1 m c t H _ (piece_row x)]
      pointwise [pn, ps, tx, dxOf, nbwd, nrm, rinv, k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19]
      all_goals blk_point []
    · dsimp only
      rw [ab0 m c t H _ (piece_row x)]
      pointwise [pn, ps, tx, dxOf, nbwd, nrm, rinv, k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19]
      all_goals blk_point []
  · intro hn
    simp only [List.forall_mem_cons, List.forall_mem_singleton] at hn
    rw [ab_ m c t H _ (row_piece y hn.2.2.1) (row_piece y hn.2.1) (row_piece y hn.1)]
    simp (disch := decide) only [View.canon_cons_unit_lit']
    pointwise [k0_pay4]

/-- So does the first tile of a later sequence. -/
theorem accbE (c : Dev nD) (t : Fin cfg0.N) (h0 : ¬t.val % 4 = 0) (h1 : t.val % 4 = 3) (h2 : ¬t.val < 4)
    (h3 : t.val % 16 = 0 ∨ t.val % 16 = 1 ∨ t.val % 16 = 2 ∨ t.val % 16 = 3) (y : S1x8x1024.Idx) : (outsAt0 m c t.val t.isLt).2.2.2.2.1 y
    = 0 + ab m c t (outsAt0 m c t.val t.isLt).2.2.2.2.2.2 y := by
  obtain ⟨H, hH⟩ : ∃ H, H = (outsAt0 m c t.val t.isLt).2.2.2.2.2.2 := ⟨_, rfl⟩
  rw [← hH]
  rw [outsAt0_E m c t h0 h1 h2 h3] at hH ⊢
  frame_open at hH ⊢
  simp (disch := decide) only [↓ View.readCov_skip, ↓ View.readCov_cons_toLoadRect, ↓ View.readCov_fill, Cert.Covered.readCov_whole, View.read_writes_junk_eq_canon] at hH ⊢
  rw [← hH]
  clear hH
  frame_out
  refine Cert.Covered.canon_over (Val := Elt Ideal) (e := .f32) (fun y : S1x8x1024.Idx => 0 + ab m c t H y) [_] [_, _, _] y ?_ ?_
  · skip
    refine List.forall_mem_cons.mpr ⟨fun (x : S1x1x1024.Idx) => ?_, List.forall_mem_cons.mpr ⟨fun (x : S1x1x1024.Idx) => ?_,
      List.forall_mem_singleton.mpr fun (x : S1x1x1024.Idx) => ?_⟩⟩
    · dsimp only
      rw [ab2 m c t H _ (piece_row x)]
      pointwise [pn, ps, tx, dxOf, nbwd, nrm, rinv, k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19]
      all_goals blk_point []
    · dsimp only
      rw [ab1 m c t H _ (piece_row x)]
      pointwise [pn, ps, tx, dxOf, nbwd, nrm, rinv, k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19]
      all_goals blk_point []
    · dsimp only
      rw [ab0 m c t H _ (piece_row x)]
      pointwise [pn, ps, tx, dxOf, nbwd, nrm, rinv, k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19]
      all_goals blk_point []
  · intro hn
    simp only [List.forall_mem_cons, List.forall_mem_singleton] at hn
    rw [ab_ m c t H _ (row_piece y hn.2.2.1) (row_piece y hn.2.1) (row_piece y hn.1)]
    simp (disch := decide) only [View.canon_cons_unit_lit']
    pointwise [k0_pay4]

/-- A later tile adds its part to what was there. -/
theorem accbD (c : Dev nD) (t : Fin cfg0.N) (h0 : ¬t.val % 4 = 0) (h1 : t.val % 4 = 3) (h2 : ¬t.val < 4)
    (h3 : ¬(t.val % 16 = 0 ∨ t.val % 16 = 1 ∨ t.val % 16 = 2 ∨ t.val % 16 = 3)) (y : S1x8x1024.Idx) : (outsAt0 m c t.val t.isLt).2.2.2.2.1 y
    = (outsAt0 m c (t.val - 1) (Nat.lt_of_le_of_lt (Nat.sub_le _ _) t.isLt)).2.2.2.2.1 y + ab m c t (outsAt0 m c t.val t.isLt).2.2.2.2.2.2 y := by
  obtain ⟨H, hH⟩ : ∃ H, H = (outsAt0 m c t.val t.isLt).2.2.2.2.2.2 := ⟨_, rfl⟩
  rw [← hH]
  rw [outsAt0_D m c t h0 h1 h2 h3] at hH ⊢
  frame_open at hH ⊢
  simp (disch := decide) only [↓ View.readCov_skip, ↓ View.readCov_cons_toLoadRect, ↓ View.readCov_fill, Cert.Covered.readCov_whole, View.read_writes_junk_eq_canon] at hH ⊢
  rw [← hH]
  clear hH
  frame_out
  refine Cert.Covered.read_over _ _ (fun y => (outsAt0 m c (t.val - 1) (Nat.lt_of_le_of_lt (Nat.sub_le _ _) t.isLt)).2.2.2.2.1 y + ab m c t H y) _ y ?_ ?_
  · skip
    refine List.forall_mem_cons.mpr ⟨fun (x : S1x1x1024.Idx) => ?_, List.forall_mem_cons.mpr ⟨fun (x : S1x1x1024.Idx) => ?_,
      List.forall_mem_singleton.mpr fun (x : S1x1x1024.Idx) => ?_⟩⟩
    · dsimp only
      rw [ab2 m c t H _ (piece_row x)]
      pointwise [pn, ps, tx, dxOf, nbwd, nrm, rinv, k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19]
      all_goals blk_point []
    · dsimp only
      rw [ab1 m c t H _ (piece_row x)]
      pointwise [pn, ps, tx, dxOf, nbwd, nrm, rinv, k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19]
      all_goals blk_point []
    · dsimp only
      rw [ab0 m c t H _ (piece_row x)]
      pointwise [pn, ps, tx, dxOf, nbwd, nrm, rinv, k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19]
      all_goals blk_point []
  · intro hn
    simp only [List.forall_mem_cons, List.forall_mem_singleton] at hn
    rw [ab_ m c t H _ (row_piece y hn.2.2.1) (row_piece y hn.2.1) (row_piece y hn.1)]
    rw [Memref.IsWhole.read_unread]
    exact (add_zero _).symm

/-- What a tile adds to the gradients of the two norms' gains. -/
def ag (c : Dev nD) (t : Fin cfg0.N) (H : FVec Ideal S512x1024 .f32) (y : S8x1024.Idx) : EReal :=
  if (y 0 : ℕ) = 0 then ∑ r : Fin 512, ps (fun k => H (ix2 r k)) (fun k => c1 + iblk m c 9 t (ix3 0 4 k)) (fun k => iblk m c 6 t (ix2 r k)) (y 1)
  else if (y 0 : ℕ) = 1 then ∑ r : Fin 512, ps (tx m c t H r) (fun k => iblk m c 9 t (ix3 0 2 k)) (fun k => iblk m c 8 t (ix2 r k)) (y 1)
  else 0

theorem ag0 (c : Dev nD) (t : Fin cfg0.N) (H : FVec Ideal S512x1024 .f32) (y : S8x1024.Idx) (h : (y 0 : ℕ) = 0) : ag m c t H y
    = ∑ r : Fin 512, ps (fun k => H (ix2 r k)) (fun k => c1 + iblk m c 9 t (ix3 0 4 k)) (fun k => iblk m c 6 t (ix2 r k)) (y 1) := by
  unfold ag; rw [if_pos h]

theorem ag1 (c : Dev nD) (t : Fin cfg0.N) (H : FVec Ideal S512x1024 .f32) (y : S8x1024.Idx) (h : (y 0 : ℕ) = 1) : ag m c t H y
    = ∑ r : Fin 512, ps (tx m c t H r) (fun k => iblk m c 9 t (ix3 0 2 k)) (fun k => iblk m c 8 t (ix2 r k)) (y 1) := by
  unfold ag; rw [if_neg (by omega), if_pos h]

theorem ag_ (c : Dev nD) (t : Fin cfg0.N) (H : FVec Ideal S512x1024 .f32) (y : S8x1024.Idx) (h0 : ¬(y 0 : ℕ) = 0) (h1 : ¬(y 0 : ℕ) = 1) :
    ag m c t H y = 0 := by
  unfold ag; rw [if_neg h0, if_neg h1]

/-- A row's piece lies in that row. -/
theorem piece_row' {o : ℕ} {inb} (x : S1x1024.Idx) : (((Rect.unit (s := S8x1024) ![o, 0] ![1, 1024] inb).emb x) 0 : ℕ) = o := by
  have hb : (x 0 : ℕ) < 1 := (x 0).isLt
  refine (ValueKit.rect_emb_unit_val _ _ _ _ _).trans ?_
  show o + (x 0 : ℕ) = o
  omega

/-- The piece holds its whole row. -/
theorem row_piece' {o : ℕ} {inb} (y : S8x1024.Idx) (h : y ∉ (Rect.unit (s := S8x1024) ![o, 0] ![1, 1024] inb).set) : ¬(y 0 : ℕ) = o := by
  intro ho
  refine h ?_
  have h1 : (y 1 : ℕ) < 1024 := (y 1).isLt
  rw [Rect.mem_set_unit]
  intro a
  fin_cases a
  · show o ≤ (y 0 : ℕ) ∧ (y 0 : ℕ) < o + 1; omega
  · show 0 ≤ (y 1 : ℕ) ∧ (y 1 : ℕ) < 0 + 1024; omega

/-- The first tile leaves its own part, over zeros. -/
theorem accgC (c : Dev nD) (t : Fin cfg0.N) (h0 : ¬t.val % 4 = 0) (h1 : t.val % 4 = 3) (h2 : t.val < 4)
    (h3 : t.val % 16 = 0 ∨ t.val % 16 = 1 ∨ t.val % 16 = 2 ∨ t.val % 16 = 3) (y : S8x1024.Idx) : (outsAt0 m c t.val t.isLt).2.2.2.2.2.1 y
    = 0 + ag m c t (outsAt0 m c t.val t.isLt).2.2.2.2.2.2 y := by
  obtain ⟨H, hH⟩ : ∃ H, H = (outsAt0 m c t.val t.isLt).2.2.2.2.2.2 := ⟨_, rfl⟩
  rw [← hH]
  rw [outsAt0_C m c t h0 h1 h2 h3] at hH ⊢
  frame_open at hH ⊢
  simp (disch := decide) only [↓ View.readCov_skip, ↓ View.readCov_cons_toLoadRect, ↓ View.readCov_fill, Cert.Covered.readCov_whole, View.read_writes_junk_eq_canon] at hH ⊢
  rw [← hH]
  clear hH
  frame_out
  refine Cert.Covered.canon_over (Val := Elt Ideal) (e := .f32) (fun y : S8x1024.Idx => 0 + ag m c t H y) [_] [_, _] y ?_ ?_
  · skip
    refine List.forall_mem_cons.mpr ⟨fun (x : S1x1024.Idx) => ?_,
      List.forall_mem_singleton.mpr fun (x : S1x1024.Idx) => ?_⟩
    · dsimp only
      rw [ag1 m c t H _ (piece_row' x)]
      pointwise [pn, ps, tx, dxOf, nbwd, nrm, rinv, k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19]
      all_goals blk_point []
    · dsimp only
      rw [ag0 m c t H _ (piece_row' x)]
      pointwise [pn, ps, tx, dxOf, nbwd, nrm, rinv, k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19]
      all_goals blk_point []
  · intro hn
    simp only [List.forall_mem_cons, List.forall_mem_singleton] at hn
    rw [ag_ m c t H _ (row_piece' y hn.2.1) (row_piece' y hn.1)]
    simp (disch := decide) only [View.canon_cons_unit_lit']
    pointwise [k0_pay3]

/-- A later tile adds its part to what was there. -/
theorem accgD (c : Dev nD) (t : Fin cfg0.N) (h0 : ¬t.val % 4 = 0) (h1 : t.val % 4 = 3) (h2 : ¬t.val < 4)
    (h3 : ¬(t.val % 16 = 0 ∨ t.val % 16 = 1 ∨ t.val % 16 = 2 ∨ t.val % 16 = 3)) (y : S8x1024.Idx) : (outsAt0 m c t.val t.isLt).2.2.2.2.2.1 y
    = (outsAt0 m c (t.val - 1) (Nat.lt_of_le_of_lt (Nat.sub_le _ _) t.isLt)).2.2.2.2.2.1 y + ag m c t (outsAt0 m c t.val t.isLt).2.2.2.2.2.2 y := by
  obtain ⟨H, hH⟩ : ∃ H, H = (outsAt0 m c t.val t.isLt).2.2.2.2.2.2 := ⟨_, rfl⟩
  rw [← hH]
  rw [outsAt0_D m c t h0 h1 h2 h3] at hH ⊢
  frame_open at hH ⊢
  simp (disch := decide) only [↓ View.readCov_skip, ↓ View.readCov_cons_toLoadRect, ↓ View.readCov_fill, Cert.Covered.readCov_whole, View.read_writes_junk_eq_canon] at hH ⊢
  rw [← hH]
  clear hH
  frame_out
  refine Cert.Covered.read_over _ _ (fun y => (outsAt0 m c (t.val - 1) (Nat.lt_of_le_of_lt (Nat.sub_le _ _) t.isLt)).2.2.2.2.2.1 y + ag m c t H y) _ y ?_ ?_
  · skip
    refine List.forall_mem_cons.mpr ⟨fun (x : S1x1024.Idx) => ?_,
      List.forall_mem_singleton.mpr fun (x : S1x1024.Idx) => ?_⟩
    · dsimp only
      rw [ag1 m c t H _ (piece_row' x)]
      pointwise [pn, ps, tx, dxOf, nbwd, nrm, rinv, k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19]
      all_goals blk_point []
    · dsimp only
      rw [ag0 m c t H _ (piece_row' x)]
      pointwise [pn, ps, tx, dxOf, nbwd, nrm, rinv, k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19]
      all_goals blk_point []
  · intro hn
    simp only [List.forall_mem_cons, List.forall_mem_singleton] at hn
    rw [ag_ m c t H _ (row_piece' y hn.2.1) (row_piece' y hn.1)]
    rw [Memref.IsWhole.read_unread]
    exact (add_zero _).symm

/-- A later tile adds its part to what was there. -/
theorem accgE (c : Dev nD) (t : Fin cfg0.N) (h0 : ¬t.val % 4 = 0) (h1 : t.val % 4 = 3) (h2 : ¬t.val < 4)
    (h3 : t.val % 16 = 0 ∨ t.val % 16 = 1 ∨ t.val % 16 = 2 ∨ t.val % 16 = 3) (y : S8x1024.Idx) : (outsAt0 m c t.val t.isLt).2.2.2.2.2.1 y
    = (outsAt0 m c (t.val - 1) (Nat.lt_of_le_of_lt (Nat.sub_le _ _) t.isLt)).2.2.2.2.2.1 y + ag m c t (outsAt0 m c t.val t.isLt).2.2.2.2.2.2 y := by
  obtain ⟨H, hH⟩ : ∃ H, H = (outsAt0 m c t.val t.isLt).2.2.2.2.2.2 := ⟨_, rfl⟩
  rw [← hH]
  rw [outsAt0_E m c t h0 h1 h2 h3] at hH ⊢
  frame_open at hH ⊢
  simp (disch := decide) only [↓ View.readCov_skip, ↓ View.readCov_cons_toLoadRect, ↓ View.readCov_fill, Cert.Covered.readCov_whole, View.read_writes_junk_eq_canon] at hH ⊢
  rw [← hH]
  clear hH
  frame_out
  refine Cert.Covered.read_over _ _ (fun y => (outsAt0 m c (t.val - 1) (Nat.lt_of_le_of_lt (Nat.sub_le _ _) t.isLt)).2.2.2.2.2.1 y + ag m c t H y) _ y ?_ ?_
  · skip
    refine List.forall_mem_cons.mpr ⟨fun (x : S1x1024.Idx) => ?_,
      List.forall_mem_singleton.mpr fun (x : S1x1024.Idx) => ?_⟩
    · dsimp only
      rw [ag1 m c t H _ (piece_row' x)]
      pointwise [pn, ps, tx, dxOf, nbwd, nrm, rinv, k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19]
      all_goals blk_point []
    · dsimp only
      rw [ag0 m c t H _ (piece_row' x)]
      pointwise [pn, ps, tx, dxOf, nbwd, nrm, rinv, k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19]
      all_goals blk_point []
  · intro hn
    simp only [List.forall_mem_cons, List.forall_mem_singleton] at hn
    rw [ag_ m c t H _ (row_piece' y hn.2.1) (row_piece' y hn.1)]
    rw [Memref.IsWhole.read_unread]
    exact (add_zero _).symm

end Cert.FfnIdeal.Value

end
-- ==== Proof.FfnFlat.lean ====
/-
  The feed-forward half backwards over all tokens, as the claim states it: what the kernel's tiles and the reference's
  arrays both come to.
-/
module

public import proofs.«01_k».proof.Proof.FfnForm

@[expose] public section

noncomputable section

namespace Cert.FfnFlat

open Idealize.ShloMosaic Cert.FfnForm

/-- The arrays that the call takes. -/
structure Args where
  /-- the output's cotangent, -/
  df : FVec Ideal ⟨2, ![4096, 1024]⟩ .bf16
  /-- the residual's, -/
  dy : FVec Ideal ⟨2, ![4096, 1024]⟩ .f32
  /-- the input, -/
  x : FVec Ideal ⟨2, ![4096, 1024]⟩ .f32
  /-- the mixer's output, -/
  mix : FVec Ideal ⟨2, ![4096, 1024]⟩ .f32
  /-- the modulation, -/
  mod : FVec Ideal ⟨3, ![2, 6, 1024]⟩ .f32
  /-- the gains of the two norms, -/
  gm : FVec Ideal ⟨2, ![1, 1024]⟩ .f32
  gf : FVec Ideal ⟨2, ![1, 1024]⟩ .f32
  /-- and the three weights. -/
  wg : FVec Ideal ⟨2, ![1024, 2816]⟩ .f32
  wu : FVec Ideal ⟨2, ![1024, 2816]⟩ .f32
  wd : FVec Ideal ⟨2, ![2816, 1024]⟩ .f32

variable (A : Args)

/-- A token's sequence. -/
abbrev sq (r : Fin 4096) : Fin 2 := ⟨r.val / 2048, by omega⟩
/-- A place in a sequence, as a token. -/
abbrev tok (b : Fin 2) (s : Fin 2048) : Fin 4096 := ⟨2048 * b.val + s.val, by omega⟩
/-- A quarter's hidden column. -/
abbrev hid (k : Fin 4) (f : Fin 704) : Fin 2816 := ⟨704 * k.val + f.val, by omega⟩

/-- The mixer's row, -/
def mixR (r : Fin 4096) : Row := fun k => A.mix (ix2 r k)
/-- a row of the modulation, -/
def modR (j : Fin 6) (r : Fin 4096) : Row := fun k => A.mod (ix3 (sq r) j k)
/-- the gains' rows, -/
def gmR : Row := fun k => A.gm (ix2 0 k)
def gfR : Row := fun k => A.gf (ix2 0 k)
/-- the residual's cotangent, -/
def dyR (r : Fin 4096) : Row := fun k => A.dy (ix2 r k)

/-- the row after the mixer, -/
def x1R (r : Fin 4096) : Row := fun d => A.x (ix2 r d) + modR A 2 r d * (nrm (mixR A r) d * gmR A d)
/-- the feed-forward half's input, -/
def hR (r : Fin 4096) : Row := fun d => nrm (x1R A r) d * gfR A d * (c1 + modR A 4 r d) + modR A 3 r d
/-- the gate's argument, -/
def aR (r : Fin 4096) (f : Fin 2816) : EReal := ∑ k : Fin 1024, hR A r k * A.wg (ix2 k f)
/-- the other factor, -/
def bR (r : Fin 4096) (f : Fin 2816) : EReal := ∑ k : Fin 1024, hR A r k * A.wu (ix2 k f)
/-- the inner cotangent, -/
def gR (r : Fin 4096) (f : Fin 2816) : EReal := dfin (fun k => A.df (ix2 r k)) (fun k => A.wd (ix2 f k))
/-- the gate's cotangent, -/
def daR (r : Fin 4096) (f : Fin 2816) : EReal := daOf (gR A r f) (aR A r f) (bR A r f)
/-- the other factor's, -/
def dbR (r : Fin 4096) (f : Fin 2816) : EReal := dbOf (gR A r f) (aR A r f)
/-- the input's, -/
def dhR (r : Fin 4096) : Row := fun d => (∑ f : Fin 2816, daR A r f * A.wg (ix2 d f)) + ∑ f : Fin 2816, dbR A r f * A.wu (ix2 d f)
/-- the residual's, -/
def dxR (r : Fin 4096) : Row := dxOf (dhR A r) (x1R A r) (dyR A r) (modR A 4 r) (gfR A)
/-- and the mixer's. -/
def dmR (r : Fin 4096) : Row := dmOf (dxR A r) (mixR A r) (modR A 2 r) (gmR A)

/-- What a token adds to a row of its sequence's block: shift, scale, gate. -/
def bRow (r : Fin 4096) (j : ℕ) : Row := fun d =>
  if j = 0 then dhR A r d
  else if j = 1 then pn (dhR A r) (x1R A r) (gfR A) d
  else if j = 2 then pn (dxR A r) (mixR A r) (gmR A) d
  else 0

/-- What a token adds to a row of the gains' block. -/
def gRow (r : Fin 4096) (j : ℕ) : Row := fun d =>
  if j = 0 then ps (dhR A r) (fun k => c1 + modR A 4 r k) (x1R A r) d
  else if j = 1 then ps (dxR A r) (modR A 2 r) (mixR A r) d
  else 0

end Cert.FfnFlat

end
-- ==== Proof.FfnHost.lean ====
/-
  What the kernel's windows are cut from: the arrays that the host lines before the call leave.
-/
module

public import proofs.«01_k».proof.Defs
public import proofs.«01_k».proof.Proof.Gen.FfnIdeal.Value
public import proofs.«01_k».proof.Proof.FfnFlat
public import Idealize.ShloMosaic.Lib.StableHlo.RunRead
public import Idealize.ShloMosaic.Lib.Pipeline.ReadBack
public import Idealize.ShloMosaic.Lib.Pipeline.ValueKit

@[expose] public section

set_option maxRecDepth 16384

noncomputable section

namespace Cert.FfnIdeal.Value

open Cert.FfnIdeal Cert.FfnIdeal.Gen Idealize.ShloMosaic Idealize.ShloMosaic.TcCoe Idealize.SL.Sem
open Cert.FfnForm Cert.FfnFlat

variable (m : (ℓ : Loc nD τ sig) → Buf (Elt Ideal) ℓ)

/-- The call's arguments on a device. -/
abbrev args (c : Dev nD) : Args where
  df := m ((c : Thread nD τ).loc main_arg0)
  dy := m ((c : Thread nD τ).loc main_arg1)
  x := m ((c : Thread nD τ).loc main_arg2)
  mix := m ((c : Thread nD τ).loc main_arg3)
  mod := m ((c : Thread nD τ).loc main_arg4)
  gm := m ((c : Thread nD τ).loc main_arg5)
  gf := m ((c : Thread nD τ).loc main_arg6)
  wg := m ((c : Thread nD τ).loc main_arg7)
  wu := m ((c : Thread nD τ).loc main_arg8)
  wd := m ((c : Thread nD τ).loc main_arg9)

/-- The rows after the mixer. -/
theorem V60 (c : Dev nD) (y : S4096x1024.Idx) : V m c main_v60 y = x1R (args m c) (y 0) (y 1) := by
  unfold V
  after_reads_simp
  pointwise [x1R, modR, nrm, mixR, gmR, rinv]
  blk_point []

set_option maxHeartbeats 1600000 in
/-- The gate's arguments, by quarter. -/
theorem V47 (c : Dev nD) (y : S4x4096x704.Idx) : V m c main_v47 y = aR (args m c) (y 1) (hid (y 0) (y 2)) := by
  unfold V
  after_reads_simp
  pointwise [aR, hR, gfR, x1R, modR, nrm, mixR, gmR, rinv]
  blk_point []

set_option maxHeartbeats 1600000 in
/-- The other factors, by quarter. -/
theorem V51 (c : Dev nD) (y : S4x4096x704.Idx) : V m c main_v51 y = bR (args m c) (y 1) (hid (y 0) (y 2)) := by
  unfold V
  after_reads_simp
  pointwise [bR, hR, gfR, x1R, modR, nrm, mixR, gmR, rinv]
  blk_point []

/-- The weights, by quarter. -/
theorem V53 (c : Dev nD) (y : S4x704x1024.Idx) : V m c main_v53 y = (args m c).wd (ix2 (hid (y 0) (y 1)) (y 2)) := by
  unfold V
  after_reads_simp
  pointwise []
  all_goals blk_point []

/-- The gate's, turned. -/
theorem V56 (c : Dev nD) (y : S4x704x1024.Idx) : V m c main_v56 y = (args m c).wg (ix2 (y 2) (hid (y 0) (y 1))) := by
  unfold V
  after_reads_simp
  pointwise []
  all_goals blk_point []

/-- The other factor's, turned. -/
theorem V59 (c : Dev nD) (y : S4x704x1024.Idx) : V m c main_v59 y = (args m c).wu (ix2 (y 2) (hid (y 0) (y 1))) := by
  unfold V
  after_reads_simp
  pointwise []
  all_goals blk_point []

/-- The modulation, eight rows to a sequence. -/
theorem V43 (c : Dev nD) (b : Fin 2) (j : Fin 6) (d : Fin 1024) :
    V m c main_v43 (ix3 b ⟨j.val, by omega⟩ d) = (args m c).mod (ix3 b j d) := by
  unfold V
  after_reads_simp
  pointwise []
  all_goals blk_point []

end Cert.FfnIdeal.Value

end
-- ==== Proof.FfnBlk.lean ====
/-
  A tile's blocks: which rows and columns of the whole arrays they hold.
-/
module

public import proofs.«01_k».proof.Proof.FfnAcc
public import proofs.«01_k».proof.Proof.FfnHost

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Cert.FfnForm Cert.FfnFlat

variable (m : (ℓ : Loc nD τ sig) → Buf (Elt Ideal) ℓ)

/-- Where each window's block sits at a point. -/
theorem idx : ∀ t : Fin cfg0.N, win0_0.index t = ![t.val / 4, 0] ∧ win0_1.index t = ![t.val % 4, t.val / 4, 0]
    ∧ win0_2.index t = ![t.val % 4, t.val / 4, 0] ∧ win0_3.index t = ![t.val % 4, 0, 0] ∧ win0_4.index t = ![t.val % 4, 0, 0]
    ∧ win0_5.index t = ![t.val % 4, 0, 0] ∧ win0_6.index t = ![t.val / 4, 0] ∧ win0_7.index t = ![t.val / 4, 0]
    ∧ win0_8.index t = ![t.val / 4, 0] ∧ win0_9.index t = ![t.val / 16, 0, 0] ∧ win0_10.index t = ![0, 0] ∧ win0_11.index t = ![0, 0]
    ∧ win0_12.index t = ![t.val % 4, t.val / 4, 0] ∧ win0_13.index t = ![t.val % 4, t.val / 4, 0] ∧ win0_14.index t = ![t.val / 4, 0]
    ∧ win0_15.index t = ![t.val / 4, 0] ∧ win0_16.index t = ![t.val / 16, 0, 0] ∧ win0_17.index t = ![0, 0] ∧ t.val < 32 :=
  (by decide +kernel : ∀ t : Fin grid0.N, _)

/-- A tile's row, as a token, -/
def row (t : Fin cfg0.N) (r : Fin 512) : Fin 4096 := ⟨512 * (t.val / 4) + r.val, by have := (idx t).2.2.2.2.2.2.2.2.2.2.2.2.2.2.2.2.2.2; omega⟩
/-- and its quarter. -/
def qtr (t : Fin cfg0.N) : Fin 4 := ⟨t.val % 4, by omega⟩

theorem w0 (c : Dev nD) (t : Fin cfg0.N) (r : Fin 512) (k : Fin 1024) : iblk m c 0 t (ix2 r k) = (args m c).df (ix2 (row t r) k) := by
  blk_point [iblk, V, idx t, row]
theorem w1 (c : Dev nD) (t : Fin cfg0.N) (r : Fin 512) (f : Fin 704) : iblk m c 1 t (ix3 0 r f) = aR (args m c) (row t r) (hid (qtr t) f) := by
  have e : iblk m c 1 t (ix3 0 r f) = V m c main_v47 (ix3 (qtr t) (row t r) f) := by
    unfold iblk
    blk_ext [idx t, row, qtr]
  exact e.trans (V47 m c _)
theorem w2 (c : Dev nD) (t : Fin cfg0.N) (r : Fin 512) (f : Fin 704) : iblk m c 2 t (ix3 0 r f) = bR (args m c) (row t r) (hid (qtr t) f) := by
  have e : iblk m c 2 t (ix3 0 r f) = V m c main_v51 (ix3 (qtr t) (row t r) f) := by
    unfold iblk
    blk_ext [idx t, row, qtr]
  exact e.trans (V51 m c _)
theorem w3 (c : Dev nD) (t : Fin cfg0.N) (f : Fin 704) (k : Fin 1024) : iblk m c 3 t (ix3 0 f k) = (args m c).wd (ix2 (hid (qtr t) f) k) := by
  have e : iblk m c 3 t (ix3 0 f k) = V m c main_v53 (ix3 (qtr t) f k) := by
    unfold iblk
    blk_ext [idx t, row, qtr]
  exact e.trans (V53 m c _)
theorem w4 (c : Dev nD) (t : Fin cfg0.N) (f : Fin 704) (k : Fin 1024) : iblk m c 4 t (ix3 0 f k) = (args m c).wg (ix2 k (hid (qtr t) f)) := by
  have e : iblk m c 4 t (ix3 0 f k) = V m c main_v56 (ix3 (qtr t) f k) := by
    unfold iblk
    blk_ext [idx t, row, qtr]
  exact e.trans (V56 m c _)
theorem w5 (c : Dev nD) (t : Fin cfg0.N) (f : Fin 704) (k : Fin 1024) : iblk m c 5 t (ix3 0 f k) = (args m c).wu (ix2 k (hid (qtr t) f)) := by
  have e : iblk m c 5 t (ix3 0 f k) = V m c main_v59 (ix3 (qtr t) f k) := by
    unfold iblk
    blk_ext [idx t, row, qtr]
  exact e.trans (V59 m c _)
theorem w6 (c : Dev nD) (t : Fin cfg0.N) (r : Fin 512) (k : Fin 1024) : iblk m c 6 t (ix2 r k) = x1R (args m c) (row t r) k := by
  have e : iblk m c 6 t (ix2 r k) = V m c main_v60 (ix2 (row t r) k) := by
    unfold iblk
    blk_ext [idx t, row, qtr]
  exact e.trans (V60 m c _)
theorem w7 (c : Dev nD) (t : Fin cfg0.N) (r : Fin 512) (k : Fin 1024) : iblk m c 7 t (ix2 r k) = dyR (args m c) (row t r) k := by
  blk_point [iblk, V, idx t, row, dyR]
theorem w8 (c : Dev nD) (t : Fin cfg0.N) (r : Fin 512) (k : Fin 1024) : iblk m c 8 t (ix2 r k) = mixR (args m c) (row t r) k := by
  blk_point [iblk, V, idx t, row, mixR]
theorem w9 (c : Dev nD) (t : Fin cfg0.N) (r : Fin 512) (j : Fin 6) (k : Fin 1024) : iblk m c 9 t (ix3 0 ⟨j.val, by omega⟩ k) = modR (args m c) j (row t r) k := by
  unfold iblk
  refine Eq.trans ?_ (V43 m c (sq (row t r)) j k)
  blk_point [idx t, row, qtr]
theorem w10 (c : Dev nD) (t : Fin cfg0.N) (k : Fin 1024) : iblk m c 10 t (ix2 0 k) = gfR (args m c) k := by
  blk_point [iblk, V, idx t, row, gfR]
theorem w11 (c : Dev nD) (t : Fin cfg0.N) (k : Fin 1024) : iblk m c 11 t (ix2 0 k) = gmR (args m c) k := by
  blk_point [iblk, V, idx t, row, gmR]

/-- A tile's cotangents are the tokens'. -/
theorem ta_eq (c : Dev nD) (t : Fin cfg0.N) (r : Fin 512) (f : Fin 704) : ta m c t r f = daR (args m c) (row t r) (hid (qtr t) f) := by
  unfold ta tg daR gR
  rw [w1, w2]
  simp only [w0, w3]
theorem tb_eq (c : Dev nD) (t : Fin cfg0.N) (r : Fin 512) (f : Fin 704) : tb m c t r f = dbR (args m c) (row t r) (hid (qtr t) f) := by
  unfold tb tg dbR gR
  rw [w1]
  simp only [w0, w3]

/-- A quarter's part of the input's cotangent. -/
def dhQ (A : Args) (r : Fin 4096) (q : Fin 4) (d : Fin 1024) : EReal :=
  (∑ f : Fin 704, daR A r (hid q f) * A.wg (ix2 d (hid q f))) + ∑ f : Fin 704, dbR A r (hid q f) * A.wu (ix2 d (hid q f))

theorem th_eq (c : Dev nD) (t : Fin cfg0.N) (r : Fin 512) (d : Fin 1024) : th m c t r d = dhQ (args m c) (row t r) (qtr t) d := by
  unfold th dhQ
  simp only [ta_eq, tb_eq, w4, w5]

/-- The quarters' parts make the whole. -/
theorem dhQ_sum (A : Args) (r : Fin 4096) (d : Fin 1024) : ∑ q : Fin 4, dhQ A r q d = dhR A r d := by
  unfold dhQ dhR
  rw [Finset.sum_add_distrib]
  refine congrArg₂ (· + ·) ?_ ?_
  · refine Fin.sum_mul_add_congr fun q f hl => ?_
    have e : hid q f = ⟨q.val * 704 + f.val, hl⟩ := Fin.ext (by simp only; omega)
    rw [e]
  · refine Fin.sum_mul_add_congr fun q f hl => ?_
    have e : hid q f = ⟨q.val * 704 + f.val, hl⟩ := Fin.ext (by simp only; omega)
    rw [e]

/-- The scratch at a tile's last quarter: the input's cotangent. -/
theorem scr (c : Dev nD) (t : Fin cfg0.N) (h : t.val % 4 = 3) (r : Fin 512) (d : Fin 1024) :
    (outsAt0 m c t.val t.isLt).2.2.2.2.2.2 (ix2 r d) = dhR (args m c) (row t r) d := by
  have e := Pipeline.eq_sum_fin_of_reset_step_apply_of_flush (fun n h => (outsAt0 m c n h).2.2.2.2.2.2) 4 (fun _ => 0)
    (fun p y => th m c p (y 0) (y 1)) (fun t h j => accA m c t h j) (fun t h j => accB m c t h j) t h (ix2 r d)
  refine e.trans ?_
  rw [zero_add, ← dhQ_sum]
  refine Finset.sum_congr rfl fun s _ => ?_
  refine (th_eq m c _ _ _).trans ?_
  refine congrArg₂ (fun (a : Fin 4096) b => dhQ (args m c) a b d) (Fin.ext ?_) (Fin.ext ?_)
  · show 512 * ((4 * (t.val / 4) + s.val) / 4) + r.val = 512 * (t.val / 4) + r.val
    omega
  · show (4 * (t.val / 4) + s.val) % 4 = s.val
    omega

end Cert.FfnIdeal.Value

end
-- ==== Proof.FfnKeep.lean ====
/-
  Between the tiles' last quarters the two accumulators stand still.
-/
module

public import proofs.«01_k».proof.Proof.FfnBlk

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Cert.FfnForm Cert.FfnFlat

variable (m : (ℓ : Loc nD τ sig) → Buf (Elt Ideal) ℓ)

/-- The sequence's block stands still, -/
theorem keep16 (c : Dev nD) (t : Fin cfg0.N) (h1 : ¬t.val % 4 = 3) (y : S1x8x1024.Idx) : (outsAt0 m c t.val t.isLt).2.2.2.2.1 y
    = (outsAt0 m c (t.val - 1) (Nat.lt_of_le_of_lt (Nat.sub_le _ _) t.isLt)).2.2.2.2.1 y := by
  by_cases h0 : t.val % 4 = 0
  · rw [outsAt0_A m c t h0 h1]
    rfl
  · rw [outsAt0_B m c t h0 h1]
    rfl

/-- and so does the gains' block. -/
theorem keep17 (c : Dev nD) (t : Fin cfg0.N) (h1 : ¬t.val % 4 = 3) (y : S8x1024.Idx) : (outsAt0 m c t.val t.isLt).2.2.2.2.2.1 y
    = (outsAt0 m c (t.val - 1) (Nat.lt_of_le_of_lt (Nat.sub_le _ _) t.isLt)).2.2.2.2.2.1 y := by
  by_cases h0 : t.val % 4 = 0
  · rw [outsAt0_A m c t h0 h1]
    rfl
  · rw [outsAt0_B m c t h0 h1]
    rfl

end Cert.FfnIdeal.Value

end
-- ==== Proof.FfnSum.lean ====
/-
  The tiles' last quarters in the tokens' terms, and the two accumulators as sums over the tokens.
-/
module

public import proofs.«01_k».proof.Proof.FfnKeep

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Cert.FfnForm Cert.FfnFlat

variable (m : (ℓ : Loc nD τ sig) → Buf (Elt Ideal) ℓ)

/-- The rows that a tile reads. -/
theorem r6 (c : Dev nD) (t : Fin cfg0.N) (r : Fin 512) : (fun k => iblk m c 6 t (ix2 r k)) = x1R (args m c) (row t r) := funext fun k => w6 m c t r k
theorem r7 (c : Dev nD) (t : Fin cfg0.N) (r : Fin 512) : (fun k => iblk m c 7 t (ix2 r k)) = dyR (args m c) (row t r) := funext fun k => w7 m c t r k
theorem r8 (c : Dev nD) (t : Fin cfg0.N) (r : Fin 512) : (fun k => iblk m c 8 t (ix2 r k)) = mixR (args m c) (row t r) := funext fun k => w8 m c t r k
theorem r94 (c : Dev nD) (t : Fin cfg0.N) (r : Fin 512) : (fun k => iblk m c 9 t (ix3 0 4 k)) = modR (args m c) 4 (row t r) := funext fun k => w9 m c t r 4 k
theorem r92 (c : Dev nD) (t : Fin cfg0.N) (r : Fin 512) : (fun k => iblk m c 9 t (ix3 0 2 k)) = modR (args m c) 2 (row t r) := funext fun k => w9 m c t r 2 k
theorem r10 (c : Dev nD) (t : Fin cfg0.N) : (fun k => iblk m c 10 t (ix2 0 k)) = gfR (args m c) := funext fun k => w10 m c t k
theorem r11 (c : Dev nD) (t : Fin cfg0.N) : (fun k => iblk m c 11 t (ix2 0 k)) = gmR (args m c) := funext fun k => w11 m c t k
theorem rH (c : Dev nD) (t : Fin cfg0.N) (h : t.val % 4 = 3) (r : Fin 512) :
    (fun k => (outsAt0 m c t.val t.isLt).2.2.2.2.2.2 (ix2 r k)) = dhR (args m c) (row t r) := funext fun k => scr m c t h r k

/-- The residual's cotangent of a tile's row is the token's, -/
theorem tx_eq (c : Dev nD) (t : Fin cfg0.N) (h : t.val % 4 = 3) (r : Fin 512) :
    tx m c t (outsAt0 m c t.val t.isLt).2.2.2.2.2.2 r = dxR (args m c) (row t r) := by
  unfold tx dxR
  rw [rH m c t h, r6, r7, r94 m c t r, r10]

/-- and so is the mixer's. -/
theorem tm_eq (c : Dev nD) (t : Fin cfg0.N) (h : t.val % 4 = 3) (r : Fin 512) :
    tm m c t (outsAt0 m c t.val t.isLt).2.2.2.2.2.2 r = dmR (args m c) (row t r) := by
  unfold tm dmR
  rw [tx_eq m c t h, r8, r92 m c t r, r11]

/-- What a tile adds to its sequence's block, -/
theorem ab_eq (c : Dev nD) (t : Fin cfg0.N) (h : t.val % 4 = 3) (y : S1x8x1024.Idx) :
    ab m c t (outsAt0 m c t.val t.isLt).2.2.2.2.2.2 y = ∑ r : Fin 512, bRow (args m c) (row t r) (y 1) (y 2) := by
  unfold ab bRow
  by_cases h0 : (y 1 : ℕ) = 0
  · simp only [if_pos h0]
    exact Finset.sum_congr rfl fun r _ => scr m c t h r (y 2)
  simp only [if_neg h0]
  by_cases h1 : (y 1 : ℕ) = 1
  · simp only [if_pos h1]
    refine Finset.sum_congr rfl fun r _ => ?_
    rw [rH m c t h, r6, r10]
  simp only [if_neg h1]
  by_cases h2 : (y 1 : ℕ) = 2
  · simp only [if_pos h2]
    refine Finset.sum_congr rfl fun r _ => ?_
    rw [tx_eq m c t h, r8, r11]
  simp only [if_neg h2, Finset.sum_const_zero]

/-- and to the gains'. -/
theorem ag_eq (c : Dev nD) (t : Fin cfg0.N) (h : t.val % 4 = 3) (y : S8x1024.Idx) :
    ag m c t (outsAt0 m c t.val t.isLt).2.2.2.2.2.2 y = ∑ r : Fin 512, gRow (args m c) (row t r) (y 0) (y 1) := by
  unfold ag gRow
  by_cases h0 : (y 0 : ℕ) = 0
  · simp only [if_pos h0]
    refine Finset.sum_congr rfl fun r _ => ?_
    have e : (fun k => c1 + iblk m c 9 t (ix3 0 4 k)) = fun k => c1 + modR (args m c) 4 (row t r) k := funext fun k => congrArg (c1 + ·) (w9 m c t r 4 k)
    rw [rH m c t h, r6, e]
  simp only [if_neg h0]
  by_cases h1 : (y 0 : ℕ) = 1
  · simp only [if_pos h1]
    refine Finset.sum_congr rfl fun r _ => ?_
    rw [tx_eq m c t h, r8, r92 m c t r]
  simp only [if_neg h1, Finset.sum_const_zero]

/-- A tile's last quarter. -/
def lastq (n : ℕ) (h : n < 8) : Fin cfg0.N := ⟨4 * n + 3, show 4 * n + 3 < 32 by omega⟩

theorem lastq_mod (n : ℕ) (h : n < 8) : (lastq n h).val % 4 = 3 := by show (4 * n + 3) % 4 = 3; omega

theorem row_lastq (n : ℕ) (h : n < 8) (r : Fin 512) : row (lastq n h) r = (⟨512 * n + r.val, by omega⟩ : Fin 4096) :=
  Fin.ext (by show 512 * ((4 * n + 3) / 4) + r.val = 512 * n + r.val; omega)

/-- The sequence's block at a tile's end, -/
def bAt (c : Dev nD) (n : ℕ) (h : n < 8) : S1x8x1024.Idx → EReal := (outsAt0 m c (lastq n h).val (lastq n h).isLt).2.2.2.2.1
/-- the gains' block, -/
def gAt (c : Dev nD) (n : ℕ) (h : n < 8) : S8x1024.Idx → EReal := (outsAt0 m c (lastq n h).val (lastq n h).isLt).2.2.2.2.2.1
/-- and what the tile adds. -/
def bAdd (c : Dev nD) (n : Fin 8) (y : S1x8x1024.Idx) : EReal := ∑ r : Fin 512, bRow (args m c) (⟨512 * n.val + r.val, by omega⟩ : Fin 4096) (y 1) (y 2)
def gAdd (c : Dev nD) (n : Fin 8) (y : S8x1024.Idx) : EReal := ∑ r : Fin 512, gRow (args m c) (⟨512 * n.val + r.val, by omega⟩ : Fin 4096) (y 0) (y 1)

theorem ab_last (c : Dev nD) (n : Fin 8) (y : S1x8x1024.Idx) :
    ab m c (lastq n n.isLt) (outsAt0 m c (lastq n n.isLt).val (lastq n n.isLt).isLt).2.2.2.2.2.2 y = bAdd m c n y := by
  rw [ab_eq m c _ (lastq_mod n n.isLt)]
  exact Finset.sum_congr rfl fun r _ => by rw [row_lastq]

theorem ag_last (c : Dev nD) (n : Fin 8) (y : S8x1024.Idx) :
    ag m c (lastq n n.isLt) (outsAt0 m c (lastq n n.isLt).val (lastq n n.isLt).isLt).2.2.2.2.2.2 y = gAdd m c n y := by
  rw [ag_eq m c _ (lastq_mod n n.isLt)]
  exact Finset.sum_congr rfl fun r _ => by rw [row_lastq]

/-- Three points back from before a tile's last quarter. -/
theorem back16 (c : Dev nD) (n : ℕ) (h : n < 8) (h0 : n ≠ 0) (y : S1x8x1024.Idx) :
    (outsAt0 m c ((lastq n h).val - 1) (Nat.lt_of_le_of_lt (Nat.sub_le _ _) (lastq n h).isLt)).2.2.2.2.1 y = bAt m c (n - 1) (by omega) y := by
  have e : ∀ (a b : ℕ) (ha : a < cfg0.N) (hb : b < cfg0.N), a = b → (outsAt0 m c a ha).2.2.2.2.1 y = (outsAt0 m c b hb).2.2.2.2.1 y := by
    intro a b ha hb hab; subst hab; rfl
  have k2 := keep16 m c (⟨4 * n + 2, show 4 * n + 2 < 32 by omega⟩ : Fin cfg0.N) (by show ¬(4 * n + 2) % 4 = 3; omega) y
  have k1 := keep16 m c (⟨4 * n + 1, show 4 * n + 1 < 32 by omega⟩ : Fin cfg0.N) (by show ¬(4 * n + 1) % 4 = 3; omega) y
  have k0 := keep16 m c (⟨4 * n, show 4 * n < 32 by omega⟩ : Fin cfg0.N) (by show ¬(4 * n) % 4 = 3; omega) y
  refine (e _ _ _ _ (by show 4 * n + 3 - 1 = 4 * n + 2; omega)).trans (k2.trans ((e _ _ _ _ (by show 4 * n + 2 - 1 = 4 * n + 1; omega)).trans
    (k1.trans ((e _ _ _ _ (by show 4 * n + 1 - 1 = 4 * n; omega)).trans (k0.trans (e _ _ _ _ ?_))))))
  show 4 * n - 1 = 4 * (n - 1) + 3
  omega

theorem back17 (c : Dev nD) (n : ℕ) (h : n < 8) (h0 : n ≠ 0) (y : S8x1024.Idx) :
    (outsAt0 m c ((lastq n h).val - 1) (Nat.lt_of_le_of_lt (Nat.sub_le _ _) (lastq n h).isLt)).2.2.2.2.2.1 y = gAt m c (n - 1) (by omega) y := by
  have e : ∀ (a b : ℕ) (ha : a < cfg0.N) (hb : b < cfg0.N), a = b → (outsAt0 m c a ha).2.2.2.2.2.1 y = (outsAt0 m c b hb).2.2.2.2.2.1 y := by
    intro a b ha hb hab; subst hab; rfl
  have k2 := keep17 m c (⟨4 * n + 2, show 4 * n + 2 < 32 by omega⟩ : Fin cfg0.N) (by show ¬(4 * n + 2) % 4 = 3; omega) y
  have k1 := keep17 m c (⟨4 * n + 1, show 4 * n + 1 < 32 by omega⟩ : Fin cfg0.N) (by show ¬(4 * n + 1) % 4 = 3; omega) y
  have k0 := keep17 m c (⟨4 * n, show 4 * n < 32 by omega⟩ : Fin cfg0.N) (by show ¬(4 * n) % 4 = 3; omega) y
  refine (e _ _ _ _ (by show 4 * n + 3 - 1 = 4 * n + 2; omega)).trans (k2.trans ((e _ _ _ _ (by show 4 * n + 2 - 1 = 4 * n + 1; omega)).trans
    (k1.trans ((e _ _ _ _ (by show 4 * n + 1 - 1 = 4 * n; omega)).trans (k0.trans (e _ _ _ _ ?_))))))
  show 4 * n - 1 = 4 * (n - 1) + 3
  omega

/-- A sequence's first tile starts its block, -/
theorem b_first (c : Dev nD) (n : Fin 8) (h : n.val % 4 = 0) (y : S1x8x1024.Idx) : bAt m c n.val n.isLt y = 0 + bAdd m c n y := by
  rw [← ab_last]
  have hv : (lastq n.val n.isLt).val = 4 * n.val + 3 := rfl
  by_cases h4 : (lastq n.val n.isLt).val < 4
  · exact accbC m c _ (by omega) (by omega) h4 (by omega) y
  · exact accbE m c _ (by omega) (by omega) h4 (by omega) y

/-- the others add to it; -/
theorem b_next (c : Dev nD) (n : Fin 8) (h : ¬n.val % 4 = 0) (y : S1x8x1024.Idx) :
    bAt m c n.val n.isLt y = bAt m c (n.val - 1) (Nat.lt_of_le_of_lt (Nat.sub_le _ _) n.isLt) y + bAdd m c n y := by
  rw [← ab_last, ← back16 m c n.val n.isLt (by omega) y]
  have hv : (lastq n.val n.isLt).val = 4 * n.val + 3 := rfl
  exact accbD m c _ (by omega) (by omega) (by omega) (by omega) y

/-- the very first starts the gains', -/
theorem g_first (c : Dev nD) (n : Fin 8) (h : n.val % 8 = 0) (y : S8x1024.Idx) : gAt m c n.val n.isLt y = 0 + gAdd m c n y := by
  rw [← ag_last]
  have hv : (lastq n.val n.isLt).val = 4 * n.val + 3 := rfl
  exact accgC m c _ (by omega) (by omega) (by omega) (by omega) y

/-- and the others add to it. -/
theorem g_next (c : Dev nD) (n : Fin 8) (h : ¬n.val % 8 = 0) (y : S8x1024.Idx) :
    gAt m c n.val n.isLt y = gAt m c (n.val - 1) (Nat.lt_of_le_of_lt (Nat.sub_le _ _) n.isLt) y + gAdd m c n y := by
  rw [← ag_last, ← back17 m c n.val n.isLt (by omega) y]
  have hv : (lastq n.val n.isLt).val = 4 * n.val + 3 := rfl
  by_cases h4 : n.val % 4 = 0
  · exact accgE m c _ (by omega) (by omega) (by omega) (by omega) y
  · exact accgD m c _ (by omega) (by omega) (by omega) (by omega) y

/-- A sequence's block at its last tile: the sum over the sequence's tokens. -/
theorem b_sum (c : Dev nD) (n : Fin 8) (h : n.val % 4 = 3) (y : S1x8x1024.Idx) :
    bAt m c n.val n.isLt y = ∑ s : Fin 2048, bRow (args m c) (tok ⟨n.val / 4, by omega⟩ s) (y 1) (y 2) := by
  refine (Pipeline.eq_sum_fin_of_reset_step_apply_of_flush (fun k h => bAt m c k h) 4 (fun _ => 0) (fun k => bAdd m c k)
    (fun k h y => b_first m c k h y) (fun k h y => b_next m c k h y) n h y).trans ?_
  rw [zero_add]
  refine Fin.sum_mul_add_congr fun s r hl => ?_
  refine congrArg (fun t : Fin 4096 => bRow (args m c) t (y 1) (y 2)) (Fin.ext ?_)
  show 512 * (4 * (n.val / 4) + s.val) + r.val = 2048 * (n.val / 4) + (s.val * 512 + r.val)
  omega

/-- The gains' block at the last tile: the sum over all tokens. -/
theorem g_sum (c : Dev nD) (n : Fin 8) (h : n.val % 8 = 7) (y : S8x1024.Idx) :
    gAt m c n.val n.isLt y = ∑ r : Fin 4096, gRow (args m c) r (y 0) (y 1) := by
  refine (Pipeline.eq_sum_fin_of_reset_step_apply_of_flush (fun k h => gAt m c k h) 8 (fun _ => 0) (fun k => gAdd m c k)
    (fun k h y => g_first m c k h y) (fun k h y => g_next m c k h y) n h y).trans ?_
  rw [zero_add]
  refine Fin.sum_mul_add_congr fun s r hl => ?_
  refine congrArg (fun t : Fin 4096 => gRow (args m c) t (y 0) (y 1)) (Fin.ext ?_)
  show 512 * (8 * (n.val / 8) + s.val) + r.val = s.val * 512 + r.val
  omega

end Cert.FfnIdeal.Value

end
-- ==== Proof.FfnMath.lean ====
/-
  The two ways to write the gate's derivative and the normalization's: the kernel's forms and the plain chain rule's.
-/
module

public import proofs.«01_k».proof.Proof.FfnFlat
import Mathlib.Tactic.Linarith
import Mathlib.Tactic.FieldSimp

@[expose] public section

noncomputable section

namespace Cert.FfnMath

open Idealize.ShloMosaic Cert.FfnForm Cert.FfnFlat

theorem cN_eq : cN = ((1024 : ℝ) : EReal) := by
  simp [Ideal.ofBits, Ideal.ieee, -EReal.coe_mul]; norm_num
theorem c1_eq : c1 = ((1 : ℝ) : EReal) := by
  simp [Ideal.ofBits, Ideal.ieee, -EReal.coe_mul]
theorem ch_eq : ch = ((1 / 2 : ℝ) : EReal) := by
  simp [Ideal.ofBits, Ideal.ieee, -EReal.coe_mul]; norm_num
theorem cm_eq : cm = ((-(1 / 2) : ℝ) : EReal) := by
  simp [Ideal.ofBits, Ideal.ieee, -EReal.coe_mul]; norm_num
theorem cE_eq : ∃ e : ℝ, 0 < e ∧ cE = (e : EReal) := by
  refine ⟨_, ?_, by simp [Ideal.ofBits, Ideal.ieee, -EReal.coe_mul]; rfl⟩
  norm_num

/-- A real number, not an infinity. -/
def Re (x : EReal) : Prop := ∃ r : ℝ, x = (r : EReal)

theorem Re.add {x y : EReal} (hx : Re x) (hy : Re y) : Re (x + y) := by
  obtain ⟨a, rfl⟩ := hx; obtain ⟨b, rfl⟩ := hy; exact ⟨a + b, (EReal.coe_add a b).symm⟩
theorem Re.mul {x y : EReal} (hx : Re x) (hy : Re y) : Re (x * y) := by
  obtain ⟨a, rfl⟩ := hx; obtain ⟨b, rfl⟩ := hy; exact ⟨a * b, (EReal.coe_mul a b).symm⟩
theorem Re.sum {n : ℕ} {f : Fin n → EReal} (h : ∀ k, Re (f k)) : Re (∑ k, f k) := by
  induction n with
  | zero => exact ⟨0, by simp⟩
  | succ n ih => rw [Fin.sum_univ_succ]; exact (h 0).add (ih fun k => h k.succ)
theorem Re.of_ne {x : EReal} (h1 : x ≠ ⊤) (h2 : x ≠ ⊥) : Re x :=
  ⟨x.toReal, (EReal.coe_toReal h1 h2).symm⟩

theorem sq_nonneg' (x : EReal) : 0 ≤ x * x := by
  induction x with
  | bot => simp
  | top => simp
  | coe a => exact_mod_cast mul_self_nonneg a

/-- The mean square with the small constant: infinite, or a positive number. -/
theorem ms_cases (x : Row) :
    (Ideal.div (∑ k, x k * x k) cN + cE = ⊤) ∨
      ∃ r : ℝ, 0 < r ∧ (∀ k, Re (x k)) ∧ Ideal.div (∑ k, x k * x k) cN + cE = (r : EReal) := by
  obtain ⟨e, he, hE⟩ := cE_eq
  have h0 : 0 ≤ ∑ k, x k * x k := Finset.sum_nonneg fun k _ => sq_nonneg' (x k)
  rw [cN_eq, hE, Ideal.div_coe (by norm_num)]
  by_cases hT : (∑ k, x k * x k) = ⊤
  · left; rw [hT, EReal.top_mul_coe_of_pos (by norm_num)]; rfl
  · right
    have hB : (∑ k, x k * x k) ≠ ⊥ := fun h => by rw [h] at h0; simp at h0
    obtain ⟨M, hM⟩ := Re.of_ne hT hB
    have hM0 : 0 ≤ M := by rw [hM] at h0; exact_mod_cast h0
    refine ⟨M * (1 / 1024) + e, by positivity, fun k => ?_, ?_⟩
    · have hk : x k * x k ≤ ∑ k, x k * x k := Finset.single_le_sum (fun k _ => sq_nonneg' (x k)) (Finset.mem_univ k)
      refine Re.of_ne (fun h => hT ?_) (fun h => hT ?_) <;> rw [h] at hk <;> simpa using hk
    · rw [hM]; push_cast; rfl

theorem rsqrt_top' : Ideal.rsqrt ⊤ = 0 := by first | rfl | simp [Ideal.rsqrt]

/-- The normalized row is made of numbers. -/
theorem nrm_re (x : Row) (d : Fin 1024) : Re (nrm x d) := by
  unfold nrm rinv
  rcases ms_cases x with h | ⟨r, hr, hx, h⟩ <;> rw [h]
  · rw [rsqrt_top', mul_zero]; exact ⟨0, rfl⟩
  · rw [Ideal.rsqrt_coe, if_neg (not_lt.2 hr.le), if_neg hr.ne']
    exact (hx d).mul ⟨_, rfl⟩

/-- The mean square with the small constant. -/
def ms (x : Row) : EReal := Ideal.div (∑ k, x k * x k) cN + cE

/-- What the chain rule adds at a row: the root's derivative times the row. -/
def qOf (dn x : Row) : EReal :=
  Ideal.div ((∑ k, x k * dn k) * (cm * Ideal.div (rinv x) (ms x))) cN

theorem div_zero_top : Ideal.div 0 ⊤ = 0 := by first | rfl | simp [Ideal.div]

theorem mul_sum' {n : ℕ} (r : ℝ) (hr : 0 ≤ r) (f : Fin n → EReal) : ∑ k, f k * (r : EReal) = (∑ k, f k) * (r : EReal) := by
  induction n with
  | zero => simp
  | succ n ih =>
    rw [Fin.sum_univ_succ, Fin.sum_univ_succ, ih]
    exact (EReal.right_distrib_of_nonneg_of_ne_top (by exact_mod_cast hr) (EReal.coe_ne_top r) _ _).symm

theorem twice (z : EReal) : z + z = ((2 : ℝ) : EReal) * z := by
  induction z with
  | bot => rw [EReal.coe_mul_bot_of_pos (by norm_num)]; rfl
  | top => rw [EReal.coe_mul_top_of_pos (by norm_num)]; rfl
  | coe a => rw [← EReal.coe_add, ← EReal.coe_mul, two_mul]

/-- The normalization backwards: the chain rule's form is the kernel's. -/
theorem nbwd_eq (dn x : Row) (d : Fin 1024) :
    nbwd dn (nrm x) (rinv x) d = (dn d * rinv x + x d * qOf dn x) + qOf dn x * x d := by
  unfold nbwd qOf ms nrm rinv
  rcases ms_cases x with h | ⟨r, hr, -, h⟩ <;> rw [h]
  · have hz : Ideal.div 0 ((1024 : ℝ) : EReal) = 0 := by rw [Ideal.div_coe (by norm_num), zero_mul]
    rw [rsqrt_top', div_zero_top, cN_eq]
    simp [hz]
  · rw [Ideal.rsqrt_coe, if_neg (not_lt.2 hr.le), if_neg hr.ne']
    obtain ⟨ρ, hρ, hρ0, hρ2⟩ : ∃ ρ : ℝ, ρ = (√r)⁻¹ ∧ 0 < ρ ∧ 1 / r = ρ * ρ :=
      ⟨_, rfl, inv_pos.2 (Real.sqrt_pos.2 hr), by rw [← mul_inv, Real.mul_self_sqrt hr.le, one_div]⟩
    rw [← hρ, Ideal.div_coe hr.ne', hρ2, cN_eq, cm_eq, Ideal.div_coe (by norm_num), Ideal.div_coe (by norm_num)]
    have hS : (∑ k, dn k * (x k * (ρ : EReal))) = (∑ k, x k * dn k) * (ρ : EReal) := by
      rw [← mul_sum' ρ hρ0.le]
      exact Finset.sum_congr rfl fun k _ => by rw [← mul_assoc, mul_comm (dn k)]
    rw [hS]
    generalize (∑ k, x k * dn k) = S
    have hq : S * (((-(1 / 2) : ℝ) : EReal) * ((ρ : EReal) * ((ρ * ρ : ℝ) : EReal))) * ((1 / 1024 : ℝ) : EReal)
        = S * ((-(1 / 2) * (ρ * (ρ * ρ)) * (1 / 1024) : ℝ) : EReal) := by
      push_cast; simp only [mul_assoc]
    rw [hq, mul_comm (S * _) (x d), add_assoc, twice, sub_eq_add_neg,
      EReal.left_distrib_of_nonneg_of_ne_top (by exact_mod_cast hρ0.le) (EReal.coe_ne_top ρ), mul_comm (ρ : EReal) (dn d)]
    congr 1
    have e1 : (ρ : EReal) * -(x d * (ρ : EReal) * (S * (ρ : EReal) * ((1 / 1024 : ℝ) : EReal)))
        = ((-(ρ * ρ * ρ * (1 / 1024)) : ℝ) : EReal) * (x d * S) := by
      rw [EReal.coe_neg, EReal.neg_mul, mul_comm (ρ : EReal) (-_), EReal.neg_mul]
      push_cast
      congr 1
      ac_rfl
    have e2 : ((2 : ℝ) : EReal) * (x d * (S * ((-(1 / 2) * (ρ * (ρ * ρ)) * (1 / 1024) : ℝ) : EReal)))
        = ((2 * (-(1 / 2) * (ρ * (ρ * ρ)) * (1 / 1024)) : ℝ) : EReal) * (x d * S) := by
      rw [EReal.coe_mul 2]
      generalize ((-(1 / 2) * (ρ * (ρ * ρ)) * (1 / 1024) : ℝ) : EReal) = c
      generalize ((2 : ℝ) : EReal) = t
      ac_rfl
    rw [e1, e2]
    congr 2
    ring

/-- The logistic function: by the hyperbolic tangent, and by the exponential. -/
theorem sigm_eq (a : EReal) : sigm a = Ideal.div 1 (1 + Ideal.exp (-a)) := by
  unfold sigm
  rw [ch_eq]
  induction a with
  | bot =>
    rw [EReal.coe_mul_bot_of_pos (by norm_num), Ideal.tanh_bot, EReal.neg_bot, Ideal.exp_top]
    have h1 : (1 : EReal) + ⊤ = ⊤ := rfl
    have h2 : Ideal.div 1 ⊤ = 0 := by first | rfl | simp [Ideal.div]
    rw [h1, h2]
    have : (-1 : EReal) = ((-1 : ℝ) : EReal) := by norm_num
    rw [this, ← EReal.coe_mul, ← EReal.coe_add]; norm_num
  | top =>
    rw [EReal.coe_mul_top_of_pos (by norm_num), Ideal.tanh_top, EReal.neg_top, Ideal.exp_bot, add_zero, mul_one,
      ← EReal.coe_add]
    have : (1 : EReal) = ((1 : ℝ) : EReal) := rfl
    rw [this, Ideal.div_coe one_ne_zero, ← EReal.coe_mul]; norm_num
  | coe r =>
    have : (1 : EReal) = ((1 : ℝ) : EReal) := rfl
    have hp : (1 : ℝ) + Real.exp (-r) ≠ 0 := by positivity
    rw [← EReal.coe_mul, Ideal.tanh_coe, ← EReal.coe_neg, Ideal.exp_coe, this, ← EReal.coe_add, Ideal.div_coe hp,
      ← EReal.coe_mul, ← EReal.coe_add, ← EReal.coe_mul]
    congr 1
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    rw [h1] at hp ⊢
    have p1 := Real.exp_pos (1 / 2 * r)
    have p2 := Real.exp_pos (-(1 / 2 * r))
    generalize Real.exp (1 / 2 * r) = u at *
    generalize Real.exp (-(1 / 2 * r)) = v at *
    have h3 : u = v⁻¹ := eq_inv_of_mul_eq_one_left h2
    subst h3
    field_simp
    try ring

theorem sigm_bot : sigm ⊥ = 0 := by
  unfold sigm
  rw [ch_eq, EReal.coe_mul_bot_of_pos (by norm_num), Ideal.tanh_bot]
  have : (-1 : EReal) = ((-1 : ℝ) : EReal) := by norm_num
  rw [this, ← EReal.coe_mul, ← EReal.coe_add]; norm_num
theorem sigm_top : sigm ⊤ = 1 := by
  unfold sigm
  rw [ch_eq, EReal.coe_mul_top_of_pos (by norm_num), Ideal.tanh_top, mul_one, ← EReal.coe_add]; norm_num
theorem sigm_re (a : ℝ) : Re (sigm a) := by
  unfold sigm
  rw [ch_eq, ← EReal.coe_mul, Ideal.tanh_coe]
  exact (Re.mul ⟨_, rfl⟩ ⟨_, rfl⟩).add ⟨_, rfl⟩

/-- The gate's derivative, both ways, where the cotangent is a number. -/
theorem da_eq {g b : EReal} (a : EReal) (hg : Re g) (hb : Re b) :
    daOf g a b = (g * b) * sigm a + (a * (g * b)) * (sigm a * (1 - sigm a)) := by
  unfold daOf
  obtain ⟨G, hG⟩ := hg.mul hb
  rw [hG, c1_eq]
  induction a with
  | bot => rw [sigm_bot]; simp
  | top =>
    rw [sigm_top]
    have h1 : (1 : EReal) - 1 = 0 := by
      have : (1 : EReal) = ((1 : ℝ) : EReal) := rfl
      rw [this, ← EReal.coe_sub]; simp
    have h2 : ((1 : ℝ) : EReal) = 1 := rfl
    rw [h2, h1]; simp
  | coe r =>
    obtain ⟨s, hs⟩ := sigm_re r
    have : (1 : EReal) = ((1 : ℝ) : EReal) := rfl
    rw [hs, this]
    simp only [← EReal.coe_sub, ← EReal.coe_mul, ← EReal.coe_add]
    congr 1
    ring

end Cert.FfnMath

end
-- ==== Proof.FfnRef.lean ====
/-
  The reference at a token: its arrays in terms of the rows' forms.
-/
module

public import proofs.«01_k».proof.Defs
public import proofs.«01_k».proof.Proof.Gen.FfnRefIdeal.Read
public import proofs.«01_k».proof.Proof.FfnMath
public import Idealize.ShloMosaic.Lib.Pipeline.ReadBack
public import Idealize.ShloMosaic.Lib.Pipeline.ValueKit

@[expose] public section

set_option maxRecDepth 16384

noncomputable section

namespace Cert.FfnRef

open Cert.FfnRefIdeal Cert.FfnRefIdeal.Gen Cert.FfnRefIdeal.Read
open Idealize.ShloMosaic Idealize.ShloMosaic.TcCoe Idealize.SL.Sem
open Cert.FfnForm Cert.FfnFlat Cert.FfnMath

variable (A : Args)

/-- The mixer's normalized row, at a place of a sequence. -/
theorem v19 (y : S2x2048x1024.Idx) :
    val_main_v19 (F := Ideal) A.mix y = nrm (mixR A (tok (y 0) (y 1))) (y 2) := by
  pointwise [val_main_v19, val_main_v18, val_main_v14, val_main_v13, val_main_v12, val_main_v11, val_main_v10, val_main_v9, val_main_v8, val_main_v7, val_main_v1, val_main_cst, val_main_cst_0, val_main_cst_1, nrm, rinv, mixR]
  all_goals blk_point []

/-- Its reciprocal root, -/
theorem v14 (y : S2x2048x1.Idx) :
    val_main_v14 (F := Ideal) A.mix y = rinv (mixR A (tok (y 0) (y 1))) := by
  pointwise [val_main_v14, val_main_v13, val_main_v12, val_main_v11, val_main_v10, val_main_v9, val_main_v8, val_main_v7, val_main_v1, val_main_cst, val_main_cst_0, val_main_cst_1, rinv, mixR]
  all_goals blk_point []

/-- its mean square, -/
theorem v13 (y : S2x2048x1.Idx) :
    val_main_v13 (F := Ideal) A.mix y = ms (mixR A (tok (y 0) (y 1))) := by
  pointwise [val_main_v13, val_main_v12, val_main_v11, val_main_v10, val_main_v9, val_main_v8, val_main_v7, val_main_v1, val_main_cst, val_main_cst_0, val_main_cst_1, ms, mixR]
  all_goals blk_point []

/-- with the gains, -/
theorem v22 (y : S2x2048x1024.Idx) :
    val_main_v22 (F := Ideal) A.mix A.gm y = nrm (mixR A (tok (y 0) (y 1))) (y 2) * gmR A (y 2) := by
  pointwise [val_main_v22, val_main_v21, val_main_v20, val_main_v5, gmR, v19 A]
  all_goals blk_point []

/-- and the row after the mixer. -/
theorem v25 (y : S2x2048x1024.Idx) :
    val_main_v25 (F := Ideal) A.x A.mix A.mod A.gm y = x1R A (tok (y 0) (y 1)) (y 2) := by
  pointwise [val_main_v25, val_main_v24, val_main_v23, val_main_v2, val_main_v0, x1R, modR, v22 A]
  all_goals blk_point []

/-- Its mean square, -/
theorem v32 (y : S2x2048x1.Idx) :
    val_main_v32 (F := Ideal) A.x A.mix A.mod A.gm y = ms (x1R A (tok (y 0) (y 1))) := by
  pointwise [val_main_v32, val_main_v31, val_main_v30, val_main_v29, val_main_v28, val_main_v27, val_main_v26, val_main_cst_3, val_main_cst_4, val_main_cst_5, ms, v25 A]
  all_goals blk_point []

/-- its reciprocal root, -/
theorem v33 (y : S2x2048x1.Idx) :
    val_main_v33 (F := Ideal) A.x A.mix A.mod A.gm y = rinv (x1R A (tok (y 0) (y 1))) := by
  pointwise [val_main_v33, v32 A, rinv, ms]
  all_goals blk_point []

/-- its normalized row, -/
theorem v38 (y : S2x2048x1024.Idx) :
    val_main_v38 (F := Ideal) A.x A.mix A.mod A.gm y = nrm (x1R A (tok (y 0) (y 1))) (y 2) := by
  pointwise [val_main_v38, val_main_v37, v33 A, v25 A, nrm]
  all_goals blk_point []

/-- with the gains, -/
theorem v41 (y : S2x2048x1024.Idx) :
    val_main_v41 (F := Ideal) A.x A.mix A.mod A.gm A.gf y = nrm (x1R A (tok (y 0) (y 1))) (y 2) * gfR A (y 2) := by
  pointwise [val_main_v41, val_main_v40, val_main_v39, val_main_v6, v38 A, gfR]
  all_goals blk_point []

/-- and modulated. -/
theorem v47 (y : S2x2048x1024.Idx) :
    val_main_v47 (F := Ideal) A.x A.mix A.mod A.gm A.gf y = hR A (tok (y 0) (y 1)) (y 2) := by
  pointwise [val_main_v47, val_main_v46, val_main_v45, val_main_v44, val_main_v43, val_main_v42, val_main_v4, val_main_v3, val_main_cst_7, v41 A, hR, modR]
  all_goals blk_point []

/-- The gate's argument, -/
theorem v48 (y : S2x2048x2816.Idx) :
    val_main_v48 (F := Ideal) A.x A.mix A.mod A.gm A.gf A.wg y = aR A (tok (y 0) (y 1)) (y 2) := by
  pointwise [val_main_v48, v47 A, aR]
  all_goals blk_point []

/-- the other factor, -/
theorem v49 (y : S2x2048x2816.Idx) :
    val_main_v49 (F := Ideal) A.x A.mix A.mod A.gm A.gf A.wu y = bR A (tok (y 0) (y 1)) (y 2) := by
  pointwise [val_main_v49, v47 A, bR]
  all_goals blk_point []

/-- the inner cotangent, -/
theorem v55 (y : S2x2048x2816.Idx) :
    val_main_v55 (F := Ideal) A.df A.wd y = gR A (tok (y 0) (y 1)) (y 2) := by
  pointwise [val_main_v55, val_main_v54, val_main_v53, gR, dfin]
  all_goals blk_point []

/-- and the logistic function. -/
theorem v50 (y : S2x2048x2816.Idx) :
    val_main_v50_2 (F := Ideal) A.x A.mix A.mod A.gm A.gf A.wg y = sigm (aR A (tok (y 0) (y 1)) (y 2)) := by
  rw [sigm_eq]
  pointwise [val_main_v50_2, val_main_call0_v4, val_main_call0_v3, val_main_call0_v2, val_main_call0_v1, val_main_call0_v0, val_main_call0_cst, val_main_call0_cst_0, v48 A]

end Cert.FfnRef

end
-- ==== Proof.FfnRefBack.lean ====
/-
  The reference backwards at a token: its cotangents in terms of the rows' forms, the inner cotangent being a number.
-/
module

public import proofs.«01_k».proof.Proof.FfnRef

@[expose] public section

set_option maxRecDepth 16384

noncomputable section

namespace Cert.FfnRef

open Cert.FfnRefIdeal Cert.FfnRefIdeal.Gen Cert.FfnRefIdeal.Read
open Idealize.ShloMosaic Idealize.ShloMosaic.TcCoe Idealize.SL.Sem
open Cert.FfnForm Cert.FfnFlat Cert.FfnMath

/-- A sum over the first two axes of three, at an index. -/
theorem reduce01 {n0 n1 n2 : ℕ} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  refine congrArg (init + ·) ?_
  rw [← Fintype.sum_prod_type']
  refine Finset.sum_filter_eq_sum_of_fiber _ (fun p : Fin n0 × Fin n1 => ix3 p.1 p.2 j)
    (fun p q e => Prod.ext (congrFun e 0) (congrFun e 1)) (fun i => ?_) v
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨p, rfl⟩
    funext b
    apply Fin.ext
    match b with
    | ⟨0, _⟩ => rfl

/-- A sum over sequences and places is the sum over tokens. -/
theorem sum_tok (f : Fin 4096 → EReal) : (∑ b : Fin 2, ∑ s : Fin 2048, f (tok b s)) = ∑ r : Fin 4096, f r :=
  Fin.sum_mul_add_congr fun b s hl => congrArg f (Fin.ext (by simp only; omega))

/-- A token is its place in its sequence. -/
theorem tok_div (r : Fin 4096) (h h') : tok ⟨r.val / 2048, h⟩ ⟨r.val % 2048, h'⟩ = r :=
  Fin.ext (by simp only; omega)

variable (A : Args)

/-- The cotangent of the normalized row after the mixer, -/
def dnX (r : Fin 4096) : Row := fun k => (dhR A r k * (c1 + modR A 4 r k)) * gfR A k
/-- and of the mixer's normalized row. -/
def dnM (r : Fin 4096) : Row := fun k => (dxR A r k * modR A 2 r k) * gmR A k

/-- The residual's cotangent by the chain rule, -/
theorem dxR_eq (r : Fin 4096) (d : Fin 1024) : dxR A r d
    = ((dyR A r d + dnX A r d * rinv (x1R A r)) + x1R A r d * qOf (dnX A r) (x1R A r)) + qOf (dnX A r) (x1R A r) * x1R A r d := by
  unfold dxR dxOf
  rw [nbwd_eq]
  simp only [← add_assoc]
  rfl
/-- and the mixer's. -/
theorem dmR_eq (r : Fin 4096) (d : Fin 1024) : dmR A r d
    = (dnM A r d * rinv (mixR A r) + mixR A r d * qOf (dnM A r) (mixR A r)) + qOf (dnM A r) (mixR A r) * mixR A r d := by
  unfold dmR dmOf
  rw [nbwd_eq]
  rfl

/-- The gate's cotangent, -/
theorem v58 (hg : ∀ r f, Re (gR A r f)) (hb : ∀ r f, Re (bR A r f)) (y : S2x2048x2816.Idx) :
    val_main_v58 (F := Ideal) A.df A.x A.mix A.mod A.gm A.gf A.wg A.wu A.wd y = daR A (tok (y 0) (y 1)) (y 2) := by
  refine Eq.trans ?_ (da_eq (aR A (tok (y 0) (y 1)) (y 2)) (hg _ _) (hb _ _)).symm
  pointwise [val_main_v58, val_main_call1_v2, val_main_call1_v1, val_main_call1_v0, val_main_v57, val_main_v50_1, val_main_call0_v7, val_main_call0_v6, val_main_call0_cst_1, v48 A, v49 A, v50 A, v55 A]

/-- the other factor's, -/
theorem v56 (y : S2x2048x2816.Idx) :
    val_main_v56 (F := Ideal) A.df A.x A.mix A.mod A.gm A.gf A.wg A.wd y = dbR A (tok (y 0) (y 1)) (y 2) := by
  refine Eq.trans ?_ (mul_comm (aR A (tok (y 0) (y 1)) (y 2) * sigm (aR A (tok (y 0) (y 1)) (y 2))) (gR A (tok (y 0) (y 1)) (y 2)))
  pointwise [val_main_v56, val_main_v50_0, v48 A, v50 A, v55 A]

/-- the input's, -/
theorem v61 (hg : ∀ r f, Re (gR A r f)) (hb : ∀ r f, Re (bR A r f)) (y : S2x2048x1024.Idx) :
    val_main_v61 (F := Ideal) A.df A.x A.mix A.mod A.gm A.gf A.wg A.wu A.wd y = dhR A (tok (y 0) (y 1)) (y 2) := by
  pointwise [val_main_v61, val_main_v60, val_main_v59, v58 A hg hb, v56 A, dhR]
  rw [add_comm]
  all_goals blk_point []

/-- scaled, -/
theorem v69 (hg : ∀ r f, Re (gR A r f)) (hb : ∀ r f, Re (bR A r f)) (y : S2x2048x1024.Idx) :
    val_main_v69 (F := Ideal) A.df A.x A.mix A.mod A.gm A.gf A.wg A.wu A.wd y = dhR A (tok (y 0) (y 1)) (y 2) * (c1 + modR A 4 (tok (y 0) (y 1)) (y 2)) := by
  pointwise [val_main_v69, val_main_v68, val_main_v43, val_main_v42, val_main_v4, val_main_cst_7, v61 A hg hb, modR]
  all_goals blk_point []

/-- and with the gains. -/
theorem v74 (hg : ∀ r f, Re (gR A r f)) (hb : ∀ r f, Re (bR A r f)) (y : S2x2048x1024.Idx) :
    val_main_v74 (F := Ideal) A.df A.x A.mix A.mod A.gm A.gf A.wg A.wu A.wd y = dnX A (tok (y 0) (y 1)) (y 2) := by
  pointwise [val_main_v74, val_main_v73, val_main_v39, val_main_v6, v69 A hg hb, dnX, gfR]
  all_goals blk_point []

/-- What the root adds, -/
theorem v84 (hg : ∀ r f, Re (gR A r f)) (hb : ∀ r f, Re (bR A r f)) (y : S2x2048x1.Idx) :
    val_main_v84 (F := Ideal) A.df A.x A.mix A.mod A.gm A.gf A.wg A.wu A.wd y = qOf (dnX A (tok (y 0) (y 1))) (x1R A (tok (y 0) (y 1))) := by
  pointwise [val_main_v84, val_main_v83, val_main_v82, val_main_v78, val_main_v77, val_main_v76, val_main_v36, val_main_v35, val_main_v34, val_main_cst_6, val_main_cst_12, val_main_cst_13, v74 A hg hb, v25 A, v33 A, v32 A, qOf]
  all_goals blk_point []

/-- spread over the row. -/
theorem v86 (hg : ∀ r f, Re (gR A r f)) (hb : ∀ r f, Re (bR A r f)) (y : S2x2048x1024.Idx) :
    val_main_v86 (F := Ideal) A.df A.x A.mix A.mod A.gm A.gf A.wg A.wu A.wd y = qOf (dnX A (tok (y 0) (y 1))) (x1R A (tok (y 0) (y 1))) := by
  pointwise [val_main_v86, val_main_v85, val_main_cst_14, v84 A hg hb]
  exact Fin.sum_univ_one _

/-- The residual's cotangent. -/
theorem v90 (hg : ∀ r f, Re (gR A r f)) (hb : ∀ r f, Re (bR A r f)) (y : S2x2048x1024.Idx) :
    val_main_v90 (F := Ideal) A.df A.dy A.x A.mix A.mod A.gm A.gf A.wg A.wu A.wd y = dxR A (tok (y 0) (y 1)) (y 2) := by
  refine Eq.trans ?_ (dxR_eq A (tok (y 0) (y 1)) (y 2)).symm
  pointwise [val_main_v90, val_main_v89, val_main_v88, val_main_v87, val_main_v81, val_main_v80, val_main_v79, val_main_v62, v86 A hg hb, v25 A, v33 A, v74 A hg hb, dyR]
  all_goals blk_point []

/-- Times the gate, -/
theorem v92 (hg : ∀ r f, Re (gR A r f)) (hb : ∀ r f, Re (bR A r f)) (y : S2x2048x1024.Idx) :
    val_main_v92 (F := Ideal) A.df A.dy A.x A.mix A.mod A.gm A.gf A.wg A.wu A.wd y = dxR A (tok (y 0) (y 1)) (y 2) * modR A 2 (tok (y 0) (y 1)) (y 2) := by
  refine Eq.trans ?_ (mul_comm (modR A 2 (tok (y 0) (y 1)) (y 2)) (dxR A (tok (y 0) (y 1)) (y 2)))
  pointwise [val_main_v92, val_main_v91, val_main_v2, v90 A hg hb, modR]
  all_goals blk_point []

/-- and with the gains. -/
theorem v100 (hg : ∀ r f, Re (gR A r f)) (hb : ∀ r f, Re (bR A r f)) (y : S2x2048x1024.Idx) :
    val_main_v100 (F := Ideal) A.df A.dy A.x A.mix A.mod A.gm A.gf A.wg A.wu A.wd y = dnM A (tok (y 0) (y 1)) (y 2) := by
  pointwise [val_main_v100, val_main_v99, val_main_v20, val_main_v5, v92 A hg hb, dnM, gmR]
  all_goals blk_point []

/-- What the mixer's root adds, -/
theorem v109 (hg : ∀ r f, Re (gR A r f)) (hb : ∀ r f, Re (bR A r f)) (y : S2x2048x1.Idx) :
    val_main_v109 (F := Ideal) A.df A.dy A.x A.mix A.mod A.gm A.gf A.wg A.wu A.wd y = qOf (dnM A (tok (y 0) (y 1))) (mixR A (tok (y 0) (y 1))) := by
  pointwise [val_main_v109, val_main_v108, val_main_v107, val_main_v104, val_main_v103, val_main_v102, val_main_v17, val_main_v16, val_main_v15, val_main_v1, val_main_cst_2, val_main_cst_18, val_main_cst_19, v100 A hg hb, v14 A, v13 A, mixR, qOf]
  all_goals blk_point []

/-- spread over the row. -/
theorem v111 (hg : ∀ r f, Re (gR A r f)) (hb : ∀ r f, Re (bR A r f)) (y : S2x2048x1024.Idx) :
    val_main_v111 (F := Ideal) A.df A.dy A.x A.mix A.mod A.gm A.gf A.wg A.wu A.wd y = qOf (dnM A (tok (y 0) (y 1))) (mixR A (tok (y 0) (y 1))) := by
  pointwise [val_main_v111, val_main_v110, val_main_cst_20, v109 A hg hb]
  exact Fin.sum_univ_one _

/-- The mixer's cotangent. -/
theorem v115 (hg : ∀ r f, Re (gR A r f)) (hb : ∀ r f, Re (bR A r f)) (y : S2x2048x1024.Idx) :
    val_main_v115 (F := Ideal) A.df A.dy A.x A.mix A.mod A.gm A.gf A.wg A.wu A.wd y = dmR A (tok (y 0) (y 1)) (y 2) := by
  refine Eq.trans ?_ (dmR_eq A (tok (y 0) (y 1)) (y 2)).symm
  pointwise [val_main_v115, val_main_v114, val_main_v113, val_main_v112, val_main_v106, val_main_v105, val_main_v1, v111 A hg hb, v14 A, v100 A hg hb, mixR]
  all_goals blk_point []

/-- The results: the gate's cotangent by quarter, -/
theorem v124 (hg : ∀ r f, Re (gR A r f)) (hb : ∀ r f, Re (bR A r f)) (y : S4x4096x704.Idx) :
    val_main_v124 (F := Ideal) A.df A.x A.mix A.mod A.gm A.gf A.wg A.wu A.wd y = daR A (y 1) (hid (y 0) (y 2)) := by
  pointwise [val_main_v124, val_main_v123, val_main_v122, v58 A hg hb]
  refine congrArg₂ (daR A) (tok_div (y 1) _ _) (Fin.ext ?_)
  first | omega | (dsimp only; omega) | (simp; omega)

/-- the other factor's, -/
theorem v127 (y : S4x4096x704.Idx) :
    val_main_v127 (F := Ideal) A.df A.x A.mix A.mod A.gm A.gf A.wg A.wd y = dbR A (y 1) (hid (y 0) (y 2)) := by
  pointwise [val_main_v127, val_main_v126, val_main_v125, v56 A]
  refine congrArg₂ (dbR A) (tok_div (y 1) _ _) (Fin.ext ?_)
  first | omega | (dsimp only; omega) | (simp; omega)

/-- the residual's, -/
theorem v128 (hg : ∀ r f, Re (gR A r f)) (hb : ∀ r f, Re (bR A r f)) (y : S4096x1024.Idx) :
    val_main_v128 (F := Ideal) A.df A.dy A.x A.mix A.mod A.gm A.gf A.wg A.wu A.wd y = dxR A (y 0) (y 1) := by
  pointwise [val_main_v128, v90 A hg hb]
  exact congrFun (congrArg (dxR A) (tok_div (y 0) _ _)) (y 1)

/-- the mixer's, -/
theorem v130 (hg : ∀ r f, Re (gR A r f)) (hb : ∀ r f, Re (bR A r f)) (y : S4096x1024.Idx) :
    val_main_v130 (F := Ideal) A.df A.dy A.x A.mix A.mod A.gm A.gf A.wg A.wu A.wd y = dmR A (y 0) (y 1) := by
  pointwise [val_main_v130, val_main_v129, v115 A hg hb]
  exact congrFun (congrArg (dmR A) (tok_div (y 0) _ _)) (y 1)

/-- The second norm's gains: summed over the tokens, -/
theorem v71 (hg : ∀ r f, Re (gR A r f)) (hb : ∀ r f, Re (bR A r f)) (d : Fin 1024) :
    val_main_v71 (F := Ideal) A.df A.x A.mix A.mod A.gm A.gf A.wg A.wu A.wd (ix1 d) = ∑ r : Fin 4096, ps (dhR A r) (fun k => c1 + modR A 4 r k) (x1R A r) d := by
  unfold val_main_v71
  rw [← sum_tok fun r => ps (dhR A r) (fun k => c1 + modR A 4 r k) (x1R A r) d]
  refine (reduce01 reducesTo_S2x2048x1024_S1024_d0_1 _ _ d).trans ?_
  rw [show (val_main_cst_10 (F := Ideal)) _ = (0 : EReal) from Ideal.ofBits_zero_f32, zero_add]
  refine Finset.sum_congr rfl fun b _ => Finset.sum_congr rfl fun s _ => ?_
  pointwise [val_main_v70, v69 A hg hb, v38 A, ps]
  exact mul_comm _ _

/-- and over nothing more. -/
theorem v75 (hg : ∀ r f, Re (gR A r f)) (hb : ∀ r f, Re (bR A r f)) (d : Fin 1024) :
    val_main_v75 (F := Ideal) A.df A.x A.mix A.mod A.gm A.gf A.wg A.wu A.wd (ix1 d) = ∑ r : Fin 4096, ps (dhR A r) (fun k => c1 + modR A 4 r k) (x1R A r) d := by
  unfold val_main_v75
  refine (reduce01 reducesTo_S1x1x1024_S1024_d0_1 _ _ d).trans ?_
  rw [show (val_main_cst_11 (F := Ideal)) _ = (0 : EReal) from Ideal.ofBits_zero_f32, zero_add, ← v71 A hg hb d]
  simp only [Fin.sum_univ_one]
  pointwise [val_main_v72]

/-- The first's, -/
theorem v97 (hg : ∀ r f, Re (gR A r f)) (hb : ∀ r f, Re (bR A r f)) (d : Fin 1024) :
    val_main_v97 (F := Ideal) A.df A.dy A.x A.mix A.mod A.gm A.gf A.wg A.wu A.wd (ix1 d) = ∑ r : Fin 4096, ps (dxR A r) (modR A 2 r) (mixR A r) d := by
  unfold val_main_v97
  rw [← sum_tok fun r => ps (dxR A r) (modR A 2 r) (mixR A r) d]
  refine (reduce01 reducesTo_S2x2048x1024_S1024_d0_1 _ _ d).trans ?_
  rw [show (val_main_cst_16 (F := Ideal)) _ = (0 : EReal) from Ideal.ofBits_zero_f32, zero_add]
  refine Finset.sum_congr rfl fun b _ => Finset.sum_congr rfl fun s _ => ?_
  pointwise [val_main_v96, v92 A hg hb, v19 A, ps]
  exact mul_comm _ _

/-- likewise. -/
theorem v101 (hg : ∀ r f, Re (gR A r f)) (hb : ∀ r f, Re (bR A r f)) (d : Fin 1024) :
    val_main_v101 (F := Ideal) A.df A.dy A.x A.mix A.mod A.gm A.gf A.wg A.wu A.wd (ix1 d) = ∑ r : Fin 4096, ps (dxR A r) (modR A 2 r) (mixR A r) d := by
  unfold val_main_v101
  refine (reduce01 reducesTo_S1x1x1024_S1024_d0_1 _ _ d).trans ?_
  rw [show (val_main_cst_17 (F := Ideal)) _ = (0 : EReal) from Ideal.ofBits_zero_f32, zero_add, ← v97 A hg hb d]
  simp only [Fin.sum_univ_one]
  pointwise [val_main_v98]

/-- the modulation's block, -/
theorem v117 (hg : ∀ r f, Re (gR A r f)) (hb : ∀ r f, Re (bR A r f)) (y : S2x8x1024.Idx) :
    val_main_v117 (F := Ideal) A.df A.dy A.x A.mix A.mod A.gm A.gf A.wg A.wu A.wd y = ∑ s : Fin 2048, bRow A (tok (y 0) s) (y 1) (y 2) := by
  pointwise [val_main_v117, val_main_v116, val_main_v95, val_main_v94, val_main_v93, val_main_v67, val_main_v66, val_main_v65, val_main_v64, val_main_v63, val_main_cst_8, val_main_cst_9, val_main_cst_15, val_main_cst_21, v90 A hg hb, v61 A hg hb, v41 A, v22 A, bRow, pn]
  by_cases h0 : (y 1 : ℕ) = 0
  · rw [dif_pos (by omega)]; simp only [h0, if_true]
  · rw [dif_neg (by omega)]
    by_cases h1 : (y 1 : ℕ) = 1
    · rw [dif_pos (by omega)]; simp only [h1, if_true, one_ne_zero, if_false]
      exact Finset.sum_congr rfl fun s _ => mul_comm _ _
    · rw [dif_neg (by omega)]
      by_cases h2 : (y 1 : ℕ) = 2
      · rw [dif_pos (by omega)]; simp only [h2, if_true, OfNat.ofNat_ne_zero, OfNat.ofNat_ne_one, if_false]
      · rw [dif_neg (by omega)]; simp only [h0, h1, h2, if_false, Finset.sum_const_zero]

/-- and the gains' block. -/
theorem v121 (hg : ∀ r f, Re (gR A r f)) (hb : ∀ r f, Re (bR A r f)) (y : S8x1024.Idx) :
    val_main_v121 (F := Ideal) A.df A.dy A.x A.mix A.mod A.gm A.gf A.wg A.wu A.wd y = ∑ r : Fin 4096, gRow A r (y 0) (y 1) := by
  pointwise [val_main_v121, val_main_v120, val_main_v119, val_main_v118, val_main_cst_22, v75 A hg hb, v101 A hg hb, gRow, ps]
  by_cases h0 : (y 0 : ℕ) = 0
  · rw [dif_pos (by omega)]; simp only [h0, if_true]
  · rw [dif_neg (by omega)]
    by_cases h1 : (y 0 : ℕ) = 1
    · rw [dif_pos (by omega)]; simp only [h1, if_true, one_ne_zero, if_false]
    · rw [dif_neg (by omega)]; simp only [h0, h1, if_false, Finset.sum_const_zero]

end Cert.FfnRef

end
-- ==== Proof.FfnPre.lean ====
/-
  The precondition read: the arrays it names are made of numbers, and so are the inner cotangent and the gate's factor.
-/
module

public import proofs.«01_k».proof.Pre_ffn_finite
public import proofs.«01_k».proof.Proof.FfnMath
public import Idealize.ShloMosaic.Lib.Pipeline.ValueKit

@[expose] public section

noncomputable section

namespace Cert.FfnPre

open Cert.Pre_ffn_finite Idealize.ShloMosaic Cert.FfnForm Cert.FfnFlat Cert.FfnMath

instance facts : Cert.Pre_ffn_finite.Facts where
  bcast_S_S4096x1024 := by decide
  slices_S2x6x1024_S2x1x1024_0_3_0 := by decide
  shapeCasts_S2x1x1024_S2x1024 := by decide
  bcast_S_S2x1024 := by decide
  slices_S2x6x1024_S2x1x1024_0_4_0 := by decide
  bcast_S_S1x1024 := by decide
  bcast_S_S1024x2816 := by decide
  bcast_S_S2816x1024 := by decide

theorem inf32 : Ideal.ofBits .f32 0x7F800000#32 = ⊤ := by
  simp [Ideal.ofBits, Ideal.ieee]
theorem ninf32 : Ideal.ofBits .f32 0xFF800000#32 = ⊥ := by
  simp [Ideal.ofBits, Ideal.ieee]
theorem inf16 : Ideal.ofBits .bf16 0x7F80#16 = ⊤ := by
  simp [Ideal.ofBits, Ideal.ieee]
theorem ninf16 : Ideal.ofBits .bf16 0xFF80#16 = ⊥ := by
  simp [Ideal.ofBits, Ideal.ieee]

/-- Above minus infinity and below infinity: a number. -/
theorem re_of {x lo hi : EReal} (hl : lo = ⊥) (hh : hi = ⊤)
    (h : IntOp.andi (Ideal.cmp .ogt x lo) (Ideal.cmp .olt x hi) = 1#1) : Re x := by
  subst hl hh
  refine Re.of_ne (fun e => ?_) (fun e => ?_) <;> subst e <;> simp [Ideal.cmp, IntOp.andi] at h

variable (A : Args)

/-- The precondition over the arguments. -/
def Pre : Prop :=
  (fn (F := Ideal) A.df A.dy A.x A.mix A.mod A.gm A.gf A.wg A.wu A.wd).1 = (fun _ => 1#1)
    ∧ (fn (F := Ideal) A.df A.dy A.x A.mix A.mod A.gm A.gf A.wg A.wu A.wd).2.1 = (fun _ => 1#1)
    ∧ (fn (F := Ideal) A.df A.dy A.x A.mix A.mod A.gm A.gf A.wg A.wu A.wd).2.2.1 = (fun _ => 1#1)
    ∧ (fn (F := Ideal) A.df A.dy A.x A.mix A.mod A.gm A.gf A.wg A.wu A.wd).2.2.2.1 = (fun _ => 1#1)
    ∧ (fn (F := Ideal) A.df A.dy A.x A.mix A.mod A.gm A.gf A.wg A.wu A.wd).2.2.2.2.1 = (fun _ => 1#1)
    ∧ (fn (F := Ideal) A.df A.dy A.x A.mix A.mod A.gm A.gf A.wg A.wu A.wd).2.2.2.2.2 = (fun _ => 1#1)

variable {A}

theorem df_re (h : Pre A) (r : Fin 4096) (k : Fin 1024) : Re (A.df (ix2 r k)) :=
  re_of ninf16 inf16 (congrFun h.1 (ix2 r k))
theorem gf_re (h : Pre A) (k : Fin 1024) : Re (A.gf (ix2 0 k)) :=
  re_of ninf32 inf32 (congrFun h.2.2.2.1 (ix2 0 k))
theorem wu_re (h : Pre A) (k : Fin 1024) (f : Fin 2816) : Re (A.wu (ix2 k f)) :=
  re_of ninf32 inf32 (congrFun h.2.2.2.2.1 (ix2 k f))
theorem wd_re (h : Pre A) (k : Fin 1024) (f : Fin 2816) : Re (A.wd (ix2 f k)) :=
  re_of ninf32 inf32 (congrFun h.2.2.2.2.2 (ix2 f k))

theorem row3 (b : Fin 2) (k : Fin 1024) :
    shapeCast S2x1024 (extractStridedSlice S2x1x1024 ![0, 3, 0] A.mod facts.slices_S2x6x1024_S2x1x1024_0_3_0)
      facts.shapeCasts_S2x1x1024_S2x1024 (ix2 b k) = A.mod (ix3 b 3 k) := by
  pointwise []
theorem row4 (b : Fin 2) (k : Fin 1024) :
    shapeCast S2x1024 (extractStridedSlice S2x1x1024 ![0, 4, 0] A.mod facts.slices_S2x6x1024_S2x1x1024_0_4_0)
      facts.shapeCasts_S2x1x1024_S2x1024 (ix2 b k) = A.mod (ix3 b 4 k) := by
  pointwise []

theorem m3_re (h : Pre A) (r : Fin 4096) (k : Fin 1024) : Re (modR A 3 r k) := by
  have e : Re (shapeCast S2x1024 (extractStridedSlice S2x1x1024 ![0, 3, 0] A.mod facts.slices_S2x6x1024_S2x1x1024_0_3_0)
      facts.shapeCasts_S2x1x1024_S2x1024 (ix2 (sq r) k)) := re_of ninf32 inf32 (congrFun h.2.1 (ix2 (sq r) k))
  rw [row3] at e
  exact e
theorem m4_re (h : Pre A) (r : Fin 4096) (k : Fin 1024) : Re (modR A 4 r k) := by
  have e : Re (shapeCast S2x1024 (extractStridedSlice S2x1x1024 ![0, 4, 0] A.mod facts.slices_S2x6x1024_S2x1x1024_0_4_0)
      facts.shapeCasts_S2x1x1024_S2x1024 (ix2 (sq r) k)) := re_of ninf32 inf32 (congrFun h.2.2.1 (ix2 (sq r) k))
  rw [row4] at e
  exact e

/-- The inner cotangent is a number. -/
theorem g_re (h : Pre A) (r : Fin 4096) (f : Fin 2816) : Re (gR A r f) :=
  Re.sum fun k => (df_re h r k).mul (wd_re h k f)

/-- The feed-forward half's input is made of numbers. -/
theorem h_re (h : Pre A) (r : Fin 4096) (d : Fin 1024) : Re (hR A r d) :=
  (((nrm_re (x1R A r) d).mul (gf_re h d)).mul (Re.add ⟨1, c1_eq⟩ (m4_re h r d))).add (m3_re h r d)

/-- The gate's other factor is a number. -/
theorem b_re (h : Pre A) (r : Fin 4096) (f : Fin 2816) : Re (bR A r f) :=
  Re.sum fun k => (h_re h r k).mul (wu_re h k f)

end Cert.FfnPre

end
-- ==== Proof.FfnValue.lean ====
/-
  The feed-forward half backwards (`Ffn`): the arrays after the run are the reference's, where the inner cotangent and the
  gate's other factor are numbers.
-/
module

public import proofs.«01_k».proof.Proof.FfnSum
public import proofs.«01_k».proof.Proof.FfnRefBack
public import proofs.«01_k».proof.Proof.FfnPre

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Cert.FfnForm Cert.FfnFlat

variable (m : (ℓ : Loc nD τ sig) → Buf (Elt Ideal) ℓ)

/-- Where a block's element lies in its array. -/
theorem emb12 (t : Fin cfg0.N) (y : S1x512x704.Idx) : ((cfg0.win 12).blk t).view.emb y = ix3 (qtr t) (row t (y 1)) (y 2) := by
  blk_ext [idx t, row, qtr]
theorem emb13 (t : Fin cfg0.N) (y : S1x512x704.Idx) : ((cfg0.win 13).blk t).view.emb y = ix3 (qtr t) (row t (y 1)) (y 2) := by
  blk_ext [idx t, row, qtr]
theorem emb14 (t : Fin cfg0.N) (y : S512x1024.Idx) : ((cfg0.win 14).blk t).view.emb y = ix2 (row t (y 0)) (y 1) := by
  blk_ext [idx t, row, qtr]
theorem emb15 (t : Fin cfg0.N) (y : S512x1024.Idx) : ((cfg0.win 15).blk t).view.emb y = ix2 (row t (y 0)) (y 1) := by
  blk_ext [idx t, row, qtr]
theorem emb16 (t : Fin cfg0.N) (y : S1x8x1024.Idx) :
    ((cfg0.win 16).blk t).view.emb y = ix3 (⟨t.val / 16, by have := t.isLt; have : t.val < 32 := this; omega⟩ : Fin 2) (y 1) (y 2) := by
  blk_ext [idx t]
theorem emb17 (t : Fin cfg0.N) (y : S8x1024.Idx) : ((cfg0.win 17).blk t).view.emb y = ix2 (y 0) (y 1) := by
  blk_ext [idx t]

/-- The gate's cotangents after the run, -/
theorem whole12 (c : Dev nD) (h : Cert.FfnPre.Pre (args m c)) : (dats m 0 c).arrAt 12 cfg0.N
    = Cert.FfnRefIdeal.Read.val_main_v124 (F := Ideal) (args m c).df (args m c).x (args m c).mix (args m c).mod (args m c).gm (args m c).gf (args m c).wg (args m c).wu (args m c).wd := by
  refine (dats m 0 c).arrAt_eq_of_covers 12 _ (by decide +kernel) fun t hf y => ?_
  blk_simp
  rw [after0_12]
  refine Eq.trans ?_ (congrArg (Cert.FfnRefIdeal.Read.val_main_v124 (F := Ideal) (args m c).df (args m c).x (args m c).mix (args m c).mod (args m c).gm (args m c).gf (args m c).wg (args m c).wu (args m c).wd) (emb12 t y)).symm
  refine Eq.trans ?_ (Cert.FfnRef.v124 (args m c) (Cert.FfnPre.g_re h) (Cert.FfnPre.b_re h) _).symm
  exact (out12 m c t y).trans (ta_eq m c t (y 1) (y 2))

/-- the other factor's, -/
theorem whole13 (c : Dev nD) : (dats m 0 c).arrAt 13 cfg0.N
    = Cert.FfnRefIdeal.Read.val_main_v127 (F := Ideal) (args m c).df (args m c).x (args m c).mix (args m c).mod (args m c).gm (args m c).gf (args m c).wg (args m c).wd := by
  refine (dats m 0 c).arrAt_eq_of_covers 13 _ (by decide +kernel) fun t hf y => ?_
  blk_simp
  rw [after0_13]
  refine Eq.trans ?_ (congrArg (Cert.FfnRefIdeal.Read.val_main_v127 (F := Ideal) (args m c).df (args m c).x (args m c).mix (args m c).mod (args m c).gm (args m c).gf (args m c).wg (args m c).wd) (emb13 t y)).symm
  refine Eq.trans ?_ (Cert.FfnRef.v127 (args m c) _).symm
  exact (out13 m c t y).trans (tb_eq m c t (y 1) (y 2))

/-- the residual's, -/
theorem whole14 (c : Dev nD) (h : Cert.FfnPre.Pre (args m c)) : (dats m 0 c).arrAt 14 cfg0.N
    = Cert.FfnRefIdeal.Read.val_main_v128 (F := Ideal) (args m c).df (args m c).dy (args m c).x (args m c).mix (args m c).mod (args m c).gm (args m c).gf (args m c).wg (args m c).wu (args m c).wd := by
  refine (dats m 0 c).arrAt_eq_of_covers 14 _ (by decide +kernel) fun t hf y => ?_
  blk_simp
  rw [after0_14]
  refine Eq.trans ?_ (congrArg (Cert.FfnRefIdeal.Read.val_main_v128 (F := Ideal) (args m c).df (args m c).dy (args m c).x (args m c).mix (args m c).mod (args m c).gm (args m c).gf (args m c).wg (args m c).wu (args m c).wd) (emb14 t y)).symm
  refine Eq.trans ?_ (Cert.FfnRef.v128 (args m c) (Cert.FfnPre.g_re h) (Cert.FfnPre.b_re h) _).symm
  have h3 := (flush0_14 t).mp hf
  exact (out14 m c t h3 y).trans (congrFun (tx_eq m c t h3 (y 0)) (y 1))

/-- the mixer's, -/
theorem whole15 (c : Dev nD) (h : Cert.FfnPre.Pre (args m c)) : (dats m 0 c).arrAt 15 cfg0.N
    = Cert.FfnRefIdeal.Read.val_main_v130 (F := Ideal) (args m c).df (args m c).dy (args m c).x (args m c).mix (args m c).mod (args m c).gm (args m c).gf (args m c).wg (args m c).wu (args m c).wd := by
  refine (dats m 0 c).arrAt_eq_of_covers 15 _ (by decide +kernel) fun t hf y => ?_
  blk_simp
  rw [after0_15]
  refine Eq.trans ?_ (congrArg (Cert.FfnRefIdeal.Read.val_main_v130 (F := Ideal) (args m c).df (args m c).dy (args m c).x (args m c).mix (args m c).mod (args m c).gm (args m c).gf (args m c).wg (args m c).wu (args m c).wd) (emb15 t y)).symm
  refine Eq.trans ?_ (Cert.FfnRef.v130 (args m c) (Cert.FfnPre.g_re h) (Cert.FfnPre.b_re h) _).symm
  have h3 := (flush0_15 t).mp hf
  exact (out15 m c t h3 y).trans (congrFun (tm_eq m c t h3 (y 0)) (y 1))

/-- the sequences' blocks -/
theorem whole16 (c : Dev nD) (h : Cert.FfnPre.Pre (args m c)) : (dats m 0 c).arrAt 16 cfg0.N
    = Cert.FfnRefIdeal.Read.val_main_v117 (F := Ideal) (args m c).df (args m c).dy (args m c).x (args m c).mix (args m c).mod (args m c).gm (args m c).gf (args m c).wg (args m c).wu (args m c).wd := by
  refine (dats m 0 c).arrAt_eq_of_covers 16 _ (by decide +kernel) fun t hf y => ?_
  blk_simp
  rw [after0_16]
  refine Eq.trans ?_ (congrArg (Cert.FfnRefIdeal.Read.val_main_v117 (F := Ideal) (args m c).df (args m c).dy (args m c).x (args m c).mix (args m c).mod (args m c).gm (args m c).gf (args m c).wg (args m c).wu (args m c).wd) (emb16 t y)).symm
  refine Eq.trans ?_ (Cert.FfnRef.v117 (args m c) (Cert.FfnPre.g_re h) (Cert.FfnPre.b_re h) _).symm
  have h3 := (flush0_16 t).mp hf
  have ht : t.val < 32 := t.isLt
  have hn : t.val / 4 < 8 := by omega
  have e : t = lastq (t.val / 4) hn := Fin.ext (by show t.val = 4 * (t.val / 4) + 3; omega)
  have k : (outsAt0 m c t.val t.isLt).2.2.2.2.1 y = bAt m c (t.val / 4) hn y := by
    unfold bAt
    exact congrArg (fun p : Fin cfg0.N => (outsAt0 m c p.val p.isLt).2.2.2.2.1 y) e
  refine k.trans ((b_sum m c ⟨t.val / 4, hn⟩ (by show t.val / 4 % 4 = 3; omega) y).trans ?_)
  refine Finset.sum_congr rfl fun s _ => congrArg (fun r : Fin 4096 => bRow (args m c) r (y 1) (y 2)) (Fin.ext ?_)
  show 2048 * (t.val / 4 / 4) + s.val = 2048 * (t.val / 16) + s.val
  omega

/-- and the gains' block: the reference's. -/
theorem whole17 (c : Dev nD) (h : Cert.FfnPre.Pre (args m c)) : (dats m 0 c).arrAt 17 cfg0.N
    = Cert.FfnRefIdeal.Read.val_main_v121 (F := Ideal) (args m c).df (args m c).dy (args m c).x (args m c).mix (args m c).mod (args m c).gm (args m c).gf (args m c).wg (args m c).wu (args m c).wd := by
  refine (dats m 0 c).arrAt_eq_of_covers 17 _ (by decide +kernel) fun t hf y => ?_
  blk_simp
  rw [after0_17]
  refine Eq.trans ?_ (congrArg (Cert.FfnRefIdeal.Read.val_main_v121 (F := Ideal) (args m c).df (args m c).dy (args m c).x (args m c).mix (args m c).mod (args m c).gm (args m c).gf (args m c).wg (args m c).wu (args m c).wd) (emb17 t y)).symm
  refine Eq.trans ?_ (Cert.FfnRef.v121 (args m c) (Cert.FfnPre.g_re h) (Cert.FfnPre.b_re h) _).symm
  have h3 := (flush0_17 t).mp hf
  have ht : t.val < 32 := t.isLt
  have hn : t.val / 4 < 8 := by omega
  have e : t = lastq (t.val / 4) hn := Fin.ext (by show t.val = 4 * (t.val / 4) + 3; omega)
  have k : (outsAt0 m c t.val t.isLt).2.2.2.2.2.1 y = gAt m c (t.val / 4) hn y := by
    unfold gAt
    exact congrArg (fun p : Fin cfg0.N => (outsAt0 m c p.val p.isLt).2.2.2.2.2.1 y) e
  refine k.trans ((g_sum m c ⟨t.val / 4, hn⟩ (by show t.val / 4 % 8 = 7; omega) y).trans ?_)
  rfl

/-- The reference's arguments. -/
abbrev rargs (m' : (ℓ : Loc Cert.FfnRefIdeal.nD Cert.FfnRefIdeal.τ Cert.FfnRefIdeal.sig) → Buf (Elt Ideal) ℓ) (c : Dev nD) : Args where
  df := m' ((c.tc : Thread Cert.FfnRefIdeal.nD Cert.FfnRefIdeal.τ).loc Cert.FfnRefIdeal.main_arg0)
  dy := m' ((c.tc : Thread Cert.FfnRefIdeal.nD Cert.FfnRefIdeal.τ).loc Cert.FfnRefIdeal.main_arg1)
  x := m' ((c.tc : Thread Cert.FfnRefIdeal.nD Cert.FfnRefIdeal.τ).loc Cert.FfnRefIdeal.main_arg2)
  mix := m' ((c.tc : Thread Cert.FfnRefIdeal.nD Cert.FfnRefIdeal.τ).loc Cert.FfnRefIdeal.main_arg3)
  mod := m' ((c.tc : Thread Cert.FfnRefIdeal.nD Cert.FfnRefIdeal.τ).loc Cert.FfnRefIdeal.main_arg4)
  gm := m' ((c.tc : Thread Cert.FfnRefIdeal.nD Cert.FfnRefIdeal.τ).loc Cert.FfnRefIdeal.main_arg5)
  gf := m' ((c.tc : Thread Cert.FfnRefIdeal.nD Cert.FfnRefIdeal.τ).loc Cert.FfnRefIdeal.main_arg6)
  wg := m' ((c.tc : Thread Cert.FfnRefIdeal.nD Cert.FfnRefIdeal.τ).loc Cert.FfnRefIdeal.main_arg7)
  wu := m' ((c.tc : Thread Cert.FfnRefIdeal.nD Cert.FfnRefIdeal.τ).loc Cert.FfnRefIdeal.main_arg8)
  wd := m' ((c.tc : Thread Cert.FfnRefIdeal.nD Cert.FfnRefIdeal.τ).loc Cert.FfnRefIdeal.main_arg9)

/-- Equal arguments, equal results. -/
theorem same12 {A B : Args} (h : A = B) : Cert.FfnRefIdeal.Read.val_main_v124 (F := Ideal) A.df A.x A.mix A.mod A.gm A.gf A.wg A.wu A.wd
    = Cert.FfnRefIdeal.Read.val_main_v124 (F := Ideal) B.df B.x B.mix B.mod B.gm B.gf B.wg B.wu B.wd := by
  rw [h]

theorem same13 {A B : Args} (h : A = B) : Cert.FfnRefIdeal.Read.val_main_v127 (F := Ideal) A.df A.x A.mix A.mod A.gm A.gf A.wg A.wd
    = Cert.FfnRefIdeal.Read.val_main_v127 (F := Ideal) B.df B.x B.mix B.mod B.gm B.gf B.wg B.wd := by
  rw [h]

theorem same14 {A B : Args} (h : A = B) : Cert.FfnRefIdeal.Read.val_main_v128 (F := Ideal) A.df A.dy A.x A.mix A.mod A.gm A.gf A.wg A.wu A.wd
    = Cert.FfnRefIdeal.Read.val_main_v128 (F := Ideal) B.df B.dy B.x B.mix B.mod B.gm B.gf B.wg B.wu B.wd := by
  rw [h]

theorem same15 {A B : Args} (h : A = B) : Cert.FfnRefIdeal.Read.val_main_v130 (F := Ideal) A.df A.dy A.x A.mix A.mod A.gm A.gf A.wg A.wu A.wd
    = Cert.FfnRefIdeal.Read.val_main_v130 (F := Ideal) B.df B.dy B.x B.mix B.mod B.gm B.gf B.wg B.wu B.wd := by
  rw [h]

theorem same16 {A B : Args} (h : A = B) : Cert.FfnRefIdeal.Read.val_main_v117 (F := Ideal) A.df A.dy A.x A.mix A.mod A.gm A.gf A.wg A.wu A.wd
    = Cert.FfnRefIdeal.Read.val_main_v117 (F := Ideal) B.df B.dy B.x B.mix B.mod B.gm B.gf B.wg B.wu B.wd := by
  rw [h]

theorem same17 {A B : Args} (h : A = B) : Cert.FfnRefIdeal.Read.val_main_v121 (F := Ideal) A.df A.dy A.x A.mix A.mod A.gm A.gf A.wg A.wu A.wd
    = Cert.FfnRefIdeal.Read.val_main_v121 (F := Ideal) B.df B.dy B.x B.mix B.mod B.gm B.gf B.wg B.wu B.wd := by
  rw [h]

end Cert.FfnIdeal.Value

namespace Cert.Proof

open Idealize.ShloMosaic Idealize.ShloMosaic.TcCoe Idealize.SL.Sem
open Cert.FfnIdeal.Value (args rargs)

set_option maxHeartbeats 800000 in
/-- The claim on the feed-forward half backwards. -/
theorem ffn : Cert.algebraic_FfnIdeal_FfnRefIdeal_pre_ffn_finite := by
  pair_intro
  · run_from Cert.FfnIdeal.Value.run_blocks m g
  · have hp : ∀ c, Cert.FfnPre.Pre (args m c) := fun c => hpre c
    have he : ∀ c, rargs m' c = args m c := fun c => by
      obtain ⟨h0, h1, h2, h3, h4, h5, h6, h7, h8, h9⟩ := hagree c
      show Cert.FfnFlat.Args.mk _ _ _ _ _ _ _ _ _ _ = Cert.FfnFlat.Args.mk _ _ _ _ _ _ _ _ _ _
      rw [h0, h1, h2, h3, h4, h5, h6, h7, h8, h9]
    run_from Cert.FfnRefIdeal.Value.run m' g'
    · refine (Cert.FfnRefIdeal.Read.val_main_v124_eq (F := Ideal) (StableHlo.launchContents m' c)).trans ?_
      refine (Cert.FfnIdeal.Value.same12 (he c)).trans ?_
      exact (Cert.FfnIdeal.Value.whole12 m c (hp c)).symm
    · refine (Cert.FfnRefIdeal.Read.val_main_v127_eq (F := Ideal) (StableHlo.launchContents m' c)).trans ?_
      refine (Cert.FfnIdeal.Value.same13 (he c)).trans ?_
      exact (Cert.FfnIdeal.Value.whole13 m c).symm
    · refine (Cert.FfnRefIdeal.Read.val_main_v128_eq (F := Ideal) (StableHlo.launchContents m' c)).trans ?_
      refine (Cert.FfnIdeal.Value.same14 (he c)).trans ?_
      exact (Cert.FfnIdeal.Value.whole14 m c (hp c)).symm
    · refine (Cert.FfnRefIdeal.Read.val_main_v130_eq (F := Ideal) (StableHlo.launchContents m' c)).trans ?_
      refine (Cert.FfnIdeal.Value.same15 (he c)).trans ?_
      exact (Cert.FfnIdeal.Value.whole15 m c (hp c)).symm
    · refine (Cert.FfnRefIdeal.Read.val_main_v117_eq (F := Ideal) (StableHlo.launchContents m' c)).trans ?_
      refine (Cert.FfnIdeal.Value.same16 (he c)).trans ?_
      exact (Cert.FfnIdeal.Value.whole16 m c (hp c)).symm
    · refine (Cert.FfnRefIdeal.Read.val_main_v121_eq (F := Ideal) (StableHlo.launchContents m' c)).trans ?_
      refine (Cert.FfnIdeal.Value.same17 (he c)).trans ?_
      exact (Cert.FfnIdeal.Value.whole17 m c (hp c)).symm

end Cert.Proof

end
-- ==== Proof.FwdFlat.lean ====
/-
  The feed-forward half with the loss over all tokens, as the claim states it: what the kernel's tiles and the reference's
  arrays both come to.
-/
module

public import proofs.«01_k».proof.Proof.FfnForm

@[expose] public section

noncomputable section

namespace Cert.FwdFlat

open Idealize.ShloMosaic Cert.FfnForm

/-- One over the row's length, as the kernel writes it, -/
abbrev ci : EReal := Ideal.ofBits .f32 0x3A800000#32
/-- and half of it. -/
abbrev cl : EReal := Ideal.ofBits .f32 0x3A000000#32

/-- A row's error: the block's output less the target. -/
def erOf (f x gate g t : Row) (d : Fin 1024) : EReal := (x d + gate d * (nrm f d * g d)) - t d
/-- The cotangent of the block's output, -/
def dyOf (f x gate g t : Row) (d : Fin 1024) : EReal := erOf f x gate g t d * ci
/-- and of the feed-forward half's. -/
def dfOf (f x gate g t : Row) (d : Fin 1024) : EReal :=
  nbwd (fun k => (dyOf f x gate g t k * gate k) * g k) (nrm f) (rinv f) d
/-- The inner activation, the gate's argument and the other factor given. -/
def finOf (a b : EReal) : EReal := (a * sigm a) * b

/-- The arrays that the call takes. -/
structure Args where
  /-- the input's rows, -/
  h : FVec Ideal ⟨2, ![4096, 1024]⟩ .bf16
  /-- the target, -/
  tg : FVec Ideal ⟨2, ![4096, 1024]⟩ .f32
  /-- the residual, -/
  x : FVec Ideal ⟨2, ![4096, 1024]⟩ .f32
  /-- the modulation, -/
  mod : FVec Ideal ⟨3, ![2, 6, 1024]⟩ .f32
  /-- the norm's gains -/
  gp : FVec Ideal ⟨2, ![1, 1024]⟩ .f32
  /-- and the three weights. -/
  wg : FVec Ideal ⟨2, ![1024, 2816]⟩ .f32
  wu : FVec Ideal ⟨2, ![1024, 2816]⟩ .f32
  wd : FVec Ideal ⟨2, ![2816, 1024]⟩ .f32

variable (A : Args)

/-- A token's sequence. -/
abbrev sq (r : Fin 4096) : Fin 2 := ⟨r.val / 2048, by omega⟩
/-- A place in a sequence, as a token. -/
abbrev tok (b : Fin 2) (s : Fin 2048) : Fin 4096 := ⟨2048 * b.val + s.val, by omega⟩
/-- A quarter's hidden column. -/
abbrev hid (k : Fin 4) (f : Fin 704) : Fin 2816 := ⟨704 * k.val + f.val, by omega⟩

/-- The residual's row, -/
def xR (r : Fin 4096) : Row := fun k => A.x (ix2 r k)
/-- the target's, -/
def tR (r : Fin 4096) : Row := fun k => A.tg (ix2 r k)
/-- the gate's, -/
def gateR (r : Fin 4096) : Row := fun k => A.mod (ix3 (sq r) 5 k)
/-- and the gains'. -/
def gpR : Row := fun k => A.gp (ix2 0 k)

/-- The gate's argument, -/
def aR (r : Fin 4096) (f : Fin 2816) : EReal := ∑ k : Fin 1024, A.h (ix2 r k) * A.wg (ix2 k f)
/-- the other factor, -/
def bR (r : Fin 4096) (f : Fin 2816) : EReal := ∑ k : Fin 1024, A.h (ix2 r k) * A.wu (ix2 k f)
/-- the inner activation, -/
def finR (r : Fin 4096) (f : Fin 2816) : EReal := finOf (aR A r f) (bR A r f)
/-- and what the down projection makes of it. -/
def fR (r : Fin 4096) : Row := fun d => ∑ f : Fin 2816, finR A r f * A.wd (ix2 f d)

/-- The token's error, -/
def erR (r : Fin 4096) : Row := erOf (fR A r) (xR A r) (gateR A r) (gpR A) (tR A r)
/-- the output's cotangent -/
def dyR (r : Fin 4096) : Row := dyOf (fR A r) (xR A r) (gateR A r) (gpR A) (tR A r)
/-- and the feed-forward half's. -/
def dfR (r : Fin 4096) : Row := dfOf (fR A r) (xR A r) (gateR A r) (gpR A) (tR A r)

/-- What a token adds to the loss, -/
def lRow (r : Fin 4096) : EReal := cl * ∑ d : Fin 1024, erR A r d * erR A r d
/-- to the rows of its sequence's block -/
def bRow (r : Fin 4096) (j : ℕ) : Row := fun d => if j = 0 then dyR A r d * (nrm (fR A r) d * gpR A d) else 0
/-- and to those of the gains' block. -/
def gRow (r : Fin 4096) (j : ℕ) : Row := fun d => if j = 0 then (dyR A r d * gateR A r d) * nrm (fR A r) d else 0

end Cert.FwdFlat

end
-- ==== Proof.FwdTile.lean ====
/-
  The feed-forward half with the loss (`Fwd`), the tiles: at every grid point one quarter of the hidden columns of 512 tokens.
-/
module

public import proofs.«01_k».proof.Defs
public import proofs.«01_k».proof.Proof.Gen.FwdIdeal.Value
public import proofs.«01_k».proof.Proof.Covered
public import proofs.«01_k».proof.Proof.FwdFlat
public import Idealize.ShloMosaic.Lib.Pipeline.ReadBack
public import Idealize.ShloMosaic.Lib.Pipeline.ValueKit

@[expose] public section

set_option maxRecDepth 16384

noncomputable section

namespace Cert.FwdIdeal.Value

open Cert.FwdIdeal Cert.FwdIdeal.Gen Idealize.ShloMosaic Idealize.ShloMosaic.TcCoe Idealize.SL.Sem
open Idealize.ShloMosaic.Pipeline (Dat)
open Cert.FfnForm Cert.FwdFlat

variable (m : (ℓ : Loc nD τ sig) → Buf (Elt Ideal) ℓ)

/-- The five kinds of grid point. -/
theorem kinds (t : Fin cfg0.N) : (t.val % 4 = 0 ∧ ¬t.val % 4 = 3) ∨ (¬t.val % 4 = 0 ∧ ¬t.val % 4 = 3)
    ∨ (¬t.val % 4 = 0 ∧ t.val % 4 = 3 ∧ t.val < 4 ∧ (t.val % 16 = 0 ∨ t.val % 16 = 1 ∨ t.val % 16 = 2 ∨ t.val % 16 = 3))
    ∨ (¬t.val % 4 = 0 ∧ t.val % 4 = 3 ∧ ¬t.val < 4 ∧ ¬(t.val % 16 = 0 ∨ t.val % 16 = 1 ∨ t.val % 16 = 2 ∨ t.val % 16 = 3))
    ∨ (¬t.val % 4 = 0 ∧ t.val % 4 = 3 ∧ ¬t.val < 4 ∧ (t.val % 16 = 0 ∨ t.val % 16 = 1 ∨ t.val % 16 = 2 ∨ t.val % 16 = 3)) := by
  omega

/-- A row against a row of a tile's weights. -/
def td (X0 : FVec Ideal S512x1024 .bf16) (X1 : FVec Ideal S1x704x1024 .bf16) (r : Fin 512) (f : Fin 704) : EReal :=
  ∑ k : Fin 1024, X0 (ix2 r k) * X1 (ix3 0 f k)

/-- The gate's argument of a tile, -/
def ta (c : Dev nD) (t : Fin cfg0.N) (r : Fin 512) (f : Fin 704) : EReal := td (iblk m c 0 t) (iblk m c 1 t) r f

/-- the other factor, -/
def tb (c : Dev nD) (t : Fin cfg0.N) (r : Fin 512) (f : Fin 704) : EReal := td (iblk m c 0 t) (iblk m c 2 t) r f

/-- the inner activation, -/
def tc (c : Dev nD) (t : Fin cfg0.N) (r : Fin 512) (f : Fin 704) : EReal := finOf (ta m c t r f) (tb m c t r f)

/-- and what the point adds to the down projection. -/
def tf (c : Dev nD) (t : Fin cfg0.N) (r : Fin 512) (d : Fin 1024) : EReal := ∑ f : Fin 704, tc m c t r f * iblk m c 3 t (ix3 0 f d)

/-- The gate's argument, at every point. -/
theorem out8 (c : Dev nD) (t : Fin cfg0.N) (y : S1x512x704.Idx) : (outsAt0 m c t.val t.isLt).1 y = ta m c t (y 1) (y 2) := by
  rcases kinds t with ⟨h0, h1⟩ | ⟨h0, h1⟩ | ⟨h0, h1, h2, h3⟩ | ⟨h0, h1, h2, h3⟩ | ⟨h0, h1, h2, h3⟩
  · rw [outsAt0_A m c t h0 h1]
    frame_open
    simp (disch := decide) only [↓ View.readCov_skip, ↓ View.readCov_cons_toLoadRect, ↓ View.readCov_fill, Cert.Covered.readCov_whole]
    frame_out
    canon_tiles x h
    all_goals (open_payloads; pointwise [ta, td])
    all_goals blk_point []
  · rw [outsAt0_B m c t h0 h1]
    frame_open
    simp (disch := decide) only [↓ View.readCov_skip, ↓ View.readCov_cons_toLoadRect, ↓ View.readCov_fill, Cert.Covered.readCov_whole]
    frame_out
    canon_tiles x h
    all_goals (open_payloads; pointwise [ta, td])
    all_goals blk_point []
  · rw [outsAt0_C m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [ta, td])
    all_goals blk_point []
  · rw [outsAt0_D m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [ta, td])
    all_goals blk_point []
  · rw [outsAt0_E m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [ta, td])
    all_goals blk_point []

/-- The other factor, at every point. -/
theorem out9 (c : Dev nD) (t : Fin cfg0.N) (y : S1x512x704.Idx) : (outsAt0 m c t.val t.isLt).2.1 y = tb m c t (y 1) (y 2) := by
  rcases kinds t with ⟨h0, h1⟩ | ⟨h0, h1⟩ | ⟨h0, h1, h2, h3⟩ | ⟨h0, h1, h2, h3⟩ | ⟨h0, h1, h2, h3⟩
  · rw [outsAt0_A m c t h0 h1]
    frame_open
    simp (disch := decide) only [↓ View.readCov_skip, ↓ View.readCov_cons_toLoadRect, ↓ View.readCov_fill, Cert.Covered.readCov_whole]
    frame_out
    canon_tiles x h
    all_goals (open_payloads; pointwise [tb, td])
    all_goals blk_point []
  · rw [outsAt0_B m c t h0 h1]
    frame_open
    simp (disch := decide) only [↓ View.readCov_skip, ↓ View.readCov_cons_toLoadRect, ↓ View.readCov_fill, Cert.Covered.readCov_whole]
    frame_out
    canon_tiles x h
    all_goals (open_payloads; pointwise [tb, td])
    all_goals blk_point []
  · rw [outsAt0_C m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [tb, td])
    all_goals blk_point []
  · rw [outsAt0_D m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [tb, td])
    all_goals blk_point []
  · rw [outsAt0_E m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [tb, td])
    all_goals blk_point []

/-- The inner activation, at every point. -/
theorem out10 (c : Dev nD) (t : Fin cfg0.N) (y : S1x512x704.Idx) : (outsAt0 m c t.val t.isLt).2.2.1 y = tc m c t (y 1) (y 2) := by
  rcases kinds t with ⟨h0, h1⟩ | ⟨h0, h1⟩ | ⟨h0, h1, h2, h3⟩ | ⟨h0, h1, h2, h3⟩ | ⟨h0, h1, h2, h3⟩
  · rw [outsAt0_A m c t h0 h1]
    frame_open
    simp (disch := decide) only [↓ View.readCov_skip, ↓ View.readCov_cons_toLoadRect, ↓ View.readCov_fill, Cert.Covered.readCov_whole]
    frame_out
    canon_tiles x h
    all_goals (open_payloads; pointwise [tc, finOf, ta, tb, td, sigm])
    all_goals blk_point []
  · rw [outsAt0_B m c t h0 h1]
    frame_open
    simp (disch := decide) only [↓ View.readCov_skip, ↓ View.readCov_cons_toLoadRect, ↓ View.readCov_fill, Cert.Covered.readCov_whole]
    frame_out
    canon_tiles x h
    all_goals (open_payloads; pointwise [tc, finOf, ta, tb, td, sigm])
    all_goals blk_point []
  · rw [outsAt0_C m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [tc, finOf, ta, tb, td, sigm])
    all_goals blk_point []
  · rw [outsAt0_D m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [tc, finOf, ta, tb, td, sigm])
    all_goals blk_point []
  · rw [outsAt0_E m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [tc, finOf, ta, tb, td, sigm])
    all_goals blk_point []

/-- The running sum starts with the first quarter, -/
theorem accA (c : Dev nD) (t : Fin cfg0.N) (h0 : t.val % 4 = 0) (y : S512x1024.Idx) : (outsAt0 m c t.val t.isLt).2.2.2.2.2.2.2.2 y
    = 0 + tf m c t (y 0) (y 1) := by
  · rw [outsAt0_A m c t h0 (by omega)]
    frame_open
    simp (disch := decide) only [↓ View.readCov_skip, ↓ View.readCov_cons_toLoadRect, ↓ View.readCov_fill, Cert.Covered.readCov_whole]
    frame_out
    refine (Cert.Covered.canon_take 2 _ y (by
      simp only [List.take_succ_cons, List.take_zero]; exact View.cover_of_tiled_head _ _ _ rfl y)).trans ?_
    simp only [List.take_succ_cons, List.take_zero]
    canon_tiles x h
    all_goals (open_payloads; pointwise [tf, tc, finOf, ta, tb, td, sigm])
    all_goals blk_point []

/-- and every further quarter is added. -/
theorem accB (c : Dev nD) (t : Fin cfg0.N) (h0 : ¬t.val % 4 = 0) (y : S512x1024.Idx) : (outsAt0 m c t.val t.isLt).2.2.2.2.2.2.2.2 y
    = (outsAt0 m c (t.val - 1) (Nat.lt_of_le_of_lt (Nat.sub_le _ _) t.isLt)).2.2.2.2.2.2.2.2 y + tf m c t (y 0) (y 1) := by
  rcases kinds t with ⟨h0', h1⟩ | ⟨h0, h1⟩ | ⟨h0, h1, h2, h3⟩ | ⟨h0, h1, h2, h3⟩ | ⟨h0, h1, h2, h3⟩
  · exact absurd h0' h0
  · rw [outsAt0_B m c t h0 h1]
    frame_open
    simp (disch := decide) only [↓ View.readCov_skip, ↓ View.readCov_cons_toLoadRect, ↓ View.readCov_fill, Cert.Covered.readCov_whole]
    frame_out
    canon_tiles x h
    all_goals (open_payloads; pointwise [tf, tc, finOf, ta, tb, td, sigm])
    all_goals blk_point []
    all_goals (refine (congrFun (Memref.IsWhole.read_unread _ _) _).trans ?_; blk_point [])
  · rw [outsAt0_C m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [tf, tc, finOf, ta, tb, td, sigm])
    all_goals blk_point []
    all_goals (refine (congrFun (Memref.IsWhole.read_unread _ _) _).trans ?_; blk_point [])
  · rw [outsAt0_D m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [tf, tc, finOf, ta, tb, td, sigm])
    all_goals blk_point []
    all_goals (refine (congrFun (Memref.IsWhole.read_unread _ _) _).trans ?_; blk_point [])
  · rw [outsAt0_E m c t h0 h1 h2 h3]
    frame_open
    simp (disch := decide) only [↓ View.readCov_skip, ↓ View.readCov_cons_toLoadRect, ↓ View.readCov_fill, Cert.Covered.readCov_whole]
    frame_out
    canon_tiles x h
    all_goals (open_payloads; pointwise [tf, tc, finOf, ta, tb, td, sigm])
    all_goals blk_point []
    all_goals (refine (congrFun (Memref.IsWhole.read_unread _ _) _).trans ?_; blk_point [])

end Cert.FwdIdeal.Value

end
-- ==== Proof.FwdTok.lean ====
/-
  The feed-forward half with the loss (`Fwd`), the rows: at the last quarter of every 512 tokens.
-/
module

public import proofs.«01_k».proof.Defs
public import proofs.«01_k».proof.Proof.FwdTile
public import Idealize.ShloMosaic.Lib.Pipeline.ReadBack
public import Idealize.ShloMosaic.Lib.Pipeline.ValueKit

@[expose] public section

set_option maxRecDepth 16384

noncomputable section

namespace Cert.FwdIdeal.Value

open Cert.FwdIdeal Cert.FwdIdeal.Gen Idealize.ShloMosaic Idealize.ShloMosaic.TcCoe Idealize.SL.Sem
open Idealize.ShloMosaic.Pipeline (Dat)
open Cert.FfnForm Cert.FwdFlat

variable (m : (ℓ : Loc nD τ sig) → Buf (Elt Ideal) ℓ)

/-- The error of a row of the tile, from the down projection `H`, -/
def ter (c : Dev nD) (t : Fin cfg0.N) (H : FVec Ideal S512x1024 .f32) (r : Fin 512) : Row :=
  erOf (fun k => H (ix2 r k)) (fun k => iblk m c 4 t (ix2 r k)) (fun k => iblk m c 6 t (ix3 0 5 k))
    (fun k => iblk m c 7 t (ix2 0 k)) (fun k => iblk m c 5 t (ix2 r k))

/-- the output's cotangent -/
def tdy (c : Dev nD) (t : Fin cfg0.N) (H : FVec Ideal S512x1024 .f32) (r : Fin 512) : Row :=
  dyOf (fun k => H (ix2 r k)) (fun k => iblk m c 4 t (ix2 r k)) (fun k => iblk m c 6 t (ix3 0 5 k))
    (fun k => iblk m c 7 t (ix2 0 k)) (fun k => iblk m c 5 t (ix2 r k))

/-- and the feed-forward half's. -/
def tdf (c : Dev nD) (t : Fin cfg0.N) (H : FVec Ideal S512x1024 .f32) (r : Fin 512) : Row :=
  dfOf (fun k => H (ix2 r k)) (fun k => iblk m c 4 t (ix2 r k)) (fun k => iblk m c 6 t (ix3 0 5 k))
    (fun k => iblk m c 7 t (ix2 0 k)) (fun k => iblk m c 5 t (ix2 r k))

/-- The output's cotangent at the last quarter. -/
theorem out11 (c : Dev nD) (t : Fin cfg0.N) (h1 : t.val % 4 = 3) (y : S512x1024.Idx) : (outsAt0 m c t.val t.isLt).2.2.2.1 y
    = tdy m c t (outsAt0 m c t.val t.isLt).2.2.2.2.2.2.2.2 (y 0) (y 1) := by
  obtain ⟨H, hH⟩ : ∃ H, H = (outsAt0 m c t.val t.isLt).2.2.2.2.2.2.2.2 := ⟨_, rfl⟩
  rw [← hH]
  rcases kinds t with ⟨h0, h1⟩ | ⟨h0, h1⟩ | ⟨h0, h1, h2, h3⟩ | ⟨h0, h1, h2, h3⟩ | ⟨h0, h1, h2, h3⟩
  · contradiction
  · contradiction
  · rw [outsAt0_C m c t h0 h1 h2 h3] at hH ⊢
    frame_open at hH ⊢
    simp (disch := decide) only [↓ View.readCov_skip, ↓ View.readCov_cons_toLoadRect, ↓ View.readCov_fill, Cert.Covered.readCov_whole, View.read_writes_junk_eq_canon] at hH ⊢
    rw [← hH]
    clear hH
    frame_out
    open_payloads
    pointwise [tdy, dyOf, erOf, nrm, rinv]
  · rw [outsAt0_D m c t h0 h1 h2 h3] at hH ⊢
    frame_open at hH ⊢
    simp (disch := decide) only [↓ View.readCov_skip, ↓ View.readCov_cons_toLoadRect, ↓ View.readCov_fill, Cert.Covered.readCov_whole, View.read_writes_junk_eq_canon] at hH ⊢
    rw [← hH]
    clear hH
    frame_out
    open_payloads
    pointwise [tdy, dyOf, erOf, nrm, rinv]
  · rw [outsAt0_E m c t h0 h1 h2 h3] at hH ⊢
    frame_open at hH ⊢
    simp (disch := decide) only [↓ View.readCov_skip, ↓ View.readCov_cons_toLoadRect, ↓ View.readCov_fill, Cert.Covered.readCov_whole, View.read_writes_junk_eq_canon] at hH ⊢
    rw [← hH]
    clear hH
    frame_out
    open_payloads
    pointwise [tdy, dyOf, erOf, nrm, rinv]

/-- The feed-forward half's at the last quarter. -/
theorem out12 (c : Dev nD) (t : Fin cfg0.N) (h1 : t.val % 4 = 3) (y : S512x1024.Idx) : (outsAt0 m c t.val t.isLt).2.2.2.2.1 y
    = tdf m c t (outsAt0 m c t.val t.isLt).2.2.2.2.2.2.2.2 (y 0) (y 1) := by
  obtain ⟨H, hH⟩ : ∃ H, H = (outsAt0 m c t.val t.isLt).2.2.2.2.2.2.2.2 := ⟨_, rfl⟩
  rw [← hH]
  rcases kinds t with ⟨h0, h1⟩ | ⟨h0, h1⟩ | ⟨h0, h1, h2, h3⟩ | ⟨h0, h1, h2, h3⟩ | ⟨h0, h1, h2, h3⟩
  · contradiction
  · contradiction
  · rw [outsAt0_C m c t h0 h1 h2 h3] at hH ⊢
    frame_open at hH ⊢
    simp (disch := decide) only [↓ View.readCov_skip, ↓ View.readCov_cons_toLoadRect, ↓ View.readCov_fill, Cert.Covered.readCov_whole, View.read_writes_junk_eq_canon] at hH ⊢
    rw [← hH]
    clear hH
    frame_out
    open_payloads
    pointwise [tdf, dfOf, dyOf, erOf, nbwd, nrm, rinv]
  · rw [outsAt0_D m c t h0 h1 h2 h3] at hH ⊢
    frame_open at hH ⊢
    simp (disch := decide) only [↓ View.readCov_skip, ↓ View.readCov_cons_toLoadRect, ↓ View.readCov_fill, Cert.Covered.readCov_whole, View.read_writes_junk_eq_canon] at hH ⊢
    rw [← hH]
    clear hH
    frame_out
    open_payloads
    pointwise [tdf, dfOf, dyOf, erOf, nbwd, nrm, rinv]
  · rw [outsAt0_E m c t h0 h1 h2 h3] at hH ⊢
    frame_open at hH ⊢
    simp (disch := decide) only [↓ View.readCov_skip, ↓ View.readCov_cons_toLoadRect, ↓ View.readCov_fill, Cert.Covered.readCov_whole, View.read_writes_junk_eq_canon] at hH ⊢
    rw [← hH]
    clear hH
    frame_out
    open_payloads
    pointwise [tdf, dfOf, dyOf, erOf, nbwd, nrm, rinv]

end Cert.FwdIdeal.Value

end
-- ==== Proof.FwdAcc.lean ====
/-
  The feed-forward half with the loss (`Fwd`), the sums over the tokens.
-/
module

public import proofs.«01_k».proof.Defs
public import proofs.«01_k».proof.Proof.FwdTok
public import Idealize.ShloMosaic.Lib.Pipeline.ReadBack
public import Idealize.ShloMosaic.Lib.Pipeline.ValueKit

@[expose] public section

set_option maxRecDepth 16384

noncomputable section

namespace Cert.FwdIdeal.Value

open Cert.FwdIdeal Cert.FwdIdeal.Gen Idealize.ShloMosaic Idealize.ShloMosaic.TcCoe Idealize.SL.Sem
open Idealize.ShloMosaic.Pipeline (Dat)
open Cert.FfnForm Cert.FwdFlat

variable (m : (ℓ : Loc nD τ sig) → Buf (Elt Ideal) ℓ)

/-- What a tile adds to the loss. -/
def al (c : Dev nD) (t : Fin cfg0.N) (H : FVec Ideal S512x1024 .f32) : EReal :=
  cl * ∑ r : Fin 512, ∑ k : Fin 1024, ter m c t H r k * ter m c t H r k

/-- What a tile adds to the gradient of one sequence's gate. -/
def ab (c : Dev nD) (t : Fin cfg0.N) (H : FVec Ideal S512x1024 .f32) (y : S1x8x1024.Idx) : EReal :=
  if (y 1 : ℕ) = 0 then ∑ r : Fin 512, tdy m c t H r (y 2) * (nrm (fun k => H (ix2 r k)) (y 2) * iblk m c 7 t (ix2 0 (y 2))) else 0

theorem ab0 (c : Dev nD) (t : Fin cfg0.N) (H : FVec Ideal S512x1024 .f32) (y : S1x8x1024.Idx) (h : (y 1 : ℕ) = 0) : ab m c t H y
    = ∑ r : Fin 512, tdy m c t H r (y 2) * (nrm (fun k => H (ix2 r k)) (y 2) * iblk m c 7 t (ix2 0 (y 2))) := by
  unfold ab; rw [if_pos h]

theorem ab_ (c : Dev nD) (t : Fin cfg0.N) (H : FVec Ideal S512x1024 .f32) (y : S1x8x1024.Idx) (h0 : ¬(y 1 : ℕ) = 0) : ab m c t H y = 0 := by
  unfold ab; rw [if_neg h0]

/-- What a tile adds to the gradient of the norm's gains. -/
def ag (c : Dev nD) (t : Fin cfg0.N) (H : FVec Ideal S512x1024 .f32) (y : S8x1024.Idx) : EReal :=
  if (y 0 : ℕ) = 0 then ∑ r : Fin 512, (tdy m c t H r (y 1) * iblk m c 6 t (ix3 0 5 (y 1))) * nrm (fun k => H (ix2 r k)) (y 1) else 0

theorem ag0 (c : Dev nD) (t : Fin cfg0.N) (H : FVec Ideal S512x1024 .f32) (y : S8x1024.Idx) (h : (y 0 : ℕ) = 0) : ag m c t H y
    = ∑ r : Fin 512, (tdy m c t H r (y 1) * iblk m c 6 t (ix3 0 5 (y 1))) * nrm (fun k => H (ix2 r k)) (y 1) := by
  unfold ag; rw [if_pos h]

theorem ag_ (c : Dev nD) (t : Fin cfg0.N) (H : FVec Ideal S512x1024 .f32) (y : S8x1024.Idx) (h0 : ¬(y 0 : ℕ) = 0) : ag m c t H y = 0 := by
  unfold ag; rw [if_neg h0]

/-- A row's piece of a sequence's block lies in that row. -/
theorem piece_row {o : ℕ} {inb} (x : S1x1x1024.Idx) : (((Rect.unit (s := S1x8x1024) ![0, o, 0] ![1, 1, 1024] inb).emb x) 1 : ℕ) = o := by
  have hb : (x 1 : ℕ) < 1 := (x 1).isLt
  refine (ValueKit.rect_emb_unit_val _ _ _ _ _).trans ?_
  show o + (x 1 : ℕ) = o
  omega

/-- The piece holds its whole row. -/
theorem row_piece {o : ℕ} {inb} (y : S1x8x1024.Idx) (h : y ∉ (Rect.unit (s := S1x8x1024) ![0, o, 0] ![1, 1, 1024] inb).set) : ¬(y 1 : ℕ) = o := by
  intro ho
  refine h ?_
  have h0 : (y 0 : ℕ) < 1 := (y 0).isLt
  have h2 : (y 2 : ℕ) < 1024 := (y 2).isLt
  rw [Rect.mem_set_unit]
  intro a
  fin_cases a
  · show 0 ≤ (y 0 : ℕ) ∧ (y 0 : ℕ) < 0 + 1; omega
  · show o ≤ (y 1 : ℕ) ∧ (y 1 : ℕ) < o + 1; omega
  · show 0 ≤ (y 2 : ℕ) ∧ (y 2 : ℕ) < 0 + 1024; omega

/-- A row's piece lies in that row. -/
theorem piece_row' {o : ℕ} {inb} (x : S1x1024.Idx) : (((Rect.unit (s := S8x1024) ![o, 0] ![1, 1024] inb).emb x) 0 : ℕ) = o := by
  have hb : (x 0 : ℕ) < 1 := (x 0).isLt
  refine (ValueKit.rect_emb_unit_val _ _ _ _ _).trans ?_
  show o + (x 0 : ℕ) = o
  omega

/-- The piece holds its whole row. -/
theorem row_piece' {o : ℕ} {inb} (y : S8x1024.Idx) (h : y ∉ (Rect.unit (s := S8x1024) ![o, 0] ![1, 1024] inb).set) : ¬(y 0 : ℕ) = o := by
  intro ho
  refine h ?_
  have h1 : (y 1 : ℕ) < 1024 := (y 1).isLt
  rw [Rect.mem_set_unit]
  intro a
  fin_cases a
  · show o ≤ (y 0 : ℕ) ∧ (y 0 : ℕ) < o + 1; omega
  · show 0 ≤ (y 1 : ℕ) ∧ (y 1 : ℕ) < 0 + 1024; omega

/-- The first tile leaves its own part, over zeros. -/
theorem lossC (c : Dev nD) (t : Fin cfg0.N) (h0 : ¬t.val % 4 = 0) (h1 : t.val % 4 = 3) (h2 : t.val < 4) (h3 : (t.val % 16 = 0 ∨ t.val % 16 = 1 ∨ t.val % 16 = 2 ∨ t.val % 16 = 3))
    (y : S8x128.Idx) : (outsAt0 m c t.val t.isLt).2.2.2.2.2.1 y
    = 0 + al m c t (outsAt0 m c t.val t.isLt).2.2.2.2.2.2.2.2 := by
  obtain ⟨H, hH⟩ : ∃ H, H = (outsAt0 m c t.val t.isLt).2.2.2.2.2.2.2.2 := ⟨_, rfl⟩
  rw [← hH]
  rw [outsAt0_C m c t h0 h1 h2 h3] at hH ⊢
  frame_open at hH ⊢
  simp (disch := decide) only [↓ View.readCov_skip, ↓ View.readCov_cons_toLoadRect, ↓ View.readCov_fill, Cert.Covered.readCov_whole, View.read_writes_junk_eq_canon] at hH ⊢
  rw [← hH]
  clear hH
  frame_out
  open_payloads
  pointwise [al, ter, erOf, nrm, rinv]

/-- A later tile adds its part to what was there. -/
theorem lossD (c : Dev nD) (t : Fin cfg0.N) (h0 : ¬t.val % 4 = 0) (h1 : t.val % 4 = 3) (h2 : ¬t.val < 4) (h3 : ¬(t.val % 16 = 0 ∨ t.val % 16 = 1 ∨ t.val % 16 = 2 ∨ t.val % 16 = 3))
    (y : S8x128.Idx) : (outsAt0 m c t.val t.isLt).2.2.2.2.2.1 y
    = (outsAt0 m c (t.val - 1) (Nat.lt_of_le_of_lt (Nat.sub_le _ _) t.isLt)).2.2.2.2.2.1 y + al m c t (outsAt0 m c t.val t.isLt).2.2.2.2.2.2.2.2 := by
  obtain ⟨H, hH⟩ : ∃ H, H = (outsAt0 m c t.val t.isLt).2.2.2.2.2.2.2.2 := ⟨_, rfl⟩
  rw [← hH]
  rw [outsAt0_D m c t h0 h1 h2 h3] at hH ⊢
  frame_open at hH ⊢
  simp (disch := decide) only [↓ View.readCov_skip, ↓ View.readCov_cons_toLoadRect, ↓ View.readCov_fill, Cert.Covered.readCov_whole, View.read_writes_junk_eq_canon] at hH ⊢
  rw [← hH]
  clear hH
  frame_out
  open_payloads
  pointwise [al, ter, erOf, nrm, rinv]
  all_goals (refine (congrFun (Memref.IsWhole.read_unread _ _) _).trans ?_; blk_point [])

/-- A later tile adds its part to what was there. -/
theorem lossE (c : Dev nD) (t : Fin cfg0.N) (h0 : ¬t.val % 4 = 0) (h1 : t.val % 4 = 3) (h2 : ¬t.val < 4) (h3 : (t.val % 16 = 0 ∨ t.val % 16 = 1 ∨ t.val % 16 = 2 ∨ t.val % 16 = 3))
    (y : S8x128.Idx) : (outsAt0 m c t.val t.isLt).2.2.2.2.2.1 y
    = (outsAt0 m c (t.val - 1) (Nat.lt_of_le_of_lt (Nat.sub_le _ _) t.isLt)).2.2.2.2.2.1 y + al m c t (outsAt0 m c t.val t.isLt).2.2.2.2.2.2.2.2 := by
  obtain ⟨H, hH⟩ : ∃ H, H = (outsAt0 m c t.val t.isLt).2.2.2.2.2.2.2.2 := ⟨_, rfl⟩
  rw [← hH]
  rw [outsAt0_E m c t h0 h1 h2 h3] at hH ⊢
  frame_open at hH ⊢
  simp (disch := decide) only [↓ View.readCov_skip, ↓ View.readCov_cons_toLoadRect, ↓ View.readCov_fill, Cert.Covered.readCov_whole, View.read_writes_junk_eq_canon] at hH ⊢
  rw [← hH]
  clear hH
  frame_out
  open_payloads
  pointwise [al, ter, erOf, nrm, rinv]
  all_goals (refine (congrFun (Memref.IsWhole.read_unread _ _) _).trans ?_; blk_point [])

/-- The first tile leaves its own part, over zeros. -/
theorem accbC (c : Dev nD) (t : Fin cfg0.N) (h0 : ¬t.val % 4 = 0) (h1 : t.val % 4 = 3) (h2 : t.val < 4) (h3 : (t.val % 16 = 0 ∨ t.val % 16 = 1 ∨ t.val % 16 = 2 ∨ t.val % 16 = 3))
    (y : S1x8x1024.Idx) : (outsAt0 m c t.val t.isLt).2.2.2.2.2.2.1 y
    = 0 + ab m c t (outsAt0 m c t.val t.isLt).2.2.2.2.2.2.2.2 y := by
  obtain ⟨H, hH⟩ : ∃ H, H = (outsAt0 m c t.val t.isLt).2.2.2.2.2.2.2.2 := ⟨_, rfl⟩
  rw [← hH]
  rw [outsAt0_C m c t h0 h1 h2 h3] at hH ⊢
  frame_open at hH ⊢
  simp (disch := decide) only [↓ View.readCov_skip, ↓ View.readCov_cons_toLoadRect, ↓ View.readCov_fill, Cert.Covered.readCov_whole, View.read_writes_junk_eq_canon] at hH ⊢
  rw [← hH]
  clear hH
  frame_out
  refine Cert.Covered.canon_over (Val := Elt Ideal) (e := .f32) (fun y : S1x8x1024.Idx => 0 + ab m c t H y) [_] [_] y ?_ ?_
  · refine List.forall_mem_singleton.mpr fun (x : S1x1x1024.Idx) => ?_
    dsimp only
    rw [ab0 m c t H _ (piece_row x)]
    pointwise [tdy, dyOf, erOf, nrm, rinv, k0_pay4, k0_pay5, k0_pay6, k0_pay7, k0_pay8, k0_pay9, k0_pay11, k0_pay12, k0_pay13, k0_pay14, k0_pay15]
    all_goals blk_point []
  · intro hn
    simp only [List.forall_mem_singleton] at hn
    rw [ab_ m c t H _ (row_piece y hn)]
    simp (disch := decide) only [View.canon_cons_unit_lit']
    pointwise [k0_pay12]

/-- A later tile adds its part to what was there. -/
theorem accbD (c : Dev nD) (t : Fin cfg0.N) (h0 : ¬t.val % 4 = 0) (h1 : t.val % 4 = 3) (h2 : ¬t.val < 4) (h3 : ¬(t.val % 16 = 0 ∨ t.val % 16 = 1 ∨ t.val % 16 = 2 ∨ t.val % 16 = 3))
    (y : S1x8x1024.Idx) : (outsAt0 m c t.val t.isLt).2.2.2.2.2.2.1 y
    = (outsAt0 m c (t.val - 1) (Nat.lt_of_le_of_lt (Nat.sub_le _ _) t.isLt)).2.2.2.2.2.2.1 y + ab m c t (outsAt0 m c t.val t.isLt).2.2.2.2.2.2.2.2 y := by
  obtain ⟨H, hH⟩ : ∃ H, H = (outsAt0 m c t.val t.isLt).2.2.2.2.2.2.2.2 := ⟨_, rfl⟩
  rw [← hH]
  rw [outsAt0_D m c t h0 h1 h2 h3] at hH ⊢
  frame_open at hH ⊢
  simp (disch := decide) only [↓ View.readCov_skip, ↓ View.readCov_cons_toLoadRect, ↓ View.readCov_fill, Cert.Covered.readCov_whole, View.read_writes_junk_eq_canon] at hH ⊢
  rw [← hH]
  clear hH
  frame_out
  refine Cert.Covered.read_over _ _ (fun y => (outsAt0 m c (t.val - 1) (Nat.lt_of_le_of_lt (Nat.sub_le _ _) t.isLt)).2.2.2.2.2.2.1 y + ab m c t H y) _ y ?_ ?_
  · refine List.forall_mem_singleton.mpr fun (x : S1x1x1024.Idx) => ?_
    dsimp only
    rw [ab0 m c t H _ (piece_row x)]
    pointwise [tdy, dyOf, erOf, nrm, rinv, k0_pay4, k0_pay5, k0_pay6, k0_pay7, k0_pay8, k0_pay9, k0_pay11, k0_pay12, k0_pay13, k0_pay14, k0_pay15]
    all_goals blk_point []
  · intro hn
    simp only [List.forall_mem_singleton] at hn
    rw [ab_ m c t H _ (row_piece y hn)]
    rw [Memref.IsWhole.read_unread]
    exact (add_zero _).symm

/-- The first tile leaves its own part, over zeros. -/
theorem accbE (c : Dev nD) (t : Fin cfg0.N) (h0 : ¬t.val % 4 = 0) (h1 : t.val % 4 = 3) (h2 : ¬t.val < 4) (h3 : (t.val % 16 = 0 ∨ t.val % 16 = 1 ∨ t.val % 16 = 2 ∨ t.val % 16 = 3))
    (y : S1x8x1024.Idx) : (outsAt0 m c t.val t.isLt).2.2.2.2.2.2.1 y
    = 0 + ab m c t (outsAt0 m c t.val t.isLt).2.2.2.2.2.2.2.2 y := by
  obtain ⟨H, hH⟩ : ∃ H, H = (outsAt0 m c t.val t.isLt).2.2.2.2.2.2.2.2 := ⟨_, rfl⟩
  rw [← hH]
  rw [outsAt0_E m c t h0 h1 h2 h3] at hH ⊢
  frame_open at hH ⊢
  simp (disch := decide) only [↓ View.readCov_skip, ↓ View.readCov_cons_toLoadRect, ↓ View.readCov_fill, Cert.Covered.readCov_whole, View.read_writes_junk_eq_canon] at hH ⊢
  rw [← hH]
  clear hH
  frame_out
  refine Cert.Covered.canon_over (Val := Elt Ideal) (e := .f32) (fun y : S1x8x1024.Idx => 0 + ab m c t H y) [_] [_] y ?_ ?_
  · refine List.forall_mem_singleton.mpr fun (x : S1x1x1024.Idx) => ?_
    dsimp only
    rw [ab0 m c t H _ (piece_row x)]
    pointwise [tdy, dyOf, erOf, nrm, rinv, k0_pay4, k0_pay5, k0_pay6, k0_pay7, k0_pay8, k0_pay9, k0_pay11, k0_pay12, k0_pay13, k0_pay14, k0_pay15]
    all_goals blk_point []
  · intro hn
    simp only [List.forall_mem_singleton] at hn
    rw [ab_ m c t H _ (row_piece y hn)]
    simp (disch := decide) only [View.canon_cons_unit_lit']
    pointwise [k0_pay12]

/-- The first tile leaves its own part, over zeros. -/
theorem accgC (c : Dev nD) (t : Fin cfg0.N) (h0 : ¬t.val % 4 = 0) (h1 : t.val % 4 = 3) (h2 : t.val < 4) (h3 : (t.val % 16 = 0 ∨ t.val % 16 = 1 ∨ t.val % 16 = 2 ∨ t.val % 16 = 3))
    (y : S8x1024.Idx) : (outsAt0 m c t.val t.isLt).2.2.2.2.2.2.2.1 y
    = 0 + ag m c t (outsAt0 m c t.val t.isLt).2.2.2.2.2.2.2.2 y := by
  obtain ⟨H, hH⟩ : ∃ H, H = (outsAt0 m c t.val t.isLt).2.2.2.2.2.2.2.2 := ⟨_, rfl⟩
  rw [← hH]
  rw [outsAt0_C m c t h0 h1 h2 h3] at hH ⊢
  frame_open at hH ⊢
  simp (disch := decide) only [↓ View.readCov_skip, ↓ View.readCov_cons_toLoadRect, ↓ View.readCov_fill, Cert.Covered.readCov_whole, View.read_writes_junk_eq_canon] at hH ⊢
  rw [← hH]
  clear hH
  frame_out
  refine Cert.Covered.canon_over (Val := Elt Ideal) (e := .f32) (fun y : S8x1024.Idx => 0 + ag m c t H y) [_] [_] y ?_ ?_
  · refine List.forall_mem_singleton.mpr fun (x : S1x1024.Idx) => ?_
    dsimp only
    rw [ag0 m c t H _ (piece_row' x)]
    pointwise [tdy, dyOf, erOf, nrm, rinv, k0_pay4, k0_pay5, k0_pay6, k0_pay7, k0_pay8, k0_pay9, k0_pay11, k0_pay12, k0_pay13, k0_pay14, k0_pay15]
    all_goals blk_point []
  · intro hn
    simp only [List.forall_mem_singleton] at hn
    rw [ag_ m c t H _ (row_piece' y hn)]
    simp (disch := decide) only [View.canon_cons_unit_lit']
    pointwise [k0_pay11]

/-- A later tile adds its part to what was there. -/
theorem accgD (c : Dev nD) (t : Fin cfg0.N) (h0 : ¬t.val % 4 = 0) (h1 : t.val % 4 = 3) (h2 : ¬t.val < 4) (h3 : ¬(t.val % 16 = 0 ∨ t.val % 16 = 1 ∨ t.val % 16 = 2 ∨ t.val % 16 = 3))
    (y : S8x1024.Idx) : (outsAt0 m c t.val t.isLt).2.2.2.2.2.2.2.1 y
    = (outsAt0 m c (t.val - 1) (Nat.lt_of_le_of_lt (Nat.sub_le _ _) t.isLt)).2.2.2.2.2.2.2.1 y + ag m c t (outsAt0 m c t.val t.isLt).2.2.2.2.2.2.2.2 y := by
  obtain ⟨H, hH⟩ : ∃ H, H = (outsAt0 m c t.val t.isLt).2.2.2.2.2.2.2.2 := ⟨_, rfl⟩
  rw [← hH]
  rw [outsAt0_D m c t h0 h1 h2 h3] at hH ⊢
  frame_open at hH ⊢
  simp (disch := decide) only [↓ View.readCov_skip, ↓ View.readCov_cons_toLoadRect, ↓ View.readCov_fill, Cert.Covered.readCov_whole, View.read_writes_junk_eq_canon] at hH ⊢
  rw [← hH]
  clear hH
  frame_out
  refine Cert.Covered.read_over _ _ (fun y => (outsAt0 m c (t.val - 1) (Nat.lt_of_le_of_lt (Nat.sub_le _ _) t.isLt)).2.2.2.2.2.2.2.1 y + ag m c t H y) _ y ?_ ?_
  · refine List.forall_mem_singleton.mpr fun (x : S1x1024.Idx) => ?_
    dsimp only
    rw [ag0 m c t H _ (piece_row' x)]
    pointwise [tdy, dyOf, erOf, nrm, rinv, k0_pay4, k0_pay5, k0_pay6, k0_pay7, k0_pay8, k0_pay9, k0_pay11, k0_pay12, k0_pay13, k0_pay14, k0_pay15]
    all_goals blk_point []
  · intro hn
    simp only [List.forall_mem_singleton] at hn
    rw [ag_ m c t H _ (row_piece' y hn)]
    rw [Memref.IsWhole.read_unread]
    exact (add_zero _).symm

/-- A later tile adds its part to what was there. -/
theorem accgE (c : Dev nD) (t : Fin cfg0.N) (h0 : ¬t.val % 4 = 0) (h1 : t.val % 4 = 3) (h2 : ¬t.val < 4) (h3 : (t.val % 16 = 0 ∨ t.val % 16 = 1 ∨ t.val % 16 = 2 ∨ t.val % 16 = 3))
    (y : S8x1024.Idx) : (outsAt0 m c t.val t.isLt).2.2.2.2.2.2.2.1 y
    = (outsAt0 m c (t.val - 1) (Nat.lt_of_le_of_lt (Nat.sub_le _ _) t.isLt)).2.2.2.2.2.2.2.1 y + ag m c t (outsAt0 m c t.val t.isLt).2.2.2.2.2.2.2.2 y := by
  obtain ⟨H, hH⟩ : ∃ H, H = (outsAt0 m c t.val t.isLt).2.2.2.2.2.2.2.2 := ⟨_, rfl⟩
  rw [← hH]
  rw [outsAt0_E m c t h0 h1 h2 h3] at hH ⊢
  frame_open at hH ⊢
  simp (disch := decide) only [↓ View.readCov_skip, ↓ View.readCov_cons_toLoadRect, ↓ View.readCov_fill, Cert.Covered.readCov_whole, View.read_writes_junk_eq_canon] at hH ⊢
  rw [← hH]
  clear hH
  frame_out
  refine Cert.Covered.read_over _ _ (fun y => (outsAt0 m c (t.val - 1) (Nat.lt_of_le_of_lt (Nat.sub_le _ _) t.isLt)).2.2.2.2.2.2.2.1 y + ag m c t H y) _ y ?_ ?_
  · refine List.forall_mem_singleton.mpr fun (x : S1x1024.Idx) => ?_
    dsimp only
    rw [ag0 m c t H _ (piece_row' x)]
    pointwise [tdy, dyOf, erOf, nrm, rinv, k0_pay4, k0_pay5, k0_pay6, k0_pay7, k0_pay8, k0_pay9, k0_pay11, k0_pay12, k0_pay13, k0_pay14, k0_pay15]
    all_goals blk_point []
  · intro hn
    simp only [List.forall_mem_singleton] at hn
    rw [ag_ m c t H _ (row_piece' y hn)]
    rw [Memref.IsWhole.read_unread]
    exact (add_zero _).symm

end Cert.FwdIdeal.Value

end
-- ==== Proof.FwdHost.lean ====
/-
  What the kernel's windows are cut from: the arrays that the host lines before the call leave.
-/
module

public import proofs.«01_k».proof.Defs
public import proofs.«01_k».proof.Proof.Gen.FwdIdeal.Value
public import proofs.«01_k».proof.Proof.FwdFlat
public import Idealize.ShloMosaic.Lib.StableHlo.RunRead
public import Idealize.ShloMosaic.Lib.Pipeline.ReadBack
public import Idealize.ShloMosaic.Lib.Pipeline.ValueKit

@[expose] public section

set_option maxRecDepth 16384

noncomputable section

namespace Cert.FwdIdeal.Value

open Cert.FwdIdeal Cert.FwdIdeal.Gen Idealize.ShloMosaic Idealize.ShloMosaic.TcCoe Idealize.SL.Sem
open Idealize.ShloMosaic.Pipeline (Dat)
open Cert.FfnForm Cert.FwdFlat

variable (m : (ℓ : Loc nD τ sig) → Buf (Elt Ideal) ℓ)

/-- The call's arguments on a device. -/
abbrev args (c : Dev nD) : Args where
  h := m ((c : Thread nD τ).loc main_arg0)
  tg := m ((c : Thread nD τ).loc main_arg1)
  x := m ((c : Thread nD τ).loc main_arg2)
  mod := m ((c : Thread nD τ).loc main_arg3)
  gp := m ((c : Thread nD τ).loc main_arg4)
  wg := m ((c : Thread nD τ).loc main_arg5)
  wu := m ((c : Thread nD τ).loc main_arg6)
  wd := m ((c : Thread nD τ).loc main_arg7)

/-- The gate's weights, turned, by quarter. -/
theorem V4 (c : Dev nD) (y : S4x704x1024.Idx) : V m c main_v4 y = (args m c).wg (ix2 (y 2) (hid (y 0) (y 1))) := by
  unfold V
  after_reads_simp
  pointwise []
  all_goals blk_point []

/-- The other factor's, turned. -/
theorem V7 (c : Dev nD) (y : S4x704x1024.Idx) : V m c main_v7 y = (args m c).wu (ix2 (y 2) (hid (y 0) (y 1))) := by
  unfold V
  after_reads_simp
  pointwise []
  all_goals blk_point []

/-- The down projection's, by quarter. -/
theorem V9 (c : Dev nD) (y : S4x704x1024.Idx) : V m c main_v9 y = (args m c).wd (ix2 (hid (y 0) (y 1)) (y 2)) := by
  unfold V
  after_reads_simp
  pointwise []
  all_goals blk_point []

/-- The modulation, eight rows to a sequence. -/
theorem V1 (c : Dev nD) (b : Fin 2) (j : Fin 6) (d : Fin 1024) :
    V m c main_v1 (ix3 b ⟨j.val, by omega⟩ d) = (args m c).mod (ix3 b j d) := by
  unfold V
  after_reads_simp
  pointwise []
  all_goals blk_point []

end Cert.FwdIdeal.Value

end
-- ==== Proof.FwdBlk.lean ====
/-
  A tile's blocks: which rows and columns of the whole arrays they hold.
-/
module

public import proofs.«01_k».proof.Defs
public import proofs.«01_k».proof.Proof.FwdAcc
public import proofs.«01_k».proof.Proof.FwdHost
public import Idealize.ShloMosaic.Lib.Pipeline.ReadBack
public import Idealize.ShloMosaic.Lib.Pipeline.ValueKit

@[expose] public section

set_option maxRecDepth 16384

noncomputable section

namespace Cert.FwdIdeal.Value

open Cert.FwdIdeal Cert.FwdIdeal.Gen Idealize.ShloMosaic Idealize.ShloMosaic.TcCoe Idealize.SL.Sem
open Idealize.ShloMosaic.Pipeline (Dat)
open Cert.FfnForm Cert.FwdFlat

variable (m : (ℓ : Loc nD τ sig) → Buf (Elt Ideal) ℓ)

/-- Where each window's block sits at a point. -/
theorem idx : ∀ t : Fin cfg0.N, win0_0.index t = ![t.val / 4, 0]
    ∧ win0_1.index t = ![t.val % 4, 0, 0]
    ∧ win0_2.index t = ![t.val % 4, 0, 0]
    ∧ win0_3.index t = ![t.val % 4, 0, 0]
    ∧ win0_4.index t = ![t.val / 4, 0]
    ∧ win0_5.index t = ![t.val / 4, 0]
    ∧ win0_6.index t = ![t.val / 16, 0, 0]
    ∧ win0_7.index t = ![0, 0]
    ∧ win0_8.index t = ![t.val % 4, t.val / 4, 0]
    ∧ win0_9.index t = ![t.val % 4, t.val / 4, 0]
    ∧ win0_10.index t = ![t.val % 4, t.val / 4, 0]
    ∧ win0_11.index t = ![t.val / 4, 0]
    ∧ win0_12.index t = ![t.val / 4, 0]
    ∧ win0_13.index t = ![0, 0]
    ∧ win0_14.index t = ![t.val / 16, 0, 0]
    ∧ win0_15.index t = ![0, 0]
    ∧ t.val < 32 :=
  (by decide +kernel : ∀ t : Fin grid0.N, _)

/-- A tile's row, as a token, -/
def row (t : Fin cfg0.N) (r : Fin 512) : Fin 4096 := ⟨512 * (t.val / 4) + r.val, by have ht : t.val < 32 := t.isLt; omega⟩
/-- and its quarter. -/
def qtr (t : Fin cfg0.N) : Fin 4 := ⟨t.val % 4, by omega⟩

theorem w0 (c : Dev nD) (t : Fin cfg0.N) (r : Fin 512) (k : Fin 1024) : iblk m c 0 t (ix2 r k) = (args m c).h (ix2 (row t r) k) := by
  blk_point [iblk, V, idx t, row]
theorem w1 (c : Dev nD) (t : Fin cfg0.N) (f : Fin 704) (k : Fin 1024) : iblk m c 1 t (ix3 0 f k) = (args m c).wg (ix2 k (hid (qtr t) f)) := by
  have e : iblk m c 1 t (ix3 0 f k) = V m c main_v4 (ix3 (qtr t) f k) := by
    unfold iblk
    blk_ext [idx t, row, qtr]
  exact e.trans (V4 m c _)
theorem w2 (c : Dev nD) (t : Fin cfg0.N) (f : Fin 704) (k : Fin 1024) : iblk m c 2 t (ix3 0 f k) = (args m c).wu (ix2 k (hid (qtr t) f)) := by
  have e : iblk m c 2 t (ix3 0 f k) = V m c main_v7 (ix3 (qtr t) f k) := by
    unfold iblk
    blk_ext [idx t, row, qtr]
  exact e.trans (V7 m c _)
theorem w3 (c : Dev nD) (t : Fin cfg0.N) (f : Fin 704) (k : Fin 1024) : iblk m c 3 t (ix3 0 f k) = (args m c).wd (ix2 (hid (qtr t) f) k) := by
  have e : iblk m c 3 t (ix3 0 f k) = V m c main_v9 (ix3 (qtr t) f k) := by
    unfold iblk
    blk_ext [idx t, row, qtr]
  exact e.trans (V9 m c _)
theorem w4 (c : Dev nD) (t : Fin cfg0.N) (r : Fin 512) (k : Fin 1024) : iblk m c 4 t (ix2 r k) = xR (args m c) (row t r) k := by
  blk_point [iblk, V, idx t, row, xR]
theorem w5 (c : Dev nD) (t : Fin cfg0.N) (r : Fin 512) (k : Fin 1024) : iblk m c 5 t (ix2 r k) = tR (args m c) (row t r) k := by
  blk_point [iblk, V, idx t, row, tR]
theorem w6 (c : Dev nD) (t : Fin cfg0.N) (r : Fin 512) (k : Fin 1024) : iblk m c 6 t (ix3 0 5 k) = gateR (args m c) (row t r) k := by
  unfold iblk
  refine Eq.trans ?_ (V1 m c (sq (row t r)) 5 k)
  blk_point [idx t, row, qtr]
theorem w7 (c : Dev nD) (t : Fin cfg0.N) (k : Fin 1024) : iblk m c 7 t (ix2 0 k) = gpR (args m c) k := by
  blk_point [iblk, V, idx t, row, gpR]

/-- A tile's arguments and activations are the tokens'. -/
theorem ta_eq (c : Dev nD) (t : Fin cfg0.N) (r : Fin 512) (f : Fin 704) : ta m c t r f = aR (args m c) (row t r) (hid (qtr t) f) := by
  unfold ta td aR
  exact Finset.sum_congr rfl fun k _ => by rw [w0, w1]
theorem tb_eq (c : Dev nD) (t : Fin cfg0.N) (r : Fin 512) (f : Fin 704) : tb m c t r f = bR (args m c) (row t r) (hid (qtr t) f) := by
  unfold tb td bR
  exact Finset.sum_congr rfl fun k _ => by rw [w0, w2]
theorem tc_eq (c : Dev nD) (t : Fin cfg0.N) (r : Fin 512) (f : Fin 704) : tc m c t r f = finR (args m c) (row t r) (hid (qtr t) f) := by
  unfold tc finR
  rw [ta_eq, tb_eq]

/-- A quarter's part of the down projection. -/
def fQ (A : Args) (r : Fin 4096) (q : Fin 4) (d : Fin 1024) : EReal := ∑ f : Fin 704, finR A r (hid q f) * A.wd (ix2 (hid q f) d)

theorem tf_eq (c : Dev nD) (t : Fin cfg0.N) (r : Fin 512) (d : Fin 1024) : tf m c t r d = fQ (args m c) (row t r) (qtr t) d := by
  unfold tf fQ
  exact Finset.sum_congr rfl fun f _ => by rw [tc_eq, w3]

/-- The quarters' parts make the whole. -/
theorem fQ_sum (A : Args) (r : Fin 4096) (d : Fin 1024) : ∑ q : Fin 4, fQ A r q d = fR A r d := by
  unfold fQ fR
  refine Fin.sum_mul_add_congr fun q f hl => ?_
  have e : hid q f = ⟨q.val * 704 + f.val, hl⟩ := Fin.ext (by simp only; omega)
  rw [e]

/-- The scratch at a tile's last quarter: the down projection. -/
theorem scr (c : Dev nD) (t : Fin cfg0.N) (h : t.val % 4 = 3) (r : Fin 512) (d : Fin 1024) :
    (outsAt0 m c t.val t.isLt).2.2.2.2.2.2.2.2 (ix2 r d) = fR (args m c) (row t r) d := by
  have e := Pipeline.eq_sum_fin_of_reset_step_apply_of_flush (fun n h => (outsAt0 m c n h).2.2.2.2.2.2.2.2) 4 (fun _ => 0)
    (fun p y => tf m c p (y 0) (y 1)) (fun t h j => accA m c t h j) (fun t h j => accB m c t h j) t h (ix2 r d)
  refine e.trans ?_
  rw [zero_add, ← fQ_sum]
  refine Finset.sum_congr rfl fun s _ => ?_
  refine (tf_eq m c _ _ _).trans ?_
  refine congrArg₂ (fun (a : Fin 4096) b => fQ (args m c) a b d) (Fin.ext ?_) (Fin.ext ?_)
  · show 512 * ((4 * (t.val / 4) + s.val) / 4) + r.val = 512 * (t.val / 4) + r.val
    omega
  · show (4 * (t.val / 4) + s.val) % 4 = s.val
    omega

end Cert.FwdIdeal.Value

end
-- ==== Proof.FwdKeep.lean ====
/-
  Between the tiles' last quarters the loss and the two accumulators stand still.
-/
module

public import proofs.«01_k».proof.Defs
public import proofs.«01_k».proof.Proof.FwdBlk
public import Idealize.ShloMosaic.Lib.Pipeline.ReadBack
public import Idealize.ShloMosaic.Lib.Pipeline.ValueKit

@[expose] public section

set_option maxRecDepth 16384

noncomputable section

namespace Cert.FwdIdeal.Value

open Cert.FwdIdeal Cert.FwdIdeal.Gen Idealize.ShloMosaic Idealize.ShloMosaic.TcCoe Idealize.SL.Sem
open Idealize.ShloMosaic.Pipeline (Dat)
open Cert.FfnForm Cert.FwdFlat

variable (m : (ℓ : Loc nD τ sig) → Buf (Elt Ideal) ℓ)

/-- The loss stands still, -/
theorem keep13 (c : Dev nD) (t : Fin cfg0.N) (h1 : ¬t.val % 4 = 3) (y : S8x128.Idx) : (outsAt0 m c t.val t.isLt).2.2.2.2.2.1 y
    = (outsAt0 m c (t.val - 1) (Nat.lt_of_le_of_lt (Nat.sub_le _ _) t.isLt)).2.2.2.2.2.1 y := by
  by_cases h0 : t.val % 4 = 0
  · rw [outsAt0_A m c t h0 h1]
    rfl
  · rw [outsAt0_B m c t h0 h1]
    rfl

/-- so does the sequence's block -/
theorem keep14 (c : Dev nD) (t : Fin cfg0.N) (h1 : ¬t.val % 4 = 3) (y : S1x8x1024.Idx) : (outsAt0 m c t.val t.isLt).2.2.2.2.2.2.1 y
    = (outsAt0 m c (t.val - 1) (Nat.lt_of_le_of_lt (Nat.sub_le _ _) t.isLt)).2.2.2.2.2.2.1 y := by
  by_cases h0 : t.val % 4 = 0
  · rw [outsAt0_A m c t h0 h1]
    rfl
  · rw [outsAt0_B m c t h0 h1]
    rfl

/-- and the gains' block. -/
theorem keep15 (c : Dev nD) (t : Fin cfg0.N) (h1 : ¬t.val % 4 = 3) (y : S8x1024.Idx) : (outsAt0 m c t.val t.isLt).2.2.2.2.2.2.2.1 y
    = (outsAt0 m c (t.val - 1) (Nat.lt_of_le_of_lt (Nat.sub_le _ _) t.isLt)).2.2.2.2.2.2.2.1 y := by
  by_cases h0 : t.val % 4 = 0
  · rw [outsAt0_A m c t h0 h1]
    rfl
  · rw [outsAt0_B m c t h0 h1]
    rfl

end Cert.FwdIdeal.Value

end
-- ==== Proof.FwdMath.lean ====
/-
  The forward half's constants, and the two ways to write the loss and its cotangent.
-/
module

public import proofs.«01_k».proof.Proof.FwdFlat
public import proofs.«01_k».proof.Proof.FfnMath

@[expose] public section

noncomputable section

namespace Cert.FwdMath

open Idealize.ShloMosaic Cert.FfnForm Cert.FwdFlat Cert.FfnMath

/-- Two. -/
abbrev c2 : EReal := Ideal.ofBits .f32 0x40000000#32

theorem ci_eq : ci = ((1 / 1024 : ℝ) : EReal) := by
  simp [Ideal.ofBits, Ideal.ieee, -EReal.coe_mul]; norm_num
theorem cl_eq : cl = ((1 / 2048 : ℝ) : EReal) := by
  simp [Ideal.ofBits, Ideal.ieee, -EReal.coe_mul]; norm_num
theorem c2_eq : c2 = ((2 : ℝ) : EReal) := by
  simp [Ideal.ofBits, Ideal.ieee, -EReal.coe_mul]; norm_num

/-- The half over the row's length comes out of a sum. -/
theorem cl_sum {n : ℕ} (f : Fin n → EReal) : ∑ r, cl * f r = cl * ∑ r, f r := by
  rw [cl_eq, mul_comm _ (∑ r, f r), ← mul_sum' (1 / 2048) (by norm_num)]
  exact Finset.sum_congr rfl fun r _ => mul_comm _ _

/-- The mean's cotangent, as the chain rule writes it. -/
theorem dy_eq (e : EReal) : Ideal.div (ch * c1) cN * (c2 * e) = e * ci := by
  rw [ch_eq, c1_eq, cN_eq, c2_eq, ci_eq, Ideal.div_coe (by norm_num), ← mul_assoc, mul_comm e]
  congr 1
  rw [← EReal.coe_mul, ← EReal.coe_mul, ← EReal.coe_mul]
  congr 1
  norm_num

/-- Half the sum of the means. -/
theorem loss_eq {n : ℕ} (f : Fin n → EReal) : ch * ∑ r, Ideal.div (f r) cN = ∑ r, cl * f r := by
  rw [cl_sum, ch_eq, cl_eq, cN_eq]
  have e : ∀ r, Ideal.div (f r) ((1024 : ℝ) : EReal) = f r * ((1 / 1024 : ℝ) : EReal) :=
    fun r => Ideal.div_coe (by norm_num : (1024 : ℝ) ≠ 0) (f r)
  simp only [e]
  rw [mul_sum' (1 / 1024) (by norm_num), mul_comm (∑ r, f r), ← mul_assoc, ← EReal.coe_mul]
  congr 2
  norm_num

end Cert.FwdMath

end
-- ==== Proof.FwdSum.lean ====
/-
  The tiles' last quarters in the tokens' terms, and the loss and the two accumulators as sums over the tokens.
-/
module

public import proofs.«01_k».proof.Defs
public import proofs.«01_k».proof.Proof.FwdKeep
public import proofs.«01_k».proof.Proof.FwdMath
public import Idealize.ShloMosaic.Lib.Pipeline.ReadBack
public import Idealize.ShloMosaic.Lib.Pipeline.ValueKit

@[expose] public section

set_option maxRecDepth 16384

noncomputable section

namespace Cert.FwdIdeal.Value

open Cert.FwdIdeal Cert.FwdIdeal.Gen Idealize.ShloMosaic Idealize.ShloMosaic.TcCoe Idealize.SL.Sem
open Idealize.ShloMosaic.Pipeline (Dat)
open Cert.FfnForm Cert.FwdFlat

variable (m : (ℓ : Loc nD τ sig) → Buf (Elt Ideal) ℓ)

/-- The rows that a tile reads. -/
theorem r4 (c : Dev nD) (t : Fin cfg0.N) (r : Fin 512) : (fun k => iblk m c 4 t (ix2 r k)) = xR (args m c) (row t r) := funext fun k => w4 m c t r k
theorem r5 (c : Dev nD) (t : Fin cfg0.N) (r : Fin 512) : (fun k => iblk m c 5 t (ix2 r k)) = tR (args m c) (row t r) := funext fun k => w5 m c t r k
theorem r6 (c : Dev nD) (t : Fin cfg0.N) (r : Fin 512) : (fun k => iblk m c 6 t (ix3 0 5 k)) = gateR (args m c) (row t r) := funext fun k => w6 m c t r k
theorem r7 (c : Dev nD) (t : Fin cfg0.N) : (fun k => iblk m c 7 t (ix2 0 k)) = gpR (args m c) := funext fun k => w7 m c t k
theorem rH (c : Dev nD) (t : Fin cfg0.N) (h : t.val % 4 = 3) (r : Fin 512) :
    (fun k => (outsAt0 m c t.val t.isLt).2.2.2.2.2.2.2.2 (ix2 r k)) = fR (args m c) (row t r) := funext fun k => scr m c t h r k

/-- The error of a tile's row is the token's, -/
theorem ter_eq (c : Dev nD) (t : Fin cfg0.N) (h : t.val % 4 = 3) (r : Fin 512) :
    ter m c t (outsAt0 m c t.val t.isLt).2.2.2.2.2.2.2.2 r = erR (args m c) (row t r) := by
  unfold ter erR
  rw [rH m c t h, r4, r5, r6 m c t r, r7]

/-- so is the output's cotangent -/
theorem tdy_eq (c : Dev nD) (t : Fin cfg0.N) (h : t.val % 4 = 3) (r : Fin 512) :
    tdy m c t (outsAt0 m c t.val t.isLt).2.2.2.2.2.2.2.2 r = dyR (args m c) (row t r) := by
  unfold tdy dyR
  rw [rH m c t h, r4, r5, r6 m c t r, r7]

/-- and the feed-forward half's. -/
theorem tdf_eq (c : Dev nD) (t : Fin cfg0.N) (h : t.val % 4 = 3) (r : Fin 512) :
    tdf m c t (outsAt0 m c t.val t.isLt).2.2.2.2.2.2.2.2 r = dfR (args m c) (row t r) := by
  unfold tdf dfR
  rw [rH m c t h, r4, r5, r6 m c t r, r7]

/-- What a tile adds to the loss, -/
theorem al_eq (c : Dev nD) (t : Fin cfg0.N) (h : t.val % 4 = 3) :
    al m c t (outsAt0 m c t.val t.isLt).2.2.2.2.2.2.2.2 = ∑ r : Fin 512, lRow (args m c) (row t r) := by
  unfold al
  simp only [ter_eq m c t h]
  unfold lRow
  rw [Cert.FwdMath.cl_sum]

/-- to its sequence's block -/
theorem ab_eq (c : Dev nD) (t : Fin cfg0.N) (h : t.val % 4 = 3) (y : S1x8x1024.Idx) :
    ab m c t (outsAt0 m c t.val t.isLt).2.2.2.2.2.2.2.2 y = ∑ r : Fin 512, bRow (args m c) (row t r) (y 1) (y 2) := by
  unfold ab bRow
  by_cases h0 : (y 1 : ℕ) = 0
  · simp only [if_pos h0]
    refine Finset.sum_congr rfl fun r _ => ?_
    rw [tdy_eq m c t h, rH m c t h]
    exact congrArg (fun z : EReal => dyR (args m c) (row t r) (y 2) * (nrm (fR (args m c) (row t r)) (y 2) * z)) (w7 m c t (y 2))
  simp only [if_neg h0, Finset.sum_const_zero]

/-- and to the gains'. -/
theorem ag_eq (c : Dev nD) (t : Fin cfg0.N) (h : t.val % 4 = 3) (y : S8x1024.Idx) :
    ag m c t (outsAt0 m c t.val t.isLt).2.2.2.2.2.2.2.2 y = ∑ r : Fin 512, gRow (args m c) (row t r) (y 0) (y 1) := by
  unfold ag gRow
  by_cases h0 : (y 0 : ℕ) = 0
  · simp only [if_pos h0]
    refine Finset.sum_congr rfl fun r _ => ?_
    rw [tdy_eq m c t h, rH m c t h]
    exact congrArg (fun z : EReal => dyR (args m c) (row t r) (y 1) * z * nrm (fR (args m c) (row t r)) (y 1)) (w6 m c t r (y 1))
  simp only [if_neg h0, Finset.sum_const_zero]

/-- A tile's last quarter. -/
def lastq (n : ℕ) (h : n < 8) : Fin cfg0.N := ⟨4 * n + 3, show 4 * n + 3 < 32 by omega⟩

theorem lastq_mod (n : ℕ) (h : n < 8) : (lastq n h).val % 4 = 3 := by show (4 * n + 3) % 4 = 3; omega

theorem row_lastq (n : ℕ) (h : n < 8) (r : Fin 512) : row (lastq n h) r = (⟨512 * n + r.val, by omega⟩ : Fin 4096) :=
  Fin.ext (by show 512 * ((4 * n + 3) / 4) + r.val = 512 * n + r.val; omega)

/-- The loss at a tile's end, -/
def lAt (c : Dev nD) (n : ℕ) (h : n < 8) : S8x128.Idx → EReal := (outsAt0 m c (lastq n h).val (lastq n h).isLt).2.2.2.2.2.1
/-- and what the tile adds. -/
def lAdd (c : Dev nD) (n : Fin 8) (y : S8x128.Idx) : EReal := ∑ r : Fin 512, lRow (args m c) (⟨512 * n.val + r.val, by omega⟩ : Fin 4096)

theorem al_last (c : Dev nD) (n : Fin 8) (y : S8x128.Idx) :
    al m c (lastq n n.isLt) (outsAt0 m c (lastq n n.isLt).val (lastq n n.isLt).isLt).2.2.2.2.2.2.2.2 = lAdd m c n y := by
  rw [al_eq m c _ (lastq_mod n n.isLt)]
  exact Finset.sum_congr rfl fun r _ => by rw [row_lastq]

/-- Three points back from before a tile's last quarter. -/
theorem back13 (c : Dev nD) (n : ℕ) (h : n < 8) (h0 : n ≠ 0) (y : S8x128.Idx) :
    (outsAt0 m c ((lastq n h).val - 1) (Nat.lt_of_le_of_lt (Nat.sub_le _ _) (lastq n h).isLt)).2.2.2.2.2.1 y = lAt m c (n - 1) (by omega) y := by
  have e : ∀ (a b : ℕ) (ha : a < cfg0.N) (hb : b < cfg0.N), a = b → (outsAt0 m c a ha).2.2.2.2.2.1 y = (outsAt0 m c b hb).2.2.2.2.2.1 y := by
    intro a b ha hb hab; subst hab; rfl
  have k2 := keep13 m c (⟨4 * n + 2, show 4 * n + 2 < 32 by omega⟩ : Fin cfg0.N) (by show ¬(4 * n + 2) % 4 = 3; omega) y
  have k1 := keep13 m c (⟨4 * n + 1, show 4 * n + 1 < 32 by omega⟩ : Fin cfg0.N) (by show ¬(4 * n + 1) % 4 = 3; omega) y
  have k0 := keep13 m c (⟨4 * n, show 4 * n < 32 by omega⟩ : Fin cfg0.N) (by show ¬(4 * n) % 4 = 3; omega) y
  refine (e _ _ _ _ (by show 4 * n + 3 - 1 = 4 * n + 2; omega)).trans (k2.trans ((e _ _ _ _ (by show 4 * n + 2 - 1 = 4 * n + 1; omega)).trans
    (k1.trans ((e _ _ _ _ (by show 4 * n + 1 - 1 = 4 * n; omega)).trans (k0.trans (e _ _ _ _ ?_))))))
  show 4 * n - 1 = 4 * (n - 1) + 3
  omega

/-- The sequence's block at a tile's end, -/
def bAt (c : Dev nD) (n : ℕ) (h : n < 8) : S1x8x1024.Idx → EReal := (outsAt0 m c (lastq n h).val (lastq n h).isLt).2.2.2.2.2.2.1
/-- and what the tile adds. -/
def bAdd (c : Dev nD) (n : Fin 8) (y : S1x8x1024.Idx) : EReal := ∑ r : Fin 512, bRow (args m c) (⟨512 * n.val + r.val, by omega⟩ : Fin 4096) (y 1) (y 2)

theorem ab_last (c : Dev nD) (n : Fin 8) (y : S1x8x1024.Idx) :
    ab m c (lastq n n.isLt) (outsAt0 m c (lastq n n.isLt).val (lastq n n.isLt).isLt).2.2.2.2.2.2.2.2 y = bAdd m c n y := by
  rw [ab_eq m c _ (lastq_mod n n.isLt)]
  exact Finset.sum_congr rfl fun r _ => by rw [row_lastq]

/-- Three points back from before a tile's last quarter. -/
theorem back14 (c : Dev nD) (n : ℕ) (h : n < 8) (h0 : n ≠ 0) (y : S1x8x1024.Idx) :
    (outsAt0 m c ((lastq n h).val - 1) (Nat.lt_of_le_of_lt (Nat.sub_le _ _) (lastq n h).isLt)).2.2.2.2.2.2.1 y = bAt m c (n - 1) (by omega) y := by
  have e : ∀ (a b : ℕ) (ha : a < cfg0.N) (hb : b < cfg0.N), a = b → (outsAt0 m c a ha).2.2.2.2.2.2.1 y = (outsAt0 m c b hb).2.2.2.2.2.2.1 y := by
    intro a b ha hb hab; subst hab; rfl
  have k2 := keep14 m c (⟨4 * n + 2, show 4 * n + 2 < 32 by omega⟩ : Fin cfg0.N) (by show ¬(4 * n + 2) % 4 = 3; omega) y
  have k1 := keep14 m c (⟨4 * n + 1, show 4 * n + 1 < 32 by omega⟩ : Fin cfg0.N) (by show ¬(4 * n + 1) % 4 = 3; omega) y
  have k0 := keep14 m c (⟨4 * n, show 4 * n < 32 by omega⟩ : Fin cfg0.N) (by show ¬(4 * n) % 4 = 3; omega) y
  refine (e _ _ _ _ (by show 4 * n + 3 - 1 = 4 * n + 2; omega)).trans (k2.trans ((e _ _ _ _ (by show 4 * n + 2 - 1 = 4 * n + 1; omega)).trans
    (k1.trans ((e _ _ _ _ (by show 4 * n + 1 - 1 = 4 * n; omega)).trans (k0.trans (e _ _ _ _ ?_))))))
  show 4 * n - 1 = 4 * (n - 1) + 3
  omega

/-- The gains' block at a tile's end, -/
def gAt (c : Dev nD) (n : ℕ) (h : n < 8) : S8x1024.Idx → EReal := (outsAt0 m c (lastq n h).val (lastq n h).isLt).2.2.2.2.2.2.2.1
/-- and what the tile adds. -/
def gAdd (c : Dev nD) (n : Fin 8) (y : S8x1024.Idx) : EReal := ∑ r : Fin 512, gRow (args m c) (⟨512 * n.val + r.val, by omega⟩ : Fin 4096) (y 0) (y 1)

theorem ag_last (c : Dev nD) (n : Fin 8) (y : S8x1024.Idx) :
    ag m c (lastq n n.isLt) (outsAt0 m c (lastq n n.isLt).val (lastq n n.isLt).isLt).2.2.2.2.2.2.2.2 y = gAdd m c n y := by
  rw [ag_eq m c _ (lastq_mod n n.isLt)]
  exact Finset.sum_congr rfl fun r _ => by rw [row_lastq]

/-- Three points back from before a tile's last quarter. -/
theorem back15 (c : Dev nD) (n : ℕ) (h : n < 8) (h0 : n ≠ 0) (y : S8x1024.Idx) :
    (outsAt0 m c ((lastq n h).val - 1) (Nat.lt_of_le_of_lt (Nat.sub_le _ _) (lastq n h).isLt)).2.2.2.2.2.2.2.1 y = gAt m c (n - 1) (by omega) y := by
  have e : ∀ (a b : ℕ) (ha : a < cfg0.N) (hb : b < cfg0.N), a = b → (outsAt0 m c a ha).2.2.2.2.2.2.2.1 y = (outsAt0 m c b hb).2.2.2.2.2.2.2.1 y := by
    intro a b ha hb hab; subst hab; rfl
  have k2 := keep15 m c (⟨4 * n + 2, show 4 * n + 2 < 32 by omega⟩ : Fin cfg0.N) (by show ¬(4 * n + 2) % 4 = 3; omega) y
  have k1 := keep15 m c (⟨4 * n + 1, show 4 * n + 1 < 32 by omega⟩ : Fin cfg0.N) (by show ¬(4 * n + 1) % 4 = 3; omega) y
  have k0 := keep15 m c (⟨4 * n, show 4 * n < 32 by omega⟩ : Fin cfg0.N) (by show ¬(4 * n) % 4 = 3; omega) y
  refine (e _ _ _ _ (by show 4 * n + 3 - 1 = 4 * n + 2; omega)).trans (k2.trans ((e _ _ _ _ (by show 4 * n + 2 - 1 = 4 * n + 1; omega)).trans
    (k1.trans ((e _ _ _ _ (by show 4 * n + 1 - 1 = 4 * n; omega)).trans (k0.trans (e _ _ _ _ ?_))))))
  show 4 * n - 1 = 4 * (n - 1) + 3
  omega

/-- The loss: the first tile starts it, -/
theorem l_first (c : Dev nD) (n : Fin 8) (h : n.val % 8 = 0) (y : S8x128.Idx) : lAt m c n.val n.isLt y = 0 + lAdd m c n y := by
  rw [← al_last]
  have hv : (lastq n.val n.isLt).val = 4 * n.val + 3 := rfl
  exact lossC m c _ (by omega) (by omega) (by omega) (by omega) y

/-- and the others add to it; -/
theorem l_next (c : Dev nD) (n : Fin 8) (h : ¬n.val % 8 = 0) (y : S8x128.Idx) :
    lAt m c n.val n.isLt y = lAt m c (n.val - 1) (Nat.lt_of_le_of_lt (Nat.sub_le _ _) n.isLt) y + lAdd m c n y := by
  rw [← al_last, ← back13 m c n.val n.isLt (by omega) y]
  have hv : (lastq n.val n.isLt).val = 4 * n.val + 3 := rfl
  by_cases h4 : n.val % 4 = 0
  · exact lossE m c _ (by omega) (by omega) (by omega) (by omega) y
  · exact lossD m c _ (by omega) (by omega) (by omega) (by omega) y

/-- at its last tile it is the sum over the tokens. -/
theorem l_sum (c : Dev nD) (n : Fin 8) (h : n.val % 8 = 7) (y : S8x128.Idx) : lAt m c n.val n.isLt y = ∑ r : Fin 4096, lRow (args m c) r := by
  refine (Pipeline.eq_sum_fin_of_reset_step_apply_of_flush (fun k h => lAt m c k h) 8 (fun _ => 0) (fun k => lAdd m c k)
    (fun k h y => l_first m c k h y) (fun k h y => l_next m c k h y) n h y).trans ?_
  rw [zero_add]
  refine Fin.sum_mul_add_congr fun s r hl => ?_
  refine congrArg (fun t : Fin 4096 => lRow (args m c) t) (Fin.ext ?_)
  show 512 * (8 * (n.val / 8) + s.val) + r.val = s.val * 512 + r.val
  omega

/-- The sequence's block: the first tile starts it, -/
theorem b_first (c : Dev nD) (n : Fin 8) (h : n.val % 4 = 0) (y : S1x8x1024.Idx) : bAt m c n.val n.isLt y = 0 + bAdd m c n y := by
  rw [← ab_last]
  have hv : (lastq n.val n.isLt).val = 4 * n.val + 3 := rfl
  by_cases h4 : (lastq n.val n.isLt).val < 4
  · exact accbC m c _ (by omega) (by omega) h4 (by omega) y
  · exact accbE m c _ (by omega) (by omega) h4 (by omega) y

/-- and the others add to it; -/
theorem b_next (c : Dev nD) (n : Fin 8) (h : ¬n.val % 4 = 0) (y : S1x8x1024.Idx) :
    bAt m c n.val n.isLt y = bAt m c (n.val - 1) (Nat.lt_of_le_of_lt (Nat.sub_le _ _) n.isLt) y + bAdd m c n y := by
  rw [← ab_last, ← back14 m c n.val n.isLt (by omega) y]
  have hv : (lastq n.val n.isLt).val = 4 * n.val + 3 := rfl
  exact accbD m c _ (by omega) (by omega) (by omega) (by omega) y

/-- at its last tile it is the sum over the tokens. -/
theorem b_sum (c : Dev nD) (n : Fin 8) (h : n.val % 4 = 3) (y : S1x8x1024.Idx) : bAt m c n.val n.isLt y = ∑ s : Fin 2048, bRow (args m c) (tok ⟨n.val / 4, by omega⟩ s) (y 1) (y 2) := by
  refine (Pipeline.eq_sum_fin_of_reset_step_apply_of_flush (fun k h => bAt m c k h) 4 (fun _ => 0) (fun k => bAdd m c k)
    (fun k h y => b_first m c k h y) (fun k h y => b_next m c k h y) n h y).trans ?_
  rw [zero_add]
  refine Fin.sum_mul_add_congr fun s r hl => ?_
  refine congrArg (fun t : Fin 4096 => bRow (args m c) t (y 1) (y 2)) (Fin.ext ?_)
  show 512 * (4 * (n.val / 4) + s.val) + r.val = 2048 * (n.val / 4) + (s.val * 512 + r.val)
  omega

/-- The gains' block: the first tile starts it, -/
theorem g_first (c : Dev nD) (n : Fin 8) (h : n.val % 8 = 0) (y : S8x1024.Idx) : gAt m c n.val n.isLt y = 0 + gAdd m c n y := by
  rw [← ag_last]
  have hv : (lastq n.val n.isLt).val = 4 * n.val + 3 := rfl
  exact accgC m c _ (by omega) (by omega) (by omega) (by omega) y

/-- and the others add to it; -/
theorem g_next (c : Dev nD) (n : Fin 8) (h : ¬n.val % 8 = 0) (y : S8x1024.Idx) :
    gAt m c n.val n.isLt y = gAt m c (n.val - 1) (Nat.lt_of_le_of_lt (Nat.sub_le _ _) n.isLt) y + gAdd m c n y := by
  rw [← ag_last, ← back15 m c n.val n.isLt (by omega) y]
  have hv : (lastq n.val n.isLt).val = 4 * n.val + 3 := rfl
  by_cases h4 : n.val % 4 = 0
  · exact accgE m c _ (by omega) (by omega) (by omega) (by omega) y
  · exact accgD m c _ (by omega) (by omega) (by omega) (by omega) y

/-- at its last tile it is the sum over the tokens. -/
theorem g_sum (c : Dev nD) (n : Fin 8) (h : n.val % 8 = 7) (y : S8x1024.Idx) : gAt m c n.val n.isLt y = ∑ r : Fin 4096, gRow (args m c) r (y 0) (y 1) := by
  refine (Pipeline.eq_sum_fin_of_reset_step_apply_of_flush (fun k h => gAt m c k h) 8 (fun _ => 0) (fun k => gAdd m c k)
    (fun k h y => g_first m c k h y) (fun k h y => g_next m c k h y) n h y).trans ?_
  rw [zero_add]
  refine Fin.sum_mul_add_congr fun s r hl => ?_
  refine congrArg (fun t : Fin 4096 => gRow (args m c) t (y 0) (y 1)) (Fin.ext ?_)
  show 512 * (8 * (n.val / 8) + s.val) + r.val = s.val * 512 + r.val
  omega

end Cert.FwdIdeal.Value

end
-- ==== Proof.FwdRef.lean ====
/-
  The reference at a token: its arrays in terms of the rows' forms.
-/
module

public import proofs.«01_k».proof.Defs
public import proofs.«01_k».proof.Proof.Gen.FwdRefIdeal.Read
public import proofs.«01_k».proof.Proof.FwdMath
public import Idealize.ShloMosaic.Lib.Pipeline.ReadBack
public import Idealize.ShloMosaic.Lib.Pipeline.ValueKit

@[expose] public section

set_option maxRecDepth 16384

noncomputable section

namespace Cert.FwdRef

open Cert.FwdRefIdeal Cert.FwdRefIdeal.Gen Cert.FwdRefIdeal.Read
open Idealize.ShloMosaic Idealize.ShloMosaic.TcCoe Idealize.SL.Sem
open Cert.FfnForm Cert.FwdFlat Cert.FfnMath Cert.FwdMath

/-- A sum over the first two axes of three, at an index. -/
theorem reduce01 {n0 n1 n2 : ℕ} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  refine congrArg (init + ·) ?_
  rw [← Fintype.sum_prod_type']
  refine Finset.sum_filter_eq_sum_of_fiber _ (fun p : Fin n0 × Fin n1 => ix3 p.1 p.2 j)
    (fun p q e => Prod.ext (congrFun e 0) (congrFun e 1)) (fun i => ?_) v
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨p, rfl⟩
    funext b
    apply Fin.ext
    match b with
    | ⟨0, _⟩ => rfl

/-- A sum over sequences and places is the sum over tokens. -/
theorem sum_tok (f : Fin 4096 → EReal) : (∑ b : Fin 2, ∑ s : Fin 2048, f (tok b s)) = ∑ r : Fin 4096, f r :=
  Fin.sum_mul_add_congr fun b s hl => congrArg f (Fin.ext (by simp only; omega))

/-- A token is its place in its sequence. -/
theorem tok_div (r : Fin 4096) (h h') : tok ⟨r.val / 2048, h⟩ ⟨r.val % 2048, h'⟩ = r :=
  Fin.ext (by simp only; omega)

variable (A : Args)

/-- The cotangent of the normalized row. -/
def dnF (r : Fin 4096) : Row := fun k => (dyR A r k * gateR A r k) * gpR A k

/-- The feed-forward half's cotangent by the chain rule. -/
theorem dfR_eq (r : Fin 4096) (d : Fin 1024) : dfR A r d
    = (dnF A r d * rinv (fR A r) + fR A r d * qOf (dnF A r) (fR A r)) + qOf (dnF A r) (fR A r) * fR A r d := by
  unfold dfR dfOf
  rw [nbwd_eq]
  rfl

/-- The gate's argument, -/
theorem v2 (y : S2x2048x2816.Idx) :
    val_main_v2 (F := Ideal) A.h A.wg y = aR A (tok (y 0) (y 1)) (y 2) := by
  pointwise [val_main_v2, val_main_v1, val_main_v0, aR]
  all_goals blk_point []

/-- the other factor, -/
theorem v3 (y : S2x2048x2816.Idx) :
    val_main_v3 (F := Ideal) A.h A.wu y = bR A (tok (y 0) (y 1)) (y 2) := by
  pointwise [val_main_v3, val_main_v1, val_main_v0, bR]
  all_goals blk_point []

/-- the inner activation, -/
theorem v5 (y : S2x2048x2816.Idx) :
    val_main_v5 (F := Ideal) A.h A.wg A.wu y = finR A (tok (y 0) (y 1)) (y 2) := by
  unfold finR finOf
  rw [sigm_eq]
  pointwise [val_main_v5, val_main_v4, val_main_call0_v5, val_main_call0_v4, val_main_call0_v3, val_main_call0_v2, val_main_call0_v1, val_main_call0_v0, val_main_call0_cst, val_main_call0_cst_0, v2 A, v3 A]

/-- and the down projection. -/
theorem v6 (y : S2x2048x1024.Idx) :
    val_main_v6 (F := Ideal) A.h A.wg A.wu A.wd y = fR A (tok (y 0) (y 1)) (y 2) := by
  pointwise [val_main_v6, v5 A, fR]
  all_goals blk_point []

/-- Its mean square, -/
theorem v17 (y : S2x2048x1.Idx) :
    val_main_v17 (F := Ideal) A.h A.wg A.wu A.wd y = ms (fR A (tok (y 0) (y 1))) := by
  pointwise [val_main_v17, val_main_v16, val_main_v15, val_main_v14, val_main_v13, val_main_v12, val_main_v11, val_main_cst, val_main_cst_0, val_main_cst_1, val_main_cst_2, ms, v6 A]
  all_goals blk_point []

/-- its reciprocal root, -/
theorem v18 (y : S2x2048x1.Idx) :
    val_main_v18 (F := Ideal) A.h A.wg A.wu A.wd y = rinv (fR A (tok (y 0) (y 1))) := by
  pointwise [val_main_v18, v17 A, rinv, ms]
  all_goals blk_point []

/-- its normalized row, -/
theorem v23 (y : S2x2048x1024.Idx) :
    val_main_v23 (F := Ideal) A.h A.wg A.wu A.wd y = nrm (fR A (tok (y 0) (y 1))) (y 2) := by
  pointwise [val_main_v23, val_main_v22, v18 A, v6 A, nrm]
  all_goals blk_point []

/-- with the gains. -/
theorem v26 (y : S2x2048x1024.Idx) :
    val_main_v26 (F := Ideal) A.h A.gp A.wg A.wu A.wd y = nrm (fR A (tok (y 0) (y 1))) (y 2) * gpR A (y 2) := by
  pointwise [val_main_v26, val_main_v25, val_main_v24, val_main_v9, v23 A, gpR]
  all_goals blk_point []

/-- The error, -/
theorem v30 (y : S2x2048x1024.Idx) :
    val_main_v30 (F := Ideal) A.h A.tg A.x A.mod A.gp A.wg A.wu A.wd y = erR A (tok (y 0) (y 1)) (y 2) := by
  pointwise [val_main_v30, val_main_v29, val_main_v28, val_main_v27, val_main_v10, val_main_v8, val_main_v7, v26 A, erR, erOf, xR, tR, gateR, gpR]
  all_goals blk_point []

/-- the output's cotangent, -/
theorem v44 (y : S2x2048x1024.Idx) :
    val_main_v44 (F := Ideal) A.h A.tg A.x A.mod A.gp A.wg A.wu A.wd y = dyR A (tok (y 0) (y 1)) (y 2) := by
  refine Eq.trans ?_ (dy_eq (erR A (tok (y 0) (y 1)) (y 2)))
  pointwise [val_main_v44, val_main_v43, val_main_v42, val_main_v41, val_main_v40, val_main_v39, val_main_v33, val_main_v32, val_main_cst_3, val_main_cst_8, val_main_cst_9, val_main_cst_10, v30 A]

/-- times the gate, -/
theorem v46 (y : S2x2048x1024.Idx) :
    val_main_v46 (F := Ideal) A.h A.tg A.x A.mod A.gp A.wg A.wu A.wd y = dyR A (tok (y 0) (y 1)) (y 2) * gateR A (tok (y 0) (y 1)) (y 2) := by
  refine Eq.trans ?_ (mul_comm (gateR A (tok (y 0) (y 1)) (y 2)) (dyR A (tok (y 0) (y 1)) (y 2)))
  pointwise [val_main_v46, val_main_v45, val_main_v8, v44 A, gateR]
  all_goals blk_point []

/-- and with the gains. -/
theorem v54 (y : S2x2048x1024.Idx) :
    val_main_v54 (F := Ideal) A.h A.tg A.x A.mod A.gp A.wg A.wu A.wd y = dnF A (tok (y 0) (y 1)) (y 2) := by
  pointwise [val_main_v54, val_main_v53, val_main_v24, val_main_v9, v46 A, dnF, gpR]
  all_goals blk_point []

/-- What the root adds, -/
theorem v63 (y : S2x2048x1.Idx) :
    val_main_v63 (F := Ideal) A.h A.tg A.x A.mod A.gp A.wg A.wu A.wd y = qOf (dnF A (tok (y 0) (y 1))) (fR A (tok (y 0) (y 1))) := by
  pointwise [val_main_v63, val_main_v62, val_main_v61, val_main_v58, val_main_v57, val_main_v56, val_main_v21, val_main_v20, val_main_v19, val_main_cst_2, val_main_cst_14, val_main_cst_15, v54 A, v6 A, v18 A, v17 A, qOf]
  all_goals blk_point []

/-- spread over the row. -/
theorem v65 (y : S2x2048x1024.Idx) :
    val_main_v65 (F := Ideal) A.h A.tg A.x A.mod A.gp A.wg A.wu A.wd y = qOf (dnF A (tok (y 0) (y 1))) (fR A (tok (y 0) (y 1))) := by
  pointwise [val_main_v65, val_main_v64, val_main_cst_16, v63 A]
  exact Fin.sum_univ_one _

/-- The feed-forward half's cotangent. -/
theorem v69 (y : S2x2048x1024.Idx) :
    val_main_v69 (F := Ideal) A.h A.tg A.x A.mod A.gp A.wg A.wu A.wd y = dfR A (tok (y 0) (y 1)) (y 2) := by
  refine Eq.trans ?_ (dfR_eq A (tok (y 0) (y 1)) (y 2)).symm
  pointwise [val_main_v69, val_main_v68, val_main_v67, val_main_v66, val_main_v60, val_main_v59, v65 A, v6 A, v18 A, v54 A]
  all_goals blk_point []

/-- The results: the gate's arguments by quarter, -/
theorem v77 (y : S4x4096x704.Idx) :
    val_main_v77 (F := Ideal) A.h A.wg y = aR A (y 1) (hid (y 0) (y 2)) := by
  pointwise [val_main_v77, val_main_v76, val_main_v75, v2 A]
  refine congrArg₂ (aR A) (tok_div (y 1) _ _) (Fin.ext ?_)
  first | omega | (dsimp only; omega) | (simp; omega)

/-- the other factors, -/
theorem v80 (y : S4x4096x704.Idx) :
    val_main_v80 (F := Ideal) A.h A.wu y = bR A (y 1) (hid (y 0) (y 2)) := by
  pointwise [val_main_v80, val_main_v79, val_main_v78, v3 A]
  refine congrArg₂ (bR A) (tok_div (y 1) _ _) (Fin.ext ?_)
  first | omega | (dsimp only; omega) | (simp; omega)

/-- the inner activations, -/
theorem v83 (y : S4x4096x704.Idx) :
    val_main_v83 (F := Ideal) A.h A.wg A.wu y = finR A (y 1) (hid (y 0) (y 2)) := by
  pointwise [val_main_v83, val_main_v82, val_main_v81, v5 A]
  refine congrArg₂ (finR A) (tok_div (y 1) _ _) (Fin.ext ?_)
  first | omega | (dsimp only; omega) | (simp; omega)

/-- the output's cotangents, -/
theorem v84 (y : S4096x1024.Idx) :
    val_main_v84 (F := Ideal) A.h A.tg A.x A.mod A.gp A.wg A.wu A.wd y = dyR A (y 0) (y 1) := by
  pointwise [val_main_v84, v44 A]
  exact congrFun (congrArg (dyR A) (tok_div (y 0) _ _)) (y 1)

/-- the feed-forward half's, -/
theorem v86 (y : S4096x1024.Idx) :
    val_main_v86 (F := Ideal) A.h A.tg A.x A.mod A.gp A.wg A.wu A.wd y = dfR A (y 0) (y 1) := by
  pointwise [val_main_v86, val_main_v85, v69 A]
  exact congrFun (congrArg (dfR A) (tok_div (y 0) _ _)) (y 1)

/-- the loss, -/
theorem v87 (y : S8x128.Idx) :
    val_main_v87 (F := Ideal) A.h A.tg A.x A.mod A.gp A.wg A.wu A.wd y = ∑ r : Fin 4096, lRow A r := by
  have e : ∀ i : S_.Idx, val_main_v37 (F := Ideal) A.h A.tg A.x A.mod A.gp A.wg A.wu A.wd i = ∑ r : Fin 4096, Ideal.div (∑ d : Fin 1024, erR A r d * erR A r d) cN := by
    intro i
    rw [val_main_v37_apply, show (val_main_cst_6 (F := Ideal)) _ = (0 : EReal) from Ideal.ofBits_zero_f32, zero_add, ValueIdx.sum_idx2,
      ← sum_tok fun r => Ideal.div (∑ d : Fin 1024, erR A r d * erR A r d) cN]
    refine Finset.sum_congr rfl fun b _ => Finset.sum_congr rfl fun s _ => ?_
    pointwise [val_main_v36, val_main_v35, val_main_v34, val_main_v31, val_main_cst_4, val_main_cst_5, v30 A]
  unfold lRow
  rw [← loss_eq]
  pointwise [val_main_v87, val_main_v38, val_main_cst_7, e]

/-- the gate's gradients by sequence -/
theorem v71 (y : S2x8x1024.Idx) :
    val_main_v71 (F := Ideal) A.h A.tg A.x A.mod A.gp A.wg A.wu A.wd y = ∑ s : Fin 2048, bRow A (tok (y 0) s) (y 1) (y 2) := by
  pointwise [val_main_v71, val_main_v70, val_main_v49, val_main_v48, val_main_v47, val_main_cst_11, val_main_cst_17, v44 A, v26 A, bRow]
  by_cases h0 : (y 1 : ℕ) = 0
  · rw [dif_pos (by omega)]; simp only [h0, if_true]
  · rw [dif_neg (by omega)]; simp only [h0, if_false, Finset.sum_const_zero]

/-- The gains' gradient, summed over the tokens, -/
theorem v51 (d : Fin 1024) :
    val_main_v51 (F := Ideal) A.h A.tg A.x A.mod A.gp A.wg A.wu A.wd (ix1 d) = ∑ r : Fin 4096, (dyR A r d * gateR A r d) * nrm (fR A r) d := by
  unfold val_main_v51
  rw [← sum_tok fun r => (dyR A r d * gateR A r d) * nrm (fR A r) d]
  refine (reduce01 reducesTo_S2x2048x1024_S1024_d0_1 _ _ d).trans ?_
  rw [show (val_main_cst_12 (F := Ideal)) _ = (0 : EReal) from Ideal.ofBits_zero_f32, zero_add]
  refine Finset.sum_congr rfl fun b _ => Finset.sum_congr rfl fun s _ => ?_
  pointwise [val_main_v50, v46 A, v23 A]
  exact mul_comm _ _

/-- and over nothing more. -/
theorem v55 (d : Fin 1024) :
    val_main_v55 (F := Ideal) A.h A.tg A.x A.mod A.gp A.wg A.wu A.wd (ix1 d) = ∑ r : Fin 4096, (dyR A r d * gateR A r d) * nrm (fR A r) d := by
  unfold val_main_v55
  refine (reduce01 reducesTo_S1x1x1024_S1024_d0_1 _ _ d).trans ?_
  rw [show (val_main_cst_13 (F := Ideal)) _ = (0 : EReal) from Ideal.ofBits_zero_f32, zero_add, ← v51 A d]
  simp only [Fin.sum_univ_one]
  pointwise [val_main_v52]

/-- and the gains' block. -/
theorem v74 (y : S8x1024.Idx) :
    val_main_v74 (F := Ideal) A.h A.tg A.x A.mod A.gp A.wg A.wu A.wd y = ∑ r : Fin 4096, gRow A r (y 0) (y 1) := by
  pointwise [val_main_v74, val_main_v73, val_main_v72, val_main_cst_18, v55 A, gRow]
  by_cases h0 : (y 0 : ℕ) = 0
  · rw [dif_pos (by omega)]; simp only [h0, if_true]
  · rw [dif_neg (by omega)]; simp only [h0, if_false, Finset.sum_const_zero]

end Cert.FwdRef

end
-- ==== Proof.FwdValue.lean ====
/-
  The feed-forward half with the loss (`Fwd`): the arrays after the run are the reference's.
-/
module

public import proofs.«01_k».proof.Proof.FwdSum
public import proofs.«01_k».proof.Proof.FwdRef

@[expose] public section

set_option maxRecDepth 16384

noncomputable section

namespace Cert.FwdIdeal.Value

open Cert.FwdIdeal Cert.FwdIdeal.Gen Idealize.ShloMosaic Idealize.ShloMosaic.TcCoe Idealize.SL.Sem
open Idealize.ShloMosaic.Pipeline (Dat)
open Cert.FfnForm Cert.FwdFlat

variable (m : (ℓ : Loc nD τ sig) → Buf (Elt Ideal) ℓ)

/-- Where a block's element lies in its array. -/
theorem emb8 (t : Fin cfg0.N) (y : S1x512x704.Idx) : ((cfg0.win 8).blk t).view.emb y = ix3 (qtr t) (row t (y 1)) (y 2) := by
  blk_ext [idx t, row, qtr]
theorem emb9 (t : Fin cfg0.N) (y : S1x512x704.Idx) : ((cfg0.win 9).blk t).view.emb y = ix3 (qtr t) (row t (y 1)) (y 2) := by
  blk_ext [idx t, row, qtr]
theorem emb10 (t : Fin cfg0.N) (y : S1x512x704.Idx) : ((cfg0.win 10).blk t).view.emb y = ix3 (qtr t) (row t (y 1)) (y 2) := by
  blk_ext [idx t, row, qtr]
theorem emb11 (t : Fin cfg0.N) (y : S512x1024.Idx) : ((cfg0.win 11).blk t).view.emb y = ix2 (row t (y 0)) (y 1) := by
  blk_ext [idx t, row, qtr]
theorem emb12 (t : Fin cfg0.N) (y : S512x1024.Idx) : ((cfg0.win 12).blk t).view.emb y = ix2 (row t (y 0)) (y 1) := by
  blk_ext [idx t, row, qtr]
theorem emb13 (t : Fin cfg0.N) (y : S8x128.Idx) : ((cfg0.win 13).blk t).view.emb y = ix2 (y 0) (y 1) := by
  blk_ext [idx t]
theorem emb14 (t : Fin cfg0.N) (y : S1x8x1024.Idx) :
    ((cfg0.win 14).blk t).view.emb y = ix3 (⟨t.val / 16, by have := t.isLt; have : t.val < 32 := this; omega⟩ : Fin 2) (y 1) (y 2) := by
  blk_ext [idx t]
theorem emb15 (t : Fin cfg0.N) (y : S8x1024.Idx) : ((cfg0.win 15).blk t).view.emb y = ix2 (y 0) (y 1) := by
  blk_ext [idx t]

/-- The gate's arguments after the run, -/
theorem whole8 (c : Dev nD) : (dats m 0 c).arrAt 8 cfg0.N
    = Cert.FwdRefIdeal.Read.val_main_v77 (F := Ideal) (args m c).h (args m c).wg := by
  refine (dats m 0 c).arrAt_eq_of_covers 8 _ (by decide +kernel) fun t hf y => ?_
  blk_simp
  rw [after0_8]
  refine Eq.trans ?_ (congrArg (Cert.FwdRefIdeal.Read.val_main_v77 (F := Ideal) (args m c).h (args m c).wg) (emb8 t y)).symm
  refine Eq.trans ?_ (Cert.FwdRef.v77 (args m c) _).symm
  exact (out8 m c t y).trans (ta_eq m c t (y 1) (y 2))

/-- the other factors, -/
theorem whole9 (c : Dev nD) : (dats m 0 c).arrAt 9 cfg0.N
    = Cert.FwdRefIdeal.Read.val_main_v80 (F := Ideal) (args m c).h (args m c).wu := by
  refine (dats m 0 c).arrAt_eq_of_covers 9 _ (by decide +kernel) fun t hf y => ?_
  blk_simp
  rw [after0_9]
  refine Eq.trans ?_ (congrArg (Cert.FwdRefIdeal.Read.val_main_v80 (F := Ideal) (args m c).h (args m c).wu) (emb9 t y)).symm
  refine Eq.trans ?_ (Cert.FwdRef.v80 (args m c) _).symm
  exact (out9 m c t y).trans (tb_eq m c t (y 1) (y 2))

/-- the inner activations, -/
theorem whole10 (c : Dev nD) : (dats m 0 c).arrAt 10 cfg0.N
    = Cert.FwdRefIdeal.Read.val_main_v83 (F := Ideal) (args m c).h (args m c).wg (args m c).wu := by
  refine (dats m 0 c).arrAt_eq_of_covers 10 _ (by decide +kernel) fun t hf y => ?_
  blk_simp
  rw [after0_10]
  refine Eq.trans ?_ (congrArg (Cert.FwdRefIdeal.Read.val_main_v83 (F := Ideal) (args m c).h (args m c).wg (args m c).wu) (emb10 t y)).symm
  refine Eq.trans ?_ (Cert.FwdRef.v83 (args m c) _).symm
  exact (out10 m c t y).trans (tc_eq m c t (y 1) (y 2))

/-- the output's cotangents, -/
theorem whole11 (c : Dev nD) : (dats m 0 c).arrAt 11 cfg0.N
    = Cert.FwdRefIdeal.Read.val_main_v84 (F := Ideal) (args m c).h (args m c).tg (args m c).x (args m c).mod (args m c).gp (args m c).wg (args m c).wu (args m c).wd := by
  refine (dats m 0 c).arrAt_eq_of_covers 11 _ (by decide +kernel) fun t hf y => ?_
  blk_simp
  rw [after0_11]
  refine Eq.trans ?_ (congrArg (Cert.FwdRefIdeal.Read.val_main_v84 (F := Ideal) (args m c).h (args m c).tg (args m c).x (args m c).mod (args m c).gp (args m c).wg (args m c).wu (args m c).wd) (emb11 t y)).symm
  refine Eq.trans ?_ (Cert.FwdRef.v84 (args m c) _).symm
  have h3 := (flush0_11 t).mp hf
  exact (out11 m c t h3 y).trans (congrFun (tdy_eq m c t h3 (y 0)) (y 1))

/-- the feed-forward half's, -/
theorem whole12 (c : Dev nD) : (dats m 0 c).arrAt 12 cfg0.N
    = Cert.FwdRefIdeal.Read.val_main_v86 (F := Ideal) (args m c).h (args m c).tg (args m c).x (args m c).mod (args m c).gp (args m c).wg (args m c).wu (args m c).wd := by
  refine (dats m 0 c).arrAt_eq_of_covers 12 _ (by decide +kernel) fun t hf y => ?_
  blk_simp
  rw [after0_12]
  refine Eq.trans ?_ (congrArg (Cert.FwdRefIdeal.Read.val_main_v86 (F := Ideal) (args m c).h (args m c).tg (args m c).x (args m c).mod (args m c).gp (args m c).wg (args m c).wu (args m c).wd) (emb12 t y)).symm
  refine Eq.trans ?_ (Cert.FwdRef.v86 (args m c) _).symm
  have h3 := (flush0_12 t).mp hf
  exact (out12 m c t h3 y).trans (congrFun (tdf_eq m c t h3 (y 0)) (y 1))

/-- the loss, -/
theorem whole13 (c : Dev nD) : (dats m 0 c).arrAt 13 cfg0.N
    = Cert.FwdRefIdeal.Read.val_main_v87 (F := Ideal) (args m c).h (args m c).tg (args m c).x (args m c).mod (args m c).gp (args m c).wg (args m c).wu (args m c).wd := by
  refine (dats m 0 c).arrAt_eq_of_covers 13 _ (by decide +kernel) fun t hf y => ?_
  blk_simp
  rw [after0_13]
  refine Eq.trans ?_ (congrArg (Cert.FwdRefIdeal.Read.val_main_v87 (F := Ideal) (args m c).h (args m c).tg (args m c).x (args m c).mod (args m c).gp (args m c).wg (args m c).wu (args m c).wd) (emb13 t y)).symm
  refine Eq.trans ?_ (Cert.FwdRef.v87 (args m c) _).symm
  have h3 := (flush0_13 t).mp hf
  have ht : t.val < 32 := t.isLt
  have hn : t.val / 4 < 8 := by omega
  have e : t = lastq (t.val / 4) hn := Fin.ext (by show t.val = 4 * (t.val / 4) + 3; omega)
  have k : (outsAt0 m c t.val t.isLt).2.2.2.2.2.1 y = lAt m c (t.val / 4) hn y := by
    unfold lAt
    exact congrArg (fun p : Fin cfg0.N => (outsAt0 m c p.val p.isLt).2.2.2.2.2.1 y) e
  refine k.trans ((l_sum m c ⟨t.val / 4, hn⟩ (by show t.val / 4 % 8 = 7; omega) y).trans ?_)
  rfl

/-- the sequences' blocks -/
theorem whole14 (c : Dev nD) : (dats m 0 c).arrAt 14 cfg0.N
    = Cert.FwdRefIdeal.Read.val_main_v71 (F := Ideal) (args m c).h (args m c).tg (args m c).x (args m c).mod (args m c).gp (args m c).wg (args m c).wu (args m c).wd := by
  refine (dats m 0 c).arrAt_eq_of_covers 14 _ (by decide +kernel) fun t hf y => ?_
  blk_simp
  rw [after0_14]
  refine Eq.trans ?_ (congrArg (Cert.FwdRefIdeal.Read.val_main_v71 (F := Ideal) (args m c).h (args m c).tg (args m c).x (args m c).mod (args m c).gp (args m c).wg (args m c).wu (args m c).wd) (emb14 t y)).symm
  refine Eq.trans ?_ (Cert.FwdRef.v71 (args m c) _).symm
  have h3 := (flush0_14 t).mp hf
  have ht : t.val < 32 := t.isLt
  have hn : t.val / 4 < 8 := by omega
  have e : t = lastq (t.val / 4) hn := Fin.ext (by show t.val = 4 * (t.val / 4) + 3; omega)
  have k : (outsAt0 m c t.val t.isLt).2.2.2.2.2.2.1 y = bAt m c (t.val / 4) hn y := by
    unfold bAt
    exact congrArg (fun p : Fin cfg0.N => (outsAt0 m c p.val p.isLt).2.2.2.2.2.2.1 y) e
  refine k.trans ((b_sum m c ⟨t.val / 4, hn⟩ (by show t.val / 4 % 4 = 3; omega) y).trans ?_)
  refine Finset.sum_congr rfl fun s _ => congrArg (fun r : Fin 4096 => bRow (args m c) r (y 1) (y 2)) (Fin.ext ?_)
  show 2048 * (t.val / 4 / 4) + s.val = 2048 * (t.val / 16) + s.val
  omega

/-- and the gains' block: the reference's. -/
theorem whole15 (c : Dev nD) : (dats m 0 c).arrAt 15 cfg0.N
    = Cert.FwdRefIdeal.Read.val_main_v74 (F := Ideal) (args m c).h (args m c).tg (args m c).x (args m c).mod (args m c).gp (args m c).wg (args m c).wu (args m c).wd := by
  refine (dats m 0 c).arrAt_eq_of_covers 15 _ (by decide +kernel) fun t hf y => ?_
  blk_simp
  rw [after0_15]
  refine Eq.trans ?_ (congrArg (Cert.FwdRefIdeal.Read.val_main_v74 (F := Ideal) (args m c).h (args m c).tg (args m c).x (args m c).mod (args m c).gp (args m c).wg (args m c).wu (args m c).wd) (emb15 t y)).symm
  refine Eq.trans ?_ (Cert.FwdRef.v74 (args m c) _).symm
  have h3 := (flush0_15 t).mp hf
  have ht : t.val < 32 := t.isLt
  have hn : t.val / 4 < 8 := by omega
  have e : t = lastq (t.val / 4) hn := Fin.ext (by show t.val = 4 * (t.val / 4) + 3; omega)
  have k : (outsAt0 m c t.val t.isLt).2.2.2.2.2.2.2.1 y = gAt m c (t.val / 4) hn y := by
    unfold gAt
    exact congrArg (fun p : Fin cfg0.N => (outsAt0 m c p.val p.isLt).2.2.2.2.2.2.2.1 y) e
  refine k.trans ((g_sum m c ⟨t.val / 4, hn⟩ (by show t.val / 4 % 8 = 7; omega) y).trans ?_)
  rfl

/-- The reference's arguments. -/
abbrev rargs (m' : (ℓ : Loc Cert.FwdRefIdeal.nD Cert.FwdRefIdeal.τ Cert.FwdRefIdeal.sig) → Buf (Elt Ideal) ℓ) (c : Dev nD) : Args where
  h := m' ((c.tc : Thread Cert.FwdRefIdeal.nD Cert.FwdRefIdeal.τ).loc Cert.FwdRefIdeal.main_arg0)
  tg := m' ((c.tc : Thread Cert.FwdRefIdeal.nD Cert.FwdRefIdeal.τ).loc Cert.FwdRefIdeal.main_arg1)
  x := m' ((c.tc : Thread Cert.FwdRefIdeal.nD Cert.FwdRefIdeal.τ).loc Cert.FwdRefIdeal.main_arg2)
  mod := m' ((c.tc : Thread Cert.FwdRefIdeal.nD Cert.FwdRefIdeal.τ).loc Cert.FwdRefIdeal.main_arg3)
  gp := m' ((c.tc : Thread Cert.FwdRefIdeal.nD Cert.FwdRefIdeal.τ).loc Cert.FwdRefIdeal.main_arg4)
  wg := m' ((c.tc : Thread Cert.FwdRefIdeal.nD Cert.FwdRefIdeal.τ).loc Cert.FwdRefIdeal.main_arg5)
  wu := m' ((c.tc : Thread Cert.FwdRefIdeal.nD Cert.FwdRefIdeal.τ).loc Cert.FwdRefIdeal.main_arg6)
  wd := m' ((c.tc : Thread Cert.FwdRefIdeal.nD Cert.FwdRefIdeal.τ).loc Cert.FwdRefIdeal.main_arg7)

/-- Equal arguments, equal results. -/
theorem same11 {A B : Args} (h : A = B) : Cert.FwdRefIdeal.Read.val_main_v84 (F := Ideal) A.h A.tg A.x A.mod A.gp A.wg A.wu A.wd
    = Cert.FwdRefIdeal.Read.val_main_v84 (F := Ideal) B.h B.tg B.x B.mod B.gp B.wg B.wu B.wd := by
  rw [h]

theorem same12 {A B : Args} (h : A = B) : Cert.FwdRefIdeal.Read.val_main_v86 (F := Ideal) A.h A.tg A.x A.mod A.gp A.wg A.wu A.wd
    = Cert.FwdRefIdeal.Read.val_main_v86 (F := Ideal) B.h B.tg B.x B.mod B.gp B.wg B.wu B.wd := by
  rw [h]

theorem same13 {A B : Args} (h : A = B) : Cert.FwdRefIdeal.Read.val_main_v87 (F := Ideal) A.h A.tg A.x A.mod A.gp A.wg A.wu A.wd
    = Cert.FwdRefIdeal.Read.val_main_v87 (F := Ideal) B.h B.tg B.x B.mod B.gp B.wg B.wu B.wd := by
  rw [h]

theorem same14 {A B : Args} (h : A = B) : Cert.FwdRefIdeal.Read.val_main_v71 (F := Ideal) A.h A.tg A.x A.mod A.gp A.wg A.wu A.wd
    = Cert.FwdRefIdeal.Read.val_main_v71 (F := Ideal) B.h B.tg B.x B.mod B.gp B.wg B.wu B.wd := by
  rw [h]

theorem same15 {A B : Args} (h : A = B) : Cert.FwdRefIdeal.Read.val_main_v74 (F := Ideal) A.h A.tg A.x A.mod A.gp A.wg A.wu A.wd
    = Cert.FwdRefIdeal.Read.val_main_v74 (F := Ideal) B.h B.tg B.x B.mod B.gp B.wg B.wu B.wd := by
  rw [h]

end Cert.FwdIdeal.Value

namespace Cert.Proof

open Idealize.ShloMosaic Idealize.ShloMosaic.TcCoe Idealize.SL.Sem
open Cert.FwdIdeal.Value (args rargs)

set_option maxHeartbeats 800000 in
/-- The claim on the feed-forward half with the loss. -/
theorem fwd : Cert.algebraic_FwdIdeal_FwdRefIdeal := by
  pair_intro
  · run_from Cert.FwdIdeal.Value.run_blocks m g
  · have he : ∀ c, rargs m' c = args m c := fun c => by
      obtain ⟨h0, h1, h2, h3, h4, h5, h6, h7⟩ := hagree c
      show Cert.FwdFlat.Args.mk _ _ _ _ _ _ _ _ = Cert.FwdFlat.Args.mk _ _ _ _ _ _ _ _
      rw [h0, h1, h2, h3, h4, h5, h6, h7]
    run_from Cert.FwdRefIdeal.Value.run m' g'
    · refine (Cert.FwdRefIdeal.Read.val_main_v77_eq (F := Ideal) _ _).trans ?_
      exact (Cert.FwdIdeal.Value.whole8 m c).symm
    · refine (Cert.FwdRefIdeal.Read.val_main_v80_eq (F := Ideal) _ _).trans ?_
      exact (Cert.FwdIdeal.Value.whole9 m c).symm
    · refine (Cert.FwdRefIdeal.Read.val_main_v83_eq (F := Ideal) _ _ _).trans ?_
      exact (Cert.FwdIdeal.Value.whole10 m c).symm
    · refine (Cert.FwdRefIdeal.Read.val_main_v84_eq (F := Ideal) m' c).trans ?_
      refine (Cert.FwdIdeal.Value.same11 (he c)).trans ?_
      exact (Cert.FwdIdeal.Value.whole11 m c).symm
    · refine (Cert.FwdRefIdeal.Read.val_main_v86_eq (F := Ideal) m' c).trans ?_
      refine (Cert.FwdIdeal.Value.same12 (he c)).trans ?_
      exact (Cert.FwdIdeal.Value.whole12 m c).symm
    · refine (Cert.FwdRefIdeal.Read.val_main_v87_eq (F := Ideal) m' c).trans ?_
      refine (Cert.FwdIdeal.Value.same13 (he c)).trans ?_
      exact (Cert.FwdIdeal.Value.whole13 m c).symm
    · refine (Cert.FwdRefIdeal.Read.val_main_v71_eq (F := Ideal) m' c).trans ?_
      refine (Cert.FwdIdeal.Value.same14 (he c)).trans ?_
      exact (Cert.FwdIdeal.Value.whole14 m c).symm
    · refine (Cert.FwdRefIdeal.Read.val_main_v74_eq (F := Ideal) m' c).trans ?_
      refine (Cert.FwdIdeal.Value.same15 (he c)).trans ?_
      exact (Cert.FwdIdeal.Value.whole15 m c).symm

end Cert.Proof

end
-- ==== Proof.AdfValue.lean ====
/-
  The optimiser on a quarter of the feed-forward weights (`Adf`): every element of a block is updated on its own, by the reference's formula.
-/
module

public import proofs.«01_k».proof.Defs
public import proofs.«01_k».proof.Proof.Gen.AdfIdeal.Value
public import proofs.«01_k».proof.Proof.Gen.AdfRefIdeal.Read
public import Idealize.ShloMosaic.Lib.Pipeline.ValueKit

@[expose] public section

set_option maxRecDepth 16384

noncomputable section

namespace Cert.Proof

open Idealize.ShloMosaic Idealize.ShloMosaic.TcCoe Idealize.SL.Sem

/-- The claim on the optimiser, for a quarter of the feed-forward weights. -/
theorem adf : Cert.algebraic_AdfIdeal_AdfRefIdeal := by
  pair_intro
  · run_from Cert.AdfIdeal.Value.run m g
  · run_from Cert.AdfRefIdeal.Value.run m' g'
    · rfl
    · rfl
    · rfl

end Cert.Proof

end
-- ==== Proof.AdcValue.lean ====
/-
  The optimiser on a quarter of the conditioning's weights (`Adc`): every element of a block is updated on its own, by the reference's formula.
-/
module

public import proofs.«01_k».proof.Defs
public import proofs.«01_k».proof.Proof.Gen.AdcIdeal.Value
public import proofs.«01_k».proof.Proof.Gen.AdcRefIdeal.Read
public import Idealize.ShloMosaic.Lib.Pipeline.ValueKit

@[expose] public section

set_option maxRecDepth 16384

noncomputable section

namespace Cert.Proof

open Idealize.ShloMosaic Idealize.ShloMosaic.TcCoe Idealize.SL.Sem

/-- The claim on the optimiser, for a quarter of the conditioning's weights. -/
theorem adc : Cert.algebraic_AdcIdeal_AdcRefIdeal := by
  pair_intro
  · run_from Cert.AdcIdeal.Value.run m g
  · run_from Cert.AdcRefIdeal.Value.run m' g'
    · rfl
    · rfl
    · rfl

end Cert.Proof

end
-- ==== Proof.AdiValue.lean ====
/-
  The optimiser on a quarter of the input projection (`Adi`): every element of a block is updated on its own, by the reference's formula.
-/
module

public import proofs.«01_k».proof.Defs
public import proofs.«01_k».proof.Proof.Gen.AdiIdeal.Value
public import proofs.«01_k».proof.Proof.Gen.AdiRefIdeal.Read
public import Idealize.ShloMosaic.Lib.Pipeline.ValueKit

@[expose] public section

set_option maxRecDepth 16384

noncomputable section

namespace Cert.Proof

open Idealize.ShloMosaic Idealize.ShloMosaic.TcCoe Idealize.SL.Sem

/-- The claim on the optimiser, for a quarter of the input projection. -/
theorem adi : Cert.algebraic_AdiIdeal_AdiRefIdeal := by
  pair_intro
  · run_from Cert.AdiIdeal.Value.run m g
  · run_from Cert.AdiRefIdeal.Value.run m' g'
    · rfl
    · rfl
    · rfl

end Cert.Proof

end
-- ==== Proof.AdoValue.lean ====
/-
  The optimiser on a quarter of the output projection (`Ado`): every element of a block is updated on its own, by the reference's formula.
-/
module

public import proofs.«01_k».proof.Defs
public import proofs.«01_k».proof.Proof.Gen.AdoIdeal.Value
public import proofs.«01_k».proof.Proof.Gen.AdoRefIdeal.Read
public import Idealize.ShloMosaic.Lib.Pipeline.ValueKit

@[expose] public section

set_option maxRecDepth 16384

noncomputable section

namespace Cert.Proof

open Idealize.ShloMosaic Idealize.ShloMosaic.TcCoe Idealize.SL.Sem

/-- The claim on the optimiser, for a quarter of the output projection. -/
theorem ado : Cert.algebraic_AdoIdeal_AdoRefIdeal := by
  pair_intro
  · run_from Cert.AdoIdeal.Value.run m g
  · run_from Cert.AdoRefIdeal.Value.run m' g'
    · rfl
    · rfl
    · rfl

end Cert.Proof

end
-- ==== Proof.CondPre.lean ====
/-
  The precondition read: the conditioning's input and its cotangent are made of numbers, and so is the activated input.
-/
module

public import proofs.«01_k».proof.Pre_cond_finite
public import proofs.«01_k».proof.Proof.FfnPre
public import Idealize.ShloMosaic.Lib.Pipeline.ValueKit

@[expose] public section

noncomputable section

namespace Cert.CondPre

open Cert.Pre_cond_finite Idealize.ShloMosaic Cert.FfnForm Cert.FfnMath

instance facts : Cert.Pre_cond_finite.Facts where
  bcast_S_S16x1024 := by decide
  bcast_S_S16x1536 := by decide

variable (C : FVec Ideal S16x1024 .f32) (D : FVec Ideal S16x1536 .f32)

/-- The precondition over the arguments. -/
def Pre : Prop := (fn (F := Ideal) C D).1 = (fun _ => 1#1) ∧ (fn (F := Ideal) C D).2 = (fun _ => 1#1)

variable {C D}

theorem c_re (h : Pre C D) (i : S16x1024.Idx) : Re (C i) := Cert.FfnPre.re_of Cert.FfnPre.ninf32 Cert.FfnPre.inf32 (congrFun h.1 i)
theorem d_re (h : Pre C D) (i : S16x1536.Idx) : Re (D i) := Cert.FfnPre.re_of Cert.FfnPre.ninf32 Cert.FfnPre.inf32 (congrFun h.2 i)

/-- The activation of a number is a number. -/
theorem silu_re {a : EReal} (h : Re a) : Re (a * Ideal.div c1 (c1 + Ideal.exp (-a))) := by
  obtain ⟨r, rfl⟩ := h
  have e : Ideal.div c1 (c1 + Ideal.exp (-(r : EReal))) = sigm (r : EReal) := by
    rw [sigm_eq, c1_eq]; norm_num
  rw [e]
  exact Re.mul ⟨r, rfl⟩ (sigm_re r)

/-- A number less itself is nothing. -/
theorem sub_self_re {a : EReal} (h : Re a) : a - a = 0 := by
  obtain ⟨r, rfl⟩ := h
  rw [← EReal.coe_sub, sub_self, EReal.coe_zero]

end Cert.CondPre

end
-- ==== Proof.CondValue.lean ====
/-
  The gradient of the conditioning's weights (`Cond`): three blocks of columns, each the product of the activated input
  and its cotangents, both split into a coarse part and a remainder; over the reals the remainder of a number is zero.
-/
module

public import proofs.«01_k».proof.Defs
public import proofs.«01_k».proof.Proof.Gen.CondIdeal.Value
public import proofs.«01_k».proof.Proof.Gen.CondRefIdeal.Read
public import proofs.«01_k».proof.Proof.CondPre
public import Idealize.ShloMosaic.Lib.Pipeline.ValueKit

@[expose] public section

set_option maxRecDepth 16384

noncomputable section

namespace Cert.CondIdeal.Value

open Cert.CondIdeal Cert.CondIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at a point. -/
theorem idx : ∀ t : Fin cfg0.N, win0_0.index t = ![0, 0] ∧ win0_1.index t = ![0, t.val] ∧ win0_2.index t = ![0, t.val] ∧ t.val < 3 :=
  (by decide +kernel : ∀ t : Fin grid0.N, _)

/-- The payload at an index: the product, when the operands are numbers. -/
theorem pay (s : FVec Ideal S16x1024 .f32) (d : FVec Ideal S16x512 .f32) (hs : ∀ i, Cert.FfnMath.Re (s i)) (hd : ∀ i, Cert.FfnMath.Re (d i))
    (y : S1024x512.Idx) : k0_pay1 s d y = ∑ k : Fin 16, s (ix2 k (y 0)) * d (ix2 k (y 1)) := by
  pointwise [k0_pay1]
  simp only [Cert.CondPre.sub_self_re (hs _), Cert.CondPre.sub_self_re (hd _), mul_zero, zero_mul, Finset.sum_const_zero, add_zero, zero_add]

/-- The activated input, as the region finds it. -/
theorem act (c : Dev nD) : V m c main_v0 = Cert.CondRefIdeal.Read.val_main_v2 (F := Ideal) (m ((c : Thread nD τ).loc main_arg0)) := by
  rfl

/-- The precondition makes it an array of numbers. -/
theorem act_re (c : Dev nD) (h : Cert.CondPre.Pre (m ((c : Thread nD τ).loc main_arg0)) (m ((c : Thread nD τ).loc main_arg1)))
    (i : S16x1024.Idx) : Cert.FfnMath.Re (Cert.CondRefIdeal.Read.val_main_v2 (F := Ideal) (m ((c : Thread nD τ).loc main_arg0)) i) :=
  Cert.CondPre.silu_re (Cert.CondPre.c_re h i)

/-- The gradient's array after the run is the reference's. -/
theorem whole (c : Dev nD) (h : Cert.CondPre.Pre (m ((c : Thread nD τ).loc main_arg0)) (m ((c : Thread nD τ).loc main_arg1))) :
    (dats m 0 c).arrAt 2 cfg0.N
      = Cert.CondRefIdeal.Read.val_main_v7 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  refine (pay _ _ (fun i => ?_) (fun i => ?_) y).trans ?_
  · exact act_re m c h _
  · exact Cert.CondPre.d_re h _
  · pointwise [Cert.CondRefIdeal.Read.val_main_v7, Cert.CondRefIdeal.Read.val_main_v6]
    refine (Fin.sum_fin_congr fun k => mul_comm (_ : EReal) (_ : EReal)).trans ?_
    blk_point [iblk, act, idx t]

end Cert.CondIdeal.Value

namespace Cert.Proof

open Idealize.ShloMosaic Idealize.ShloMosaic.TcCoe Idealize.SL.Sem

/-- The claim on the gradient of the conditioning's weights. -/
theorem cond : Cert.algebraic_CondIdeal_CondRefIdeal_pre_cond_finite := by
  pair_intro
  · run_from Cert.CondIdeal.Value.run_blocks m g
  · run_from Cert.CondRefIdeal.Value.run m' g'
    refine (Cert.CondRefIdeal.Read.val_main_v7_eq (F := Ideal) _ _).trans ?_
    exact (Cert.CondIdeal.Value.whole m c (hpre c)).symm

end Cert.Proof

end
-- ==== Proof.lean ====
module

public import proofs.«01_k».proof.Defs
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpIdeal.Value
public import proofs.«01_k».proof.Proof.Gen.InpRefIdeal
public import proofs.«01_k».proof.Proof.Gen.InpRefIdeal.Run
public import proofs.«01_k».proof.Proof.Gen.InpRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Gff
public import proofs.«01_k».proof.Proof.Gen.Gff.Skeleton
public import proofs.«01_k».proof.Proof.Gen.Gff.Launch
public import proofs.«01_k».proof.Proof.Gen.Gff.Points
public import proofs.«01_k».proof.Proof.Gen.Gff.Frame
public import proofs.«01_k».proof.Proof.Gen.GffIdeal
public import proofs.«01_k».proof.Proof.Gen.GffIdeal.Skeleton
public import proofs.«01_k».proof.Proof.Gen.GffIdeal.Launch
public import proofs.«01_k».proof.Proof.Gen.GffIdeal.Points
public import proofs.«01_k».proof.Proof.Gen.GffIdeal.Frame
public import proofs.«01_k».proof.Proof.Gen.GffIdeal.Value
public import proofs.«01_k».proof.Proof.Gen.GffRefIdeal
public import proofs.«01_k».proof.Proof.Gen.GffRefIdeal.Run
public import proofs.«01_k».proof.Proof.Gen.GffRefIdeal.Read
public import proofs.«01_k».proof.Proof.Gen.Gout
public import proofs.«01_k».proof.Proof.Gen.Gout.Skeleton
public import proofs.«01_k».proof.Proof.Gen.Gout.Launch
public import proofs.«01_k».proof.Proof.Gen.Gout.Points
public import proofs.«01_k».proof.Proof.Gen.Gout.Frame
public import proofs.«01_k».proof.Proof.Gen.GoutIdeal
public import proofs.«01_k».proof.Proof.Gen.GoutIdeal.Skeleton
public import proofs.«01_k».proof.Proof.Gen.GoutIdeal.Launch
public import proofs.«01_k».proof.Proof.Gen.GoutIdeal.Points
public import proofs.«01_k».proof.Proof.Gen.GoutIdeal.Frame
public import proofs.«01_k».proof.Proof.Gen.GoutIdeal.Value
public import proofs.«01_k».proof.Proof.Gen.GoutRefIdeal
public import proofs.«01_k».proof.Proof.Gen.GoutRefIdeal.Run
public import proofs.«01_k».proof.Proof.Gen.GoutRefIdeal.Read
public import proofs.«01_k».proof.Proof.Gen.Gin
public import proofs.«01_k».proof.Proof.Gen.Gin.Skeleton
public import proofs.«01_k».proof.Proof.Gen.Gin.Launch
public import proofs.«01_k».proof.Proof.Gen.Gin.Points
public import proofs.«01_k».proof.Proof.Gen.Gin.Frame
public import proofs.«01_k».proof.Proof.Gen.GinIdeal
public import proofs.«01_k».proof.Proof.Gen.GinIdeal.Skeleton
public import proofs.«01_k».proof.Proof.Gen.GinIdeal.Launch
public import proofs.«01_k».proof.Proof.Gen.GinIdeal.Points
public import proofs.«01_k».proof.Proof.Gen.GinIdeal.Frame
public import proofs.«01_k».proof.Proof.Gen.GinIdeal.Value
public import proofs.«01_k».proof.Proof.Gen.GinRefIdeal
public import proofs.«01_k».proof.Proof.Gen.GinRefIdeal.Run
public import proofs.«01_k».proof.Proof.Gen.GinRefIdeal.Read
public import proofs.«01_k».proof.Proof.Gen.Adf
public import proofs.«01_k».proof.Proof.Gen.Adf.Skeleton
public import proofs.«01_k».proof.Proof.Gen.Adf.Launch
public import proofs.«01_k».proof.Proof.Gen.Adf.Points
public import proofs.«01_k».proof.Proof.Gen.Adf.Frame
public import proofs.«01_k».proof.Proof.Gen.AdfIdeal
public import proofs.«01_k».proof.Proof.Gen.AdfIdeal.Skeleton
public import proofs.«01_k».proof.Proof.Gen.AdfIdeal.Launch
public import proofs.«01_k».proof.Proof.Gen.AdfIdeal.Points
public import proofs.«01_k».proof.Proof.Gen.AdfIdeal.Frame
public import proofs.«01_k».proof.Proof.Gen.AdfIdeal.Value
public import proofs.«01_k».proof.Proof.Gen.AdfRefIdeal
public import proofs.«01_k».proof.Proof.Gen.AdfRefIdeal.Run
public import proofs.«01_k».proof.Proof.Gen.AdfRefIdeal.Read
public import proofs.«01_k».proof.Proof.Gen.Adc
public import proofs.«01_k».proof.Proof.Gen.Adc.Skeleton
public import proofs.«01_k».proof.Proof.Gen.Adc.Launch
public import proofs.«01_k».proof.Proof.Gen.Adc.Points
public import proofs.«01_k».proof.Proof.Gen.Adc.Frame
public import proofs.«01_k».proof.Proof.Gen.AdcIdeal
public import proofs.«01_k».proof.Proof.Gen.AdcIdeal.Skeleton
public import proofs.«01_k».proof.Proof.Gen.AdcIdeal.Launch
public import proofs.«01_k».proof.Proof.Gen.AdcIdeal.Points
public import proofs.«01_k».proof.Proof.Gen.AdcIdeal.Frame
public import proofs.«01_k».proof.Proof.Gen.AdcIdeal.Value
public import proofs.«01_k».proof.Proof.Gen.AdcRefIdeal
public import proofs.«01_k».proof.Proof.Gen.AdcRefIdeal.Run
public import proofs.«01_k».proof.Proof.Gen.AdcRefIdeal.Read
public import proofs.«01_k».proof.Proof.Gen.Adi
public import proofs.«01_k».proof.Proof.Gen.Adi.Skeleton
public import proofs.«01_k».proof.Proof.Gen.Adi.Launch
public import proofs.«01_k».proof.Proof.Gen.Adi.Points
public import proofs.«01_k».proof.Proof.Gen.Adi.Frame
public import proofs.«01_k».proof.Proof.Gen.AdiIdeal
public import proofs.«01_k».proof.Proof.Gen.AdiIdeal.Skeleton
public import proofs.«01_k».proof.Proof.Gen.AdiIdeal.Launch
public import proofs.«01_k».proof.Proof.Gen.AdiIdeal.Points
public import proofs.«01_k».proof.Proof.Gen.AdiIdeal.Frame
public import proofs.«01_k».proof.Proof.Gen.AdiIdeal.Value
public import proofs.«01_k».proof.Proof.Gen.AdiRefIdeal
public import proofs.«01_k».proof.Proof.Gen.AdiRefIdeal.Run
public import proofs.«01_k».proof.Proof.Gen.AdiRefIdeal.Read
public import proofs.«01_k».proof.Proof.Gen.Ado
public import proofs.«01_k».proof.Proof.Gen.Ado.Skeleton
public import proofs.«01_k».proof.Proof.Gen.Ado.Launch
public import proofs.«01_k».proof.Proof.Gen.Ado.Points
public import proofs.«01_k».proof.Proof.Gen.Ado.Frame
public import proofs.«01_k».proof.Proof.Gen.AdoIdeal
public import proofs.«01_k».proof.Proof.Gen.AdoIdeal.Skeleton
public import proofs.«01_k».proof.Proof.Gen.AdoIdeal.Launch
public import proofs.«01_k».proof.Proof.Gen.AdoIdeal.Points
public import proofs.«01_k».proof.Proof.Gen.AdoIdeal.Frame
public import proofs.«01_k».proof.Proof.Gen.AdoIdeal.Value
public import proofs.«01_k».proof.Proof.Gen.AdoRefIdeal
public import proofs.«01_k».proof.Proof.Gen.AdoRefIdeal.Run
public import proofs.«01_k».proof.Proof.Gen.AdoRefIdeal.Read
public import proofs.«01_k».proof.Proof.Gen.Cond
public import proofs.«01_k».proof.Proof.Gen.Cond.Skeleton
public import proofs.«01_k».proof.Proof.Gen.Cond.Launch
public import proofs.«01_k».proof.Proof.Gen.Cond.Points
public import proofs.«01_k».proof.Proof.Gen.Cond.Frame
public import proofs.«01_k».proof.Proof.Gen.CondIdeal
public import proofs.«01_k».proof.Proof.Gen.CondIdeal.Skeleton
public import proofs.«01_k».proof.Proof.Gen.CondIdeal.Launch
public import proofs.«01_k».proof.Proof.Gen.CondIdeal.Points
public import proofs.«01_k».proof.Proof.Gen.CondIdeal.Frame
public import proofs.«01_k».proof.Proof.Gen.CondIdeal.Value
public import proofs.«01_k».proof.Proof.Gen.CondRefIdeal
public import proofs.«01_k».proof.Proof.Gen.CondRefIdeal.Run
public import proofs.«01_k».proof.Proof.Gen.CondRefIdeal.Read
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdIdeal.Value
public import proofs.«01_k».proof.Proof.Gen.FwdRefIdeal
public import proofs.«01_k».proof.Proof.Gen.FwdRefIdeal.Run
public import proofs.«01_k».proof.Proof.Gen.FwdRefIdeal.Read
public import proofs.«01_k».proof.Proof.MixValue
public import proofs.«01_k».proof.Proof.GffValue
public import proofs.«01_k».proof.Proof.GoutValue
public import proofs.«01_k».proof.Proof.GinValue
public import proofs.«01_k».proof.Proof.FfnValue
public import proofs.«01_k».proof.Proof.FwdValue
public import proofs.«01_k».proof.Proof.AdfValue
public import proofs.«01_k».proof.Proof.AdcValue
public import proofs.«01_k».proof.Proof.AdiValue
public import proofs.«01_k».proof.Proof.AdoValue
public import proofs.«01_k».proof.Proof.CondValue
public import Idealize.ShloMosaic.Adequacy
public import Idealize.ShloMosaic.Init

@[expose] public section

noncomputable section

namespace Cert.Proof

open Idealize.ShloMosaic Idealize.SL.Sem Cert.Mix

/-- The reference of `Mix` is host code without semaphores: it ends with its arguments unchanged. -/
theorem frame_Mix : Cert.quiescent_MixRefIdeal := fun m ρ _ =>
  (θ_run Cert.MixRefIdeal.defs _ _).mono (fun r h => ⟨fun c => (h c).2.2.2.2, sem_eq_zero_of_no_sems (by decide) r.2⟩)
    (Cert.MixRefIdeal.Value.run (F := Ideal) m ρ)

/-- The reference of `Inp` is host code without semaphores: it ends with its arguments unchanged. -/
theorem frame_Inp : Cert.quiescent_InpRefIdeal := fun m ρ _ =>
  (θ_run Cert.InpRefIdeal.defs _ _).mono (fun r h => ⟨fun c => (h c).2.2.2.2, sem_eq_zero_of_no_sems (by decide) r.2⟩)
    (Cert.InpRefIdeal.Value.run (F := Ideal) m ρ)

/-- The reference of `Ffn` is host code without semaphores: it ends with its arguments unchanged. -/
theorem frame_Ffn : Cert.quiescent_FfnRefIdeal := fun m ρ _ =>
  (θ_run Cert.FfnRefIdeal.defs _ _).mono (fun r h => ⟨fun c => (h c).2.2.2.2.2.2, sem_eq_zero_of_no_sems (by decide) r.2⟩)
    (Cert.FfnRefIdeal.Value.run (F := Ideal) m ρ)

/-- The same where the precondition holds. -/
theorem frame_Ffn_pre : Cert.quiescent_FfnRefIdeal_pre_ffn_finite := fun m ρ _ =>
  (θ_run Cert.FfnRefIdeal.defs _ _).mono (fun r h => ⟨fun c => (h c).2.2.2.2.2.2, sem_eq_zero_of_no_sems (by decide) r.2⟩)
    (Cert.FfnRefIdeal.Value.run (F := Ideal) m ρ)

/-- The reference of `Gff` is host code without semaphores: it ends with its arguments unchanged. -/
theorem frame_Gff : Cert.quiescent_GffRefIdeal := fun m ρ _ =>
  (θ_run Cert.GffRefIdeal.defs _ _).mono (fun r h => ⟨fun c => (h c).2.2, sem_eq_zero_of_no_sems (by decide) r.2⟩)
    (Cert.GffRefIdeal.Value.run (F := Ideal) m ρ)

/-- The reference of `Gout` is host code without semaphores: it ends with its arguments unchanged. -/
theorem frame_Gout : Cert.quiescent_GoutRefIdeal := fun m ρ _ =>
  (θ_run Cert.GoutRefIdeal.defs _ _).mono (fun r h => ⟨fun c => (h c).2.2, sem_eq_zero_of_no_sems (by decide) r.2⟩)
    (Cert.GoutRefIdeal.Value.run (F := Ideal) m ρ)

/-- The reference of `Fwd` is host code without semaphores: it ends with its arguments unchanged. -/
theorem frame_Fwd : Cert.quiescent_FwdRefIdeal := fun m ρ _ =>
  (θ_run Cert.FwdRefIdeal.defs _ _).mono (fun r h => ⟨fun c => (h c).2.2.2.2.2.2.2.2, sem_eq_zero_of_no_sems (by decide) r.2⟩)
    (Cert.FwdRefIdeal.Value.run (F := Ideal) m ρ)

/-- The reference of `Gin` is host code without semaphores: it ends with its arguments unchanged. -/
theorem frame_Gin : Cert.quiescent_GinRefIdeal := fun m ρ _ =>
  (θ_run Cert.GinRefIdeal.defs _ _).mono (fun r h => ⟨fun c => (h c).2.2, sem_eq_zero_of_no_sems (by decide) r.2⟩)
    (Cert.GinRefIdeal.Value.run (F := Ideal) m ρ)

/-- The reference of `Adf` is host code without semaphores: it ends with its arguments unchanged. -/
theorem frame_Adf : Cert.quiescent_AdfRefIdeal := fun m ρ _ =>
  (θ_run Cert.AdfRefIdeal.defs _ _).mono (fun r h => ⟨fun c => (h c).2.2.2, sem_eq_zero_of_no_sems (by decide) r.2⟩)
    (Cert.AdfRefIdeal.Value.run (F := Ideal) m ρ)

/-- The reference of `Adc` is host code without semaphores: it ends with its arguments unchanged. -/
theorem frame_Adc : Cert.quiescent_AdcRefIdeal := fun m ρ _ =>
  (θ_run Cert.AdcRefIdeal.defs _ _).mono (fun r h => ⟨fun c => (h c).2.2.2, sem_eq_zero_of_no_sems (by decide) r.2⟩)
    (Cert.AdcRefIdeal.Value.run (F := Ideal) m ρ)

/-- The reference of `Adi` is host code without semaphores: it ends with its arguments unchanged. -/
theorem frame_Adi : Cert.quiescent_AdiRefIdeal := fun m ρ _ =>
  (θ_run Cert.AdiRefIdeal.defs _ _).mono (fun r h => ⟨fun c => (h c).2.2.2, sem_eq_zero_of_no_sems (by decide) r.2⟩)
    (Cert.AdiRefIdeal.Value.run (F := Ideal) m ρ)

/-- The reference of `Ado` is host code without semaphores: it ends with its arguments unchanged. -/
theorem frame_Ado : Cert.quiescent_AdoRefIdeal := fun m ρ _ =>
  (θ_run Cert.AdoRefIdeal.defs _ _).mono (fun r h => ⟨fun c => (h c).2.2.2, sem_eq_zero_of_no_sems (by decide) r.2⟩)
    (Cert.AdoRefIdeal.Value.run (F := Ideal) m ρ)

/-- The reference of `Cond` is host code without semaphores: it ends with its arguments unchanged. -/
theorem frame_Cond : Cert.quiescent_CondRefIdeal := fun m ρ _ =>
  (θ_run Cert.CondRefIdeal.defs _ _).mono (fun r h => ⟨fun c => (h c).2, sem_eq_zero_of_no_sems (by decide) r.2⟩)
    (Cert.CondRefIdeal.Value.run (F := Ideal) m ρ)

/-- The same where the precondition holds. -/
theorem frame_Cond_pre : Cert.quiescent_CondRefIdeal_pre_cond_finite := fun m ρ _ =>
  (θ_run Cert.CondRefIdeal.defs _ _).mono (fun r h => ⟨fun c => (h c).2, sem_eq_zero_of_no_sems (by decide) r.2⟩)
    (Cert.CondRefIdeal.Value.run (F := Ideal) m ρ)

theorem claim : Cert.Claim := ⟨Cert.Mix.Gen.facts, Cert.MixIdeal.Gen.facts, Cert.MixRefIdeal.Gen.facts, Cert.Inp.Gen.facts, Cert.InpIdeal.Gen.facts, Cert.InpRefIdeal.Gen.facts, Cert.Ffn.Gen.facts, Cert.FfnIdeal.Gen.facts, Cert.FfnRefIdeal.Gen.facts, Cert.Gff.Gen.facts, Cert.GffIdeal.Gen.facts, Cert.GffRefIdeal.Gen.facts, Cert.Gout.Gen.facts, Cert.GoutIdeal.Gen.facts, Cert.GoutRefIdeal.Gen.facts, Cert.Fwd.Gen.facts, Cert.FwdIdeal.Gen.facts, Cert.FwdRefIdeal.Gen.facts, Cert.Gin.Gen.facts, Cert.GinIdeal.Gen.facts, Cert.GinRefIdeal.Gen.facts, Cert.Adf.Gen.facts, Cert.AdfIdeal.Gen.facts, Cert.AdfRefIdeal.Gen.facts, Cert.Adc.Gen.facts, Cert.AdcIdeal.Gen.facts, Cert.AdcRefIdeal.Gen.facts, Cert.Adi.Gen.facts, Cert.AdiIdeal.Gen.facts, Cert.AdiRefIdeal.Gen.facts, Cert.Ado.Gen.facts, Cert.AdoIdeal.Gen.facts, Cert.AdoRefIdeal.Gen.facts, Cert.Cond.Gen.facts, Cert.CondIdeal.Gen.facts, Cert.CondRefIdeal.Gen.facts, Cert.FfnPre.facts, Cert.CondPre.facts, fun m ρ _ => Cert.Mix.Gen.frame m ρ,
    fun m ρ _ => Cert.MixIdeal.Gen.frame m ρ,
    frame_Mix,
    fun m ρ _ => Cert.Inp.Gen.frame m ρ,
    fun m ρ _ => Cert.InpIdeal.Gen.frame m ρ,
    frame_Inp,
    fun m ρ _ => Cert.Ffn.Gen.frame m ρ,
    fun m ρ _ => Cert.FfnIdeal.Gen.frame m ρ,
    fun m ρ _ => Cert.FfnIdeal.Gen.frame m ρ,
    frame_Ffn,
    frame_Ffn_pre,
    fun m ρ _ => Cert.Gff.Gen.frame m ρ,
    fun m ρ _ => Cert.GffIdeal.Gen.frame m ρ,
    frame_Gff,
    fun m ρ _ => Cert.Gout.Gen.frame m ρ,
    fun m ρ _ => Cert.GoutIdeal.Gen.frame m ρ,
    frame_Gout,
    fun m ρ _ => Cert.Fwd.Gen.frame m ρ,
    fun m ρ _ => Cert.FwdIdeal.Gen.frame m ρ,
    frame_Fwd,
    fun m ρ _ => Cert.Gin.Gen.frame m ρ,
    fun m ρ _ => Cert.GinIdeal.Gen.frame m ρ,
    frame_Gin,
    fun m ρ _ => Cert.Adf.Gen.frame m ρ,
    fun m ρ _ => Cert.AdfIdeal.Gen.frame m ρ,
    frame_Adf,
    fun m ρ _ => Cert.Adc.Gen.frame m ρ,
    fun m ρ _ => Cert.AdcIdeal.Gen.frame m ρ,
    frame_Adc,
    fun m ρ _ => Cert.Adi.Gen.frame m ρ,
    fun m ρ _ => Cert.AdiIdeal.Gen.frame m ρ,
    frame_Adi,
    fun m ρ _ => Cert.Ado.Gen.frame m ρ,
    fun m ρ _ => Cert.AdoIdeal.Gen.frame m ρ,
    frame_Ado,
    fun m ρ _ => Cert.Cond.Gen.frame m ρ,
    fun m ρ _ => Cert.CondIdeal.Gen.frame m ρ,
    fun m ρ _ => Cert.CondIdeal.Gen.frame m ρ,
    frame_Cond,
    frame_Cond_pre,
    trivial,
    trivial,
    trivial,
    trivial,
    trivial,
    trivial,
    trivial,
    trivial,
    trivial,
    trivial,
    trivial,
    trivial,
    Cert.Proof.mix,
    Cert.Proof.gff,
    Cert.Proof.gout,
    Cert.Proof.fwd,
    Cert.Proof.gin,
    Cert.Proof.adf,
    Cert.Proof.adc,
    Cert.Proof.adi,
    Cert.Proof.ado,
    Cert.Proof.ffn,
    Cert.Proof.cond⟩

end Cert.Proof

end
